-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_v30) = v3 c
          ∧ r.2.mem ((c.tc : Thread Cert.Reference2Ideal.nD Cert.Reference2Ideal.τ).loc Cert.Reference2Ideal.main_v71) = v4 c
          ∧ r.2.mem ((c.tc : Thread Cert.Reference2Ideal.nD Cert.Reference2Ideal.τ).loc Cert.Reference2Ideal.main_v78) = v5 c
          ∧ r.2.mem ((c.tc : Thread Cert.Reference2Ideal.nD Cert.Reference2Ideal.τ).loc Cert.Reference2Ideal.main_v66) = v6 c
          ∧ r.2.mem ((c.tc : Thread Cert.Reference2Ideal.nD Cert.Reference2Ideal.τ).loc Cert.Reference2Ideal.main_v38) = v7 c
          ∧ r.2.mem ((c.tc : Thread Cert.Reference2Ideal.nD Cert.Reference2Ideal.τ).loc Cert.Reference2Ideal.main_v69) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
-- ==== Pre_in_range.lean ====
abbrev S291 : Shape := ⟨1, ![291]⟩
abbrev S1 : Shape := ⟨1, ![1]⟩
abbrev S148992x1024 : Shape := ⟨2, ![148992, 1024]⟩
abbrev S32x1024x2048 : Shape := ⟨3, ![32, 1024, 2048]⟩
abbrev S32x1x1024 : Shape := ⟨3, ![32, 1, 1024]⟩
abbrev S32x1024x1024 : Shape := ⟨3, ![32, 1024, 1024]⟩
abbrev S_ : Shape := ⟨0, ![]⟩

class Facts : Prop where
  bcast_S_S291 : S_.BroadcastsInDim S291 (![] : Fin 0 → Fin S291.rank)
  reducesTo_S291_S_d0 : S291.ReducesTo [0] S_
  h_S_ : 0 < S_.numel

variable [Facts]

def fn {F : FTy → Type} [FloatOps F] (main_arg0 : IVec S291 32) (main_arg1 : IVec S1 32) (main_arg2 : FVec F S148992x1024 .bf16) (main_arg3 : FVec F S32x1024x2048 .f32) (main_arg4 : FVec F S32x1x1024 .f32) (main_arg5 : FVec F S32x1x1024 .f32) (main_arg6 : FVec F S32x1024x1024 .f32) (main_arg7 : FVec F S32x1x1024 .f32) : IVec S_ 1 :=
  let main_c : IVec S_ 32 := constantI S_ 32 0#32
  let main_v0 : IVec S291 32 := broadcastInDim S291 ![] bcast_S_S291 main_c
  let main_v1 : IVec S291 1 := cmpi .sge main_arg0 main_v0
  let main_c_0 : IVec S_ 32 := constantI S_ 32 32#32
  let main_v2 : IVec S291 32 := broadcastInDim S291 ![] bcast_S_S291 main_c_0
  let main_v3 : IVec S291 1 := cmpi .slt main_arg0 main_v2
  let main_v4 : IVec S291 1 := andi main_v1 main_v3
  let main_c_1 : IVec S_ 1 := constantI S_ 1 1#1
  let main_v5 : IVec S_ 1 := (fun x v => Host.reduce IntOp.andi x v reducesTo_S291_S_d0 h_S_) main_v4 main_c_1
  main_v5
-- ==== Kernel.lean ====
abbrev S291 : Shape := ⟨1, ![291]⟩
abbrev S1 : Shape := ⟨1, ![1]⟩
abbrev S148992x1024 : Shape := ⟨2, ![148992, 1024]⟩
abbrev S32x1024x2048 : Shape := ⟨3, ![32, 1024, 2048]⟩
abbrev S32x1x1024 : Shape := ⟨3, ![32, 1, 1024]⟩
abbrev S32x1024x1024 : Shape := ⟨3, ![32, 1024, 1024]⟩
abbrev S512x1024 : Shape := ⟨2, ![512, 1024]⟩
abbrev S1x1024x2048 : Shape := ⟨3, ![1, 1024, 2048]⟩
abbrev S1x1x1024 : Shape := ⟨3, ![1, 1, 1024]⟩
abbrev S1x1024x1024 : Shape := ⟨3, ![1, 1024, 1024]⟩
abbrev S1024x1024 : Shape := ⟨2, ![1024, 1024]⟩
abbrev S256x256 : Shape := ⟨2, ![256, 256]⟩
abbrev S1x1024x256 : Shape := ⟨3, ![1, 1024, 256]⟩
abbrev S1024x256 : Shape := ⟨2, ![1024, 256]⟩
abbrev S1024x128 : Shape := ⟨2, ![1024, 128]⟩
abbrev S1x1024 : Shape := ⟨2, ![1, 1024]⟩

abbrev nBuf : Space → Nat
  | .hbm => 7
  | .vmem => 17
  | .smem => 2
  | _ => 0

abbrev bufTy : (tb : Table) → Fin (tcTables nBuf tb) → BufTy
  | .hbm, ⟨0, _⟩ => ⟨S148992x1024, .bf16⟩
  | .hbm, ⟨1, _⟩ => ⟨S32x1024x2048, .f32⟩
  | .hbm, ⟨2, _⟩ => ⟨S32x1x1024, .f32⟩
  | .hbm, ⟨3, _⟩ => ⟨S32x1x1024, .f32⟩
  | .hbm, ⟨4, _⟩ => ⟨S32x1024x1024, .f32⟩
  | .hbm, ⟨5, _⟩ => ⟨S32x1x1024, .f32⟩
  | .hbm, ⟨6, _⟩ => ⟨S148992x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .smem, ⟨0, _⟩ => ⟨S291, .i32⟩
  | .local _ .smem, ⟨1, _⟩ => ⟨S1, .i32⟩
  | _, _ => ⟨S148992x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![291], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (v0 : BitVec 32) : Fin 1 → Nat :=
  let arg0 : BitVec 32 := BitVec.ofNat 32 (i 0).val
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let v4 : Index := Scalar.indexCast v3
  ![v4.toNat]

def k0_off3 (i : grid0.Coords) (v0 : BitVec 32) : Fin 1 → Nat :=
  let arg0 : BitVec 32 := BitVec.ofNat 32 (i 0).val
  let c1_i32_0 : BitVec 32 := 1#32
  let v6 : BitVec 32 := Scalar.subi arg0 c1_i32_0
  let c0_i32_1 : BitVec 32 := 0#32
  let v7 : BitVec 32 := Scalar.maxsi v6 c0_i32_1
  let c1_i32 : BitVec 32 := 1#32
  let v1 : BitVec 32 := Scalar.subi v0 c1_i32
  let c0_i32 : BitVec 32 := 0#32
  let v2 : BitVec 32 := Scalar.maxsi v1 c0_i32
  let v8 : BitVec 32 := Scalar.minsi v7 v2
  let v9 : Index := Scalar.indexCast v8
  ![v9.toNat]

def k0_chk1 (i : grid0.Coords) (v0 : BitVec 32) : Prop :=
  (∀ a, (k0_off2 i v0) a + S1.size a ≤ S291.size a) ∧
  (∀ a, (k0_off3 i v0) a + S1.size a ≤ S291.size a)
theorem k0_off2_inb : ∀ (i : grid0.Coords) (v0 : BitVec 32) (k0_hw1 : k0_chk1 i v0), ∀ a, (k0_off2 i v0) a + S1.size a ≤ S291.size a := fun i v0 k0_hw1 => k0_hw1.1
theorem k0_off3_inb : ∀ (i : grid0.Coords) (v0 : BitVec 32) (k0_hw1 : k0_chk1 i v0), ∀ a, (k0_off3 i v0) a + S1.size a ≤ S291.size a := fun i v0 k0_hw1 => k0_hw1.2

def k0_cond2 (i : grid0.Coords) (v0 : BitVec 32) : BitVec 1 :=
  let arg0 : BitVec 32 := BitVec.ofNat 32 (i 0).val
  let v16 : BitVec 1 := Scalar.cmpi .slt arg0 v0
  let v17 : BitVec 32 := Scalar.extui v16
  let c0_i32_4 : BitVec 32 := 0#32
  let v18 : BitVec 1 := Scalar.cmpi .ne v17 c0_i32_4
  v18

def k0_cond3 (i : grid0.Coords) (v0 : BitVec 32) : BitVec 1 :=
  let arg0 : BitVec 32 := BitVec.ofNat 32 (i 0).val
  let v19 : BitVec 1 := Scalar.cmpi .sge arg0 v0
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S291.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S291) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S291.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S291) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S291.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S291) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S291.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S291) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S291.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S291) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S291 : Shape := ⟨1, ![291]⟩
abbrev S1 : Shape := ⟨1, ![1]⟩
abbrev S148992x1024 : Shape := ⟨2, ![148992, 1024]⟩
abbrev S32x1024x2048 : Shape := ⟨3, ![32, 1024, 2048]⟩
abbrev S32x1x1024 : Shape := ⟨3, ![32, 1, 1024]⟩
abbrev S32x1024x1024 : Shape := ⟨3, ![32, 1024, 1024]⟩
abbrev S291x512x1024 : Shape := ⟨3, ![291, 512, 1024]⟩
abbrev S_ : Shape := ⟨0, ![]⟩
abbrev S1x512x1024 : Shape := ⟨3, ![1, 512, 1024]⟩
abbrev S512x1024 : Shape := ⟨2, ![512, 1024]⟩
abbrev S1x1024x2048 : Shape := ⟨3, ![1, 1024, 2048]⟩
abbrev S1024x2048 : Shape := ⟨2, ![1024, 2048]⟩
abbrev S512x2048 : Shape := ⟨2, ![512, 2048]⟩
abbrev S1x1x1024 : Shape := ⟨3, ![1, 1, 1024]⟩
abbrev S1x1024 : Shape := ⟨2, ![1, 1024]⟩
abbrev S1x1024x1024 : Shape := ⟨3, ![1, 1024, 1024]⟩
abbrev S1024x1024 : Shape := ⟨2, ![1024, 1024]⟩
abbrev S291x1x1 : Shape := ⟨3, ![291, 1, 1]⟩

abbrev nBuf : Space → Nat
  | .hbm => 200
  | .vmem => 0
  | .smem => 0
  | _ => 0

abbrev hbmTy0_0 (i : Nat) : BufTy := match i % 128 with
  | 0 => ⟨S291, .i32⟩
  | 1 => ⟨S1, .i32⟩
  | 2 => ⟨S148992x1024, .bf16⟩
  | 3 => ⟨S32x1024x2048, .f32⟩
  | 4 => ⟨S32x1x1024, .f32⟩
  | 5 => ⟨S32x1x1024, .f32⟩
  | 6 => ⟨S32x1024x1024, .f32⟩
  | 7 => ⟨S32x1x1024, .f32⟩
  | 8 => ⟨S148992x1024, .f32⟩
  | 9 => ⟨S291x512x1024, .f32⟩
  | 10 => ⟨S_, .f32⟩
  | 11 => ⟨S291x512x1024, .f32⟩
  | 12 => ⟨S_, .i32⟩
  | 13 => ⟨S291x512x1024, .f32⟩
  | 14 => ⟨S291, .i32⟩
  | 15 => ⟨S32x1024x2048, .f32⟩
  | 16 => ⟨S32x1x1024, .f32⟩
  | 17 => ⟨S32x1x1024, .f32⟩
  | 18 => ⟨S32x1024x1024, .f32⟩
  | 19 => ⟨S32x1x1024, .f32⟩
  | 20 => ⟨S_, .i32⟩
  | 21 => ⟨S291x512x1024, .f32⟩
  | 22 => ⟨S_, .i32⟩
  | 23 => ⟨S_, .i1⟩
  | 24 => ⟨S_, .i32⟩
  | 25 => ⟨S_, .i32⟩
  | 26 => ⟨S1x512x1024, .f32⟩
  | 27 => ⟨S512x1024, .f32⟩
  | 28 => ⟨S1, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S1x1024x2048, .f32⟩
  | 52 => ⟨S1024x2048, .f32⟩
  | 53 => ⟨S512x2048, .f32⟩
  | 54 => ⟨S512x1024, .f32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S1x1x1024, .f32⟩
  | 77 => ⟨S1x1024, .f32⟩
  | 78 => ⟨S512x1024, .f32⟩
  | 79 => ⟨S512x1024, .f32⟩
  | 80 => ⟨S_, .f32⟩
  | 81 => ⟨S512x1024, .f32⟩
  | 82 => ⟨S512x1024, .f32⟩
  | 83 => ⟨S512x1024, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S1x1x1024, .f32⟩
  | 106 => ⟨S1x1024, .f32⟩
  | 107 => ⟨S512x1024, .f32⟩
  | 108 => ⟨S512x1024, .f32⟩
  | 109 => ⟨S_, .f32⟩
  | 110 => ⟨S_, .f32⟩
  | 111 => ⟨S_, .f32⟩
  | 112 => ⟨S512x1024, .f32⟩
  | 113 => ⟨S512x1024, .f32⟩
  | 114 => ⟨S_, .f32⟩
  | 115 => ⟨S512x1024, .f32⟩
  | 116 => ⟨S512x1024, .f32⟩
  | 117 => ⟨S_, .f32⟩
  | 118 => ⟨S512x1024, .f32⟩
  | 119 => ⟨S512x1024, .f32⟩
  | 120 => ⟨S512x1024, .f32⟩
  | 121 => ⟨S512x1024, .f32⟩
  | 122 => ⟨S_, .f32⟩
  | 123 => ⟨S512x1024, .f32⟩
  | 124 => ⟨S512x1024, .f32⟩
  | 125 => ⟨S_, .f32⟩
  | 126 => ⟨S512x1024, .f32⟩
  | 127 => ⟨S512x1024, .f32⟩
  | _ => ⟨S291, .i32⟩

abbrev hbmTy0_1 (i : Nat) : BufTy := match i % 128 with
  | 0 => ⟨S512x1024, .f32⟩
  | 1 => ⟨S_, .f32⟩
  | 2 => ⟨S512x1024, .f32⟩
  | 3 => ⟨S512x1024, .f32⟩
  | 4 => ⟨S512x1024, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S1x1024x1024, .f32⟩
  | 27 => ⟨S1024x1024, .f32⟩
  | 28 => ⟨S512x1024, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S1x1x1024, .f32⟩
  | 51 => ⟨S1x1024, .f32⟩
  | 52 => ⟨S512x1024, .f32⟩
  | 53 => ⟨S512x1024, .f32⟩
  | 54 => ⟨S1x512x1024, .f32⟩
  | 55 => ⟨S_, .i32⟩
  | 56 => ⟨S_, .i32⟩
  | 57 => ⟨S291x512x1024, .f32⟩
  | 58 => ⟨S_, .i32⟩
  | 59 => ⟨S_, .i32⟩
  | 60 => ⟨S291, .i32⟩
  | 61 => ⟨S_, .i32⟩
  | 62 => ⟨S291, .i32⟩
  | 63 => ⟨S291, .i1⟩
  | 64 => ⟨S291x1x1, .i1⟩
  | 65 => ⟨S_, .f32⟩
  | 66 => ⟨S_, .f32⟩
  | 67 => ⟨S291x512x1024, .i1⟩
  | 68 => ⟨S291x512x1024, .f32⟩
  | 69 => ⟨S291x512x1024, .f32⟩
  | 70 => ⟨S148992x1024, .f32⟩
  | 71 => ⟨S148992x1024, .bf16⟩
  | _ => ⟨S291, .i32⟩

abbrev hbmTy (i : Nat) : BufTy := match i / 128 with
  | 0 => hbmTy0_0 i
  | 1 => hbmTy0_1 i
  | _ => ⟨S291, .i32⟩

abbrev bufTy : (tb : Table) → Fin (tcTables nBuf tb) → BufTy
  | .hbm, ⟨i, _⟩ => hbmTy i
  | _, _ => ⟨S291, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_c : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev main_while0c_c_9 : Ref sig .tc := ⟨.hbm, 22, rfl⟩
abbrev main_while0c_v12 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v12 : Ref sig .tc := ⟨.hbm, 27, rfl⟩
abbrev main_while0b_call1_v0 : Ref sig .tc := ⟨.hbm, 28, rfl⟩
abbrev main_while0b_v13 : Ref sig .tc := ⟨.hbm, 29, rfl⟩
abbrev main_while0b_c_9 : Ref sig .tc := ⟨.hbm, 30, rfl⟩
abbrev main_while0b_v14 : Ref sig .tc := ⟨.hbm, 31, rfl⟩
abbrev main_while0b_c_10 : Ref sig .tc := ⟨.hbm, 32, rfl⟩
abbrev main_while0b_v15 : Ref sig .tc := ⟨.hbm, 33, rfl⟩
abbrev main_while0b_v16 : Ref sig .tc := ⟨.hbm, 34, rfl⟩
abbrev main_while0b_c_11 : Ref sig .tc := ⟨.hbm, 35, rfl⟩
abbrev main_while0b_c_12 : Ref sig .tc := ⟨.hbm, 36, rfl⟩
abbrev main_while0b_v17 : Ref sig .tc := ⟨.hbm, 37, rfl⟩
abbrev main_while0b_c_13 : Ref sig .tc := ⟨.hbm, 38, rfl⟩
abbrev main_while0b_c_14 : Ref sig .tc := ⟨.hbm, 39, rfl⟩
abbrev main_while0b_v18 : Ref sig .tc := ⟨.hbm, 40, rfl⟩
abbrev main_while0b_c_15 : Ref sig .tc := ⟨.hbm, 41, rfl⟩
abbrev main_while0b_v19 : Ref sig .tc := ⟨.hbm, 42, rfl⟩
abbrev main_while0b_c_16 : Ref sig .tc := ⟨.hbm, 43, rfl⟩
abbrev main_while0b_c_17 : Ref sig .tc := ⟨.hbm, 44, rfl⟩
abbrev main_while0b_v20 : Ref sig .tc := ⟨.hbm, 45, rfl⟩
abbrev main_while0b_c_18 : Ref sig .tc := ⟨.hbm, 46, rfl⟩
abbrev main_while0b_c_19 : Ref sig .tc := ⟨.hbm, 47, rfl⟩
abbrev main_while0b_v21 : Ref sig .tc := ⟨.hbm, 48, rfl⟩
abbrev main_while0b_c_20 : Ref sig .tc := ⟨.hbm, 49, rfl⟩
abbrev main_while0b_v22 : Ref sig .tc := ⟨.hbm, 50, rfl⟩
abbrev main_while0b_v23 : Ref sig .tc := ⟨.hbm, 51, rfl⟩
abbrev main_while0b_v24 : Ref sig .tc := ⟨.hbm, 52, rfl⟩
abbrev main_while0b_v25 : Ref sig .tc := ⟨.hbm, 53, rfl⟩
abbrev main_while0b_v26 : Ref sig .tc := ⟨.hbm, 54, rfl⟩
abbrev main_while0b_c_21 : Ref sig .tc := ⟨.hbm, 55, rfl⟩
abbrev main_while0b_v27 : Ref sig .tc := ⟨.hbm, 56, rfl⟩
abbrev main_while0b_c_22 : Ref sig .tc := ⟨.hbm, 57, rfl⟩
abbrev main_while0b_v28 : Ref sig .tc := ⟨.hbm, 58, rfl⟩
abbrev main_while0b_v29 : Ref sig .tc := ⟨.hbm, 59, rfl⟩
abbrev main_while0b_c_23 : Ref sig .tc := ⟨.hbm, 60, rfl⟩
abbrev main_while0b_c_24 : Ref sig .tc := ⟨.hbm, 61, rfl⟩
abbrev main_while0b_v30 : Ref sig .tc := ⟨.hbm, 62, rfl⟩
abbrev main_while0b_c_25 : Ref sig .tc := ⟨.hbm, 63, rfl⟩
abbrev main_while0b_c_26 : Ref sig .tc := ⟨.hbm, 64, rfl⟩
abbrev main_while0b_v31 : Ref sig .tc := ⟨.hbm, 65, rfl⟩
abbrev main_while0b_c_27 : Ref sig .tc := ⟨.hbm, 66, rfl⟩
abbrev main_while0b_v32 : Ref sig .tc := ⟨.hbm, 67, rfl⟩
abbrev main_while0b_c_28 : Ref sig .tc := ⟨.hbm, 68, rfl⟩
abbrev main_while0b_c_29 : Ref sig .tc := ⟨.hbm, 69, rfl⟩
abbrev main_while0b_v33 : Ref sig .tc := ⟨.hbm, 70, rfl⟩
abbrev main_while0b_c_30 : Ref sig .tc := ⟨.hbm, 71, rfl⟩
abbrev main_while0b_c_31 : Ref sig .tc := ⟨.hbm, 72, rfl⟩
abbrev main_while0b_v34 : Ref sig .tc := ⟨.hbm, 73, rfl⟩
abbrev main_while0b_c_32 : Ref sig .tc := ⟨.hbm, 74, rfl⟩
abbrev main_while0b_v35 : Ref sig .tc := ⟨.hbm, 75, rfl⟩
abbrev main_while0b_v36 : Ref sig .tc := ⟨.hbm, 76, rfl⟩
abbrev main_while0b_v37 : Ref sig .tc := ⟨.hbm, 77, rfl⟩
abbrev main_while0b_v38 : Ref sig .tc := ⟨.hbm, 78, rfl⟩
abbrev main_while0b_v39 : Ref sig .tc := ⟨.hbm, 79, rfl⟩
abbrev main_while0b_cst_33 : Ref sig .tc := ⟨.hbm, 80, rfl⟩
abbrev main_while0b_v40 : Ref sig .tc := ⟨.hbm, 81, rfl⟩
abbrev main_while0b_v41 : Ref sig .tc := ⟨.hbm, 82, rfl⟩
abbrev main_while0b_v42 : Ref sig .tc := ⟨.hbm, 83, rfl⟩
abbrev main_while0b_c_34 : Ref sig .tc := ⟨.hbm, 84, rfl⟩
abbrev main_while0b_v43 : Ref sig .tc := ⟨.hbm, 85, rfl⟩
abbrev main_while0b_c_35 : Ref sig .tc := ⟨.hbm, 86, rfl⟩
abbrev main_while0b_v44 : Ref sig .tc := ⟨.hbm, 87, rfl⟩
abbrev main_while0b_v45 : Ref sig .tc := ⟨.hbm, 88, rfl⟩
abbrev main_while0b_c_36 : Ref sig .tc := ⟨.hbm, 89, rfl⟩
abbrev main_while0b_c_37 : Ref sig .tc := ⟨.hbm, 90, rfl⟩
abbrev main_while0b_v46 : Ref sig .tc := ⟨.hbm, 91, rfl⟩
abbrev main_while0b_c_38 : Ref sig .tc := ⟨.hbm, 92, rfl⟩
abbrev main_while0b_c_39 : Ref sig .tc := ⟨.hbm, 93, rfl⟩
abbrev main_while0b_v47 : Ref sig .tc := ⟨.hbm, 94, rfl⟩
abbrev main_while0b_c_40 : Ref sig .tc := ⟨.hbm, 95, rfl⟩
abbrev main_while0b_v48 : Ref sig .tc := ⟨.hbm, 96, rfl⟩
abbrev main_while0b_c_41 : Ref sig .tc := ⟨.hbm, 97, rfl⟩
abbrev main_while0b_c_42 : Ref sig .tc := ⟨.hbm, 98, rfl⟩
abbrev main_while0b_v49 : Ref sig .tc := ⟨.hbm, 99, rfl⟩
abbrev main_while0b_c_43 : Ref sig .tc := ⟨.hbm, 100, rfl⟩
abbrev main_while0b_c_44 : Ref sig .tc := ⟨.hbm, 101, rfl⟩
abbrev main_while0b_v50 : Ref sig .tc := ⟨.hbm, 102, rfl⟩
abbrev main_while0b_c_45 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_v54 : Ref sig .tc := ⟨.hbm, 107, rfl⟩
abbrev main_while0b_v55 : Ref sig .tc := ⟨.hbm, 108, rfl⟩
abbrev main_while0b_cst_46 : Ref sig .tc := ⟨.hbm, 109, rfl⟩
abbrev main_while0b_cst_47 : Ref sig .tc := ⟨.hbm, 110, rfl⟩
abbrev main_while0b_call2_v0 : Ref sig .tc := ⟨.hbm, 111, rfl⟩
abbrev main_while0b_call2_v1 : Ref sig .tc := ⟨.hbm, 112, rfl⟩
abbrev main_while0b_call2_v2 : Ref sig .tc := ⟨.hbm, 113, rfl⟩
abbrev main_while0b_call2_v3 : Ref sig .tc := ⟨.hbm, 114, rfl⟩
abbrev main_while0b_call2_v4 : Ref sig .tc := ⟨.hbm, 115, rfl⟩
abbrev main_while0b_v56 : Ref sig .tc := ⟨.hbm, 116, rfl⟩
abbrev main_while0b_cst_48 : Ref sig .tc := ⟨.hbm, 117, rfl⟩
abbrev main_while0b_v57 : Ref sig .tc := ⟨.hbm, 118, rfl⟩
abbrev main_while0b_v58 : Ref sig .tc := ⟨.hbm, 119, rfl⟩
abbrev main_while0b_v59 : Ref sig .tc := ⟨.hbm, 120, rfl⟩
abbrev main_while0b_v60 : Ref sig .tc := ⟨.hbm, 121, rfl⟩
abbrev main_while0b_cst_49 : Ref sig .tc := ⟨.hbm, 122, rfl⟩
abbrev main_while0b_v61 : Ref sig .tc := ⟨.hbm, 123, rfl⟩
abbrev main_while0b_v62 : Ref sig .tc := ⟨.hbm, 124, rfl⟩
abbrev main_while0b_cst_50 : Ref sig .tc := ⟨.hbm, 125, rfl⟩
abbrev main_while0b_v63 : Ref sig .tc := ⟨.hbm, 126, rfl⟩
abbrev main_while0b_v64 : Ref sig .tc := ⟨.hbm, 127, rfl⟩
abbrev main_while0b_v65 : Ref sig .tc := ⟨.hbm, 128, rfl⟩
abbrev main_while0b_cst_51 : Ref sig .tc := ⟨.hbm, 129, rfl⟩
abbrev main_while0b_v66 : Ref sig .tc := ⟨.hbm, 130, rfl⟩
abbrev main_while0b_v67 : Ref sig .tc := ⟨.hbm, 131, rfl⟩
abbrev main_while0b_v68 : Ref sig .tc := ⟨.hbm, 132, rfl⟩
abbrev main_while0b_c_52 : Ref sig .tc := ⟨.hbm, 133, rfl⟩
abbrev main_while0b_v69 : Ref sig .tc := ⟨.hbm, 134, rfl⟩
abbrev main_while0b_c_53 : Ref sig .tc := ⟨.hbm, 135, rfl⟩
abbrev main_while0b_v70 : Ref sig .tc := ⟨.hbm, 136, rfl⟩
abbrev main_while0b_v71 : Ref sig .tc := ⟨.hbm, 137, rfl⟩
abbrev main_while0b_c_54 : Ref sig .tc := ⟨.hbm, 138, rfl⟩
abbrev main_while0b_c_55 : Ref sig .tc := ⟨.hbm, 139, rfl⟩
abbrev main_while0b_v72 : Ref sig .tc := ⟨.hbm, 140, rfl⟩
abbrev main_while0b_c_56 : Ref sig .tc := ⟨.hbm, 141, rfl⟩
abbrev main_while0b_c_57 : Ref sig .tc := ⟨.hbm, 142, rfl⟩
abbrev main_while0b_v73 : Ref sig .tc := ⟨.hbm, 143, rfl⟩
abbrev main_while0b_c_58 : Ref sig .tc := ⟨.hbm, 144, rfl⟩
abbrev main_while0b_v74 : Ref sig .tc := ⟨.hbm, 145, rfl⟩
abbrev main_while0b_c_59 : Ref sig .tc := ⟨.hbm, 146, rfl⟩
abbrev main_while0b_c_60 : Ref sig .tc := ⟨.hbm, 147, rfl⟩
abbrev main_while0b_v75 : Ref sig .tc := ⟨.hbm, 148, rfl⟩
abbrev main_while0b_c_61 : Ref sig .tc := ⟨.hbm, 149, rfl⟩
abbrev main_while0b_c_62 : Ref sig .tc := ⟨.hbm, 150, rfl⟩
abbrev main_while0b_v76 : Ref sig .tc := ⟨.hbm, 151, rfl⟩
abbrev main_while0b_c_63 : Ref sig .tc := ⟨.hbm, 152, rfl⟩
abbrev main_while0b_v77 : Ref sig .tc := ⟨.hbm, 153, rfl⟩
abbrev main_while0b_v78 : Ref sig .tc := ⟨.hbm, 154, rfl⟩
abbrev main_while0b_v79 : Ref sig .tc := ⟨.hbm, 155, rfl⟩
abbrev main_while0b_v80 : Ref sig .tc := ⟨.hbm, 156, rfl⟩
abbrev main_while0b_c_64 : Ref sig .tc := ⟨.hbm, 157, rfl⟩
abbrev main_while0b_v81 : Ref sig .tc := ⟨.hbm, 158, rfl⟩
abbrev main_while0b_c_65 : Ref sig .tc := ⟨.hbm, 159, rfl⟩
abbrev main_while0b_v82 : Ref sig .tc := ⟨.hbm, 160, rfl⟩
abbrev main_while0b_v83 : Ref sig .tc := ⟨.hbm, 161, rfl⟩
abbrev main_while0b_c_66 : Ref sig .tc := ⟨.hbm, 162, rfl⟩
abbrev main_while0b_c_67 : Ref sig .tc := ⟨.hbm, 163, rfl⟩
abbrev main_while0b_v84 : Ref sig .tc := ⟨.hbm, 164, rfl⟩
abbrev main_while0b_c_68 : Ref sig .tc := ⟨.hbm, 165, rfl⟩
abbrev main_while0b_c_69 : Ref sig .tc := ⟨.hbm, 166, rfl⟩
abbrev main_while0b_v85 : Ref sig .tc := ⟨.hbm, 167, rfl⟩
abbrev main_while0b_c_70 : Ref sig .tc := ⟨.hbm, 168, rfl⟩
abbrev main_while0b_v86 : Ref sig .tc := ⟨.hbm, 169, rfl⟩
abbrev main_while0b_c_71 : Ref sig .tc := ⟨.hbm, 170, rfl⟩
abbrev main_while0b_c_72 : Ref sig .tc := ⟨.hbm, 171, rfl⟩
abbrev main_while0b_v87 : Ref sig .tc := ⟨.hbm, 172, rfl⟩
abbrev main_while0b_c_73 : Ref sig .tc := ⟨.hbm, 173, rfl⟩
abbrev main_while0b_c_74 : Ref sig .tc := ⟨.hbm, 174, rfl⟩
abbrev main_while0b_v88 : Ref sig .tc := ⟨.hbm, 175, rfl⟩
abbrev main_while0b_c_75 : Ref sig .tc := ⟨.hbm, 176, rfl⟩
abbrev main_while0b_v89 : Ref sig .tc := ⟨.hbm, 177, rfl⟩
abbrev main_while0b_v90 : Ref sig .tc := ⟨.hbm, 178, rfl⟩
abbrev main_while0b_v91 : Ref sig .tc := ⟨.hbm, 179, rfl⟩
abbrev main_while0b_v92 : Ref sig .tc := ⟨.hbm, 180, rfl⟩
abbrev main_while0b_v93 : Ref sig .tc := ⟨.hbm, 181, rfl⟩
abbrev main_while0b_call3_v0 : Ref sig .tc := ⟨.hbm, 182, rfl⟩
abbrev main_while0b_call3_c : Ref sig .tc := ⟨.hbm, 183, rfl⟩
abbrev main_while0b_call3_c_0 : Ref sig .tc := ⟨.hbm, 184, rfl⟩
abbrev main_while0b_v94 : Ref sig .tc := ⟨.hbm, 185, rfl⟩
abbrev main_while0b_c_76 : Ref sig .tc := ⟨.hbm, 186, rfl⟩
abbrev main_while0b_v95 : Ref sig .tc := ⟨.hbm, 187, rfl⟩
abbrev main_v4 : Ref sig .tc := ⟨.hbm, 188, rfl⟩
abbrev main_v5 : Ref sig .tc := ⟨.hbm, 189, rfl⟩
abbrev main_v6 : Ref sig .tc := ⟨.hbm, 190, rfl⟩
abbrev main_v7 : Ref sig .tc := ⟨.hbm, 191, rfl⟩
abbrev main_v8 : Ref sig .tc := ⟨.hbm, 192, rfl⟩
abbrev main_cst_0 : Ref sig .tc := ⟨.hbm, 193, rfl⟩
abbrev main_call4_v0 : Ref sig .tc := ⟨.hbm, 194, rfl⟩
abbrev main_call4_v1 : Ref sig .tc := ⟨.hbm, 195, rfl⟩
abbrev main_call4_v2 : Ref sig .tc := ⟨.hbm, 196, rfl⟩
abbrev main_v9 : Ref sig .tc := ⟨.hbm, 197, rfl⟩
abbrev main_v10 : Ref sig .tc := ⟨.hbm, 198, rfl⟩
abbrev main_v11 : Ref sig .tc := ⟨.hbm, 199, rfl⟩

abbrev nD : Nat := 1
abbrev τ : Topo := Topo.v7x

variable {F : FTy → Type} [FloatOps F]

abbrev main_while0_count : Scf.Loop 32 := ⟨0#32, 291#32, 1#32⟩
-- ==== Kernel2.lean ====
abbrev S16x2048x1024 : Shape := ⟨3, ![16, 2048, 1024]⟩
abbrev S16x1024 : Shape := ⟨2, ![16, 1024]⟩
abbrev S16x1x1024 : Shape := ⟨3, ![16, 1, 1024]⟩
abbrev S1x1024 : Shape := ⟨2, ![1, 1024]⟩
abbrev S1024x5120 : Shape := ⟨2, ![1024, 5120]⟩
abbrev S1024x128 : Shape := ⟨2, ![1024, 128]⟩
abbrev S1x128 : Shape := ⟨2, ![1, 128]⟩
abbrev S3x1024 : Shape := ⟨2, ![3, 1024]⟩
abbrev S1024x64 : Shape := ⟨2, ![1024, 64]⟩
abbrev S16x2064x1024 : Shape := ⟨3, ![16, 2064, 1024]⟩
abbrev S16x2064x512 : Shape := ⟨3, ![16, 2064, 512]⟩
abbrev S16x2064x1536 : Shape := ⟨3, ![16, 2064, 1536]⟩
abbrev S16x2064x2048 : Shape := ⟨3, ![16, 2064, 2048]⟩
abbrev S16x2064x256 : Shape := ⟨3, ![16, 2064, 256]⟩
abbrev S16x2064x128 : Shape := ⟨3, ![16, 2064, 128]⟩
abbrev S16x1x1536 : Shape := ⟨3, ![16, 1, 1536]⟩
abbrev S1x344x1024 : Shape := ⟨3, ![1, 344, 1024]⟩
abbrev S1x1x1024 : Shape := ⟨3, ![1, 1, 1024]⟩
abbrev S1x344x512 : Shape := ⟨3, ![1, 344, 512]⟩
abbrev S1x344x1536 : Shape := ⟨3, ![1, 344, 1536]⟩
abbrev S1x344x2048 : Shape := ⟨3, ![1, 344, 2048]⟩
abbrev S1x344x256 : Shape := ⟨3, ![1, 344, 256]⟩
abbrev S1x344x128 : Shape := ⟨3, ![1, 344, 128]⟩
abbrev S1x1x1536 : Shape := ⟨3, ![1, 1, 1536]⟩
abbrev S344x1024 : Shape := ⟨2, ![344, 1024]⟩
abbrev S328x1024 : Shape := ⟨2, ![328, 1024]⟩
abbrev S344 : Shape := ⟨1, ![344]⟩
abbrev S344x1 : Shape := ⟨2, ![344, 1]⟩
abbrev S8x1024 : Shape := ⟨2, ![8, 1024]⟩
abbrev S1024x1536 : Shape := ⟨2, ![1024, 1536]⟩
abbrev S8x1536 : Shape := ⟨2, ![8, 1536]⟩
abbrev S1x1536 : Shape := ⟨2, ![1, 1536]⟩
abbrev S1024x512 : Shape := ⟨2, ![1024, 512]⟩
abbrev S344x512 : Shape := ⟨2, ![344, 512]⟩
abbrev S344x1536 : Shape := ⟨2, ![344, 1536]⟩
abbrev S1024x2048 : Shape := ⟨2, ![1024, 2048]⟩
abbrev S344x2048 : Shape := ⟨2, ![344, 2048]⟩
abbrev S344x128 : Shape := ⟨2, ![344, 128]⟩
abbrev S344x64 : Shape := ⟨2, ![344, 64]⟩
abbrev S1x344x64 : Shape := ⟨3, ![1, 344, 64]⟩

abbrev nBuf : Space → Nat
  | .hbm => 21
  | .vmem => 33
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S16x1x1024, .f32⟩
  | .hbm, ⟨3, _⟩ => ⟨S1x1024, .f32⟩
  | .hbm, ⟨4, _⟩ => ⟨S1x1024, .f32⟩
  | .hbm, ⟨5, _⟩ => ⟨S1024x5120, .bf16⟩
  | .hbm, ⟨6, _⟩ => ⟨S1024x128, .bf16⟩
  | .hbm, ⟨7, _⟩ => ⟨S1x128, .f32⟩
  | .hbm, ⟨8, _⟩ => ⟨S3x1024, .f32⟩
  | .hbm, ⟨9, _⟩ => ⟨S1024x64, .bf16⟩
  | .hbm, ⟨10, _⟩ => ⟨S1024x64, .bf16⟩
  | .hbm, ⟨11, _⟩ => ⟨S1024x128, .bf16⟩
  | .hbm, ⟨12, _⟩ => ⟨S16x2064x1024, .f32⟩
  | .hbm, ⟨13, _⟩ => ⟨S16x2064x512, .bf16⟩
  | .hbm, ⟨14, _⟩ => ⟨S16x2064x512, .f32⟩
  | .hbm, ⟨15, _⟩ => ⟨S16x2064x512, .f32⟩
  | .hbm, ⟨16, _⟩ => ⟨S16x2064x1536, .bf16⟩
  | .hbm, ⟨17, _⟩ => ⟨S16x2064x2048, .bf16⟩
  | .hbm, ⟨18, _⟩ => ⟨S16x2064x256, .f32⟩
  | .hbm, ⟨19, _⟩ => ⟨S16x2064x128, .f32⟩
  | .hbm, ⟨20, _⟩ => ⟨S16x1x1536, .f32⟩
  | .local _ .vmem, ⟨0, _⟩ => ⟨S1x344x1024, .f32⟩
  | .local _ .vmem, ⟨1, _⟩ => ⟨S1x344x1024, .f32⟩
  | .local _ .vmem, ⟨2, _⟩ => ⟨S16x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1024, .f32⟩
  | .local _ .vmem, ⟨6, _⟩ => ⟨S1x1024, .f32⟩
  | .local _ .vmem, ⟨7, _⟩ => ⟨S1024x5120, .bf16⟩
  | .local _ .vmem, ⟨8, _⟩ => ⟨S1024x128, .bf16⟩
  | .local _ .vmem, ⟨9, _⟩ => ⟨S1x128, .f32⟩
  | .local _ .vmem, ⟨10, _⟩ => ⟨S3x1024, .f32⟩
  | .local _ .vmem, ⟨11, _⟩ => ⟨S1024x64, .bf16⟩
  | .local _ .vmem, ⟨12, _⟩ => ⟨S1024x64, .bf16⟩
  | .local _ .vmem, ⟨13, _⟩ => ⟨S1024x128, .bf16⟩
  | .local _ .vmem, ⟨14, _⟩ => ⟨S1x344x1024, .f32⟩
  | .local _ .vmem, ⟨15, _⟩ => ⟨S1x344x1024, .f32⟩
  | .local _ .vmem, ⟨16, _⟩ => ⟨S1x344x512, .bf16⟩
  | .local _ .vmem, ⟨17, _⟩ => ⟨S1x344x512, .bf16⟩
  | .local _ .vmem, ⟨18, _⟩ => ⟨S1x344x512, .f32⟩
  | .local _ .vmem, ⟨19, _⟩ => ⟨S1x344x512, .f32⟩
  | .local _ .vmem, ⟨20, _⟩ => ⟨S1x344x512, .f32⟩
  | .local _ .vmem, ⟨21, _⟩ => ⟨S1x344x512, .f32⟩
  | .local _ .vmem, ⟨22, _⟩ => ⟨S1x344x1536, .bf16⟩
  | .local _ .vmem, ⟨23, _⟩ => ⟨S1x344x1536, .bf16⟩
  | .local _ .vmem, ⟨24, _⟩ => ⟨S1x344x2048, .bf16⟩
  | .local _ .vmem, ⟨25, _⟩ => ⟨S1x344x2048, .bf16⟩
  | .local _ .vmem, ⟨26, _⟩ => ⟨S1x344x256, .f32⟩
  | .local _ .vmem, ⟨27, _⟩ => ⟨S1x344x256, .f32⟩
  | .local _ .vmem, ⟨28, _⟩ => ⟨S1x344x128, .f32⟩
  | .local _ .vmem, ⟨29, _⟩ => ⟨S1x344x128, .f32⟩
  | .local _ .vmem, ⟨30, _⟩ => ⟨S1x1x1536, .f32⟩
  | .local _ .vmem, ⟨31, _⟩ => ⟨S1x1x1536, .f32⟩
  | .local _ .vmem, ⟨32, _⟩ => ⟨S1x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![16, 6], ![false, false]⟩

def k0_mult1 (i : grid0.Coords) : BitVec 32 :=
  let arg1 : BitVec 32 := BitVec.ofNat 32 (i 1).val
  let c344_i32 : BitVec 32 := 344#32
  let v0 : BitVec 32 := Scalar.muli arg1 c344_i32
  let c16_i32 : BitVec 32 := 16#32
  let v1 : BitVec 32 := Scalar.subi v0 c16_i32
  let c0_i32 : BitVec 32 := 0#32
  let v2 : BitVec 32 := Scalar.maxsi v1 c0_i32
  v2
def k0_cond1 (i : grid0.Coords) : BitVec 1 :=
  let arg1 : BitVec 32 := BitVec.ofNat 32 (i 1).val
  let c0_i32_15 : BitVec 32 := 0#32
  let v32 : BitVec 1 := Scalar.cmpi .eq arg1 c0_i32_15
  let v33 : BitVec 32 := Scalar.extui v32
  let c0_i32_16 : BitVec 32 := 0#32
  let v34 : BitVec 1 := Scalar.cmpi .ne v33 c0_i32_16
  v34

def cc0_transform_0 (i : grid0.Coords) : Fin 3 → Nat :=
  let arg0 : BitVec 32 := BitVec.ofNat 32 (i 0).val
  let arg1 : BitVec 32 := BitVec.ofNat 32 (i 1).val
  let c344_i32 : BitVec 32 := 344#32
  let v0 : BitVec 32 := Scalar.muli arg1 c344_i32
  let c16_i32 : BitVec 32 := 16#32
  let v1 : BitVec 32 := Scalar.subi v0 c16_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![arg0.toNat, v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x344x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x344x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x344x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x344x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x344x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x344x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x344x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x344x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x344x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x1536 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== Reference2Ideal.lean ====
abbrev S16x2048x1024 : Shape := ⟨3, ![16, 2048, 1024]⟩
abbrev S16x1024 : Shape := ⟨2, ![16, 1024]⟩
abbrev S16x1x1024 : Shape := ⟨3, ![16, 1, 1024]⟩
abbrev S1x1024 : Shape := ⟨2, ![1, 1024]⟩
abbrev S1024x5120 : Shape := ⟨2, ![1024, 5120]⟩
abbrev S1024x128 : Shape := ⟨2, ![1024, 128]⟩
abbrev S1x128 : Shape := ⟨2, ![1, 128]⟩
abbrev S3x1024 : Shape := ⟨2, ![3, 1024]⟩
abbrev S1024x64 : Shape := ⟨2, ![1024, 64]⟩
abbrev S16x16x1024 : Shape := ⟨3, ![16, 16, 1024]⟩
abbrev S16x2064x1024 : Shape := ⟨3, ![16, 2064, 1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S16x2064x5120 : Shape := ⟨3, ![16, 2064, 5120]⟩
abbrev S16x2064x512 : Shape := ⟨3, ![16, 2064, 512]⟩
abbrev S16x2064x1536 : Shape := ⟨3, ![16, 2064, 1536]⟩
abbrev S16x2064x2048 : Shape := ⟨3, ![16, 2064, 2048]⟩
abbrev S16x2064x128 : Shape := ⟨3, ![16, 2064, 128]⟩
abbrev S1x1x128 : Shape := ⟨3, ![1, 1, 128]⟩
abbrev S16x2063x1024 : Shape := ⟨3, ![16, 2063, 1024]⟩
abbrev S1024 : Shape := ⟨1, ![1024]⟩
abbrev S16x2064x64 : Shape := ⟨3, ![16, 2064, 64]⟩
abbrev S16x2064x256 : Shape := ⟨3, ![16, 2064, 256]⟩
abbrev S1024x1536 : Shape := ⟨2, ![1024, 1536]⟩
abbrev S16x1x1536 : Shape := ⟨3, ![16, 1, 1536]⟩

abbrev nBuf : Space → Nat
  | .hbm => 113
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S16x1x1024, .f32⟩
  | .hbm, ⟨3, _⟩ => ⟨S1x1024, .f32⟩
  | .hbm, ⟨4, _⟩ => ⟨S1x1024, .f32⟩
  | .hbm, ⟨5, _⟩ => ⟨S1024x5120, .bf16⟩
  | .hbm, ⟨6, _⟩ => ⟨S1024x128, .bf16⟩
  | .hbm, ⟨7, _⟩ => ⟨S1x128, .f32⟩
  | .hbm, ⟨8, _⟩ => ⟨S3x1024, .f32⟩
  | .hbm, ⟨9, _⟩ => ⟨S1024x64, .bf16⟩
  | .hbm, ⟨10, _⟩ => ⟨S1024x64, .bf16⟩
  | .hbm, ⟨11, _⟩ => ⟨S1024x128, .bf16⟩
  | .hbm, ⟨12, _⟩ => ⟨S16x16x1024, .f32⟩
  | .hbm, ⟨13, _⟩ => ⟨S16x2064x1024, .f32⟩
  | .hbm, ⟨14, _⟩ => ⟨S_, .f32⟩
  | .hbm, ⟨15, _⟩ => ⟨S16x2064, .f32⟩
  | .hbm, ⟨16, _⟩ => ⟨S16x2064x1, .f32⟩
  | .hbm, ⟨17, _⟩ => ⟨S_, .f32⟩
  | .hbm, ⟨18, _⟩ => ⟨S16x2064x1, .f32⟩
  | .hbm, ⟨19, _⟩ => ⟨S16x2064x1, .f32⟩
  | .hbm, ⟨20, _⟩ => ⟨S16x2064x1024, .f32⟩
  | .hbm, ⟨21, _⟩ => ⟨S16x2064x1024, .f32⟩
  | .hbm, ⟨22, _⟩ => ⟨S16x2064x1024, .f32⟩
  | .hbm, ⟨23, _⟩ => ⟨S_, .f32⟩
  | .hbm, ⟨24, _⟩ => ⟨S16x2064, .f32⟩
  | .hbm, ⟨25, _⟩ => ⟨S16x2064x1, .f32⟩
  | .hbm, ⟨26, _⟩ => ⟨S_, .f32⟩
  | .hbm, ⟨27, _⟩ => ⟨S16x2064x1, .f32⟩
  | .hbm, ⟨28, _⟩ => ⟨S16x2064x1, .f32⟩
  | .hbm, ⟨29, _⟩ => ⟨S16x2064x1024, .f32⟩
  | .hbm, ⟨30, _⟩ => ⟨S16x2064x1024, .f32⟩
  | .hbm, ⟨31, _⟩ => ⟨S_, .f32⟩
  | .hbm, ⟨32, _⟩ => ⟨S16x2064x1, .f32⟩
  | .hbm, ⟨33, _⟩ => ⟨S16x2064x1, .f32⟩
  | .hbm, ⟨34, _⟩ => ⟨S16x2064x1, .f32⟩
  | .hbm, ⟨35, _⟩ => ⟨S16x2064x1024, .f32⟩
  | .hbm, ⟨36, _⟩ => ⟨S16x2064x1024, .f32⟩
  | .hbm, ⟨37, _⟩ => ⟨S1x1x1024, .f32⟩
  | .hbm, ⟨38, _⟩ => ⟨S16x2064x1024, .f32⟩
  | .hbm, ⟨39, _⟩ => ⟨S16x2064x1024, .f32⟩
  | .hbm, ⟨40, _⟩ => ⟨S1x1x1024, .f32⟩
  | .hbm, ⟨41, _⟩ => ⟨S16x2064x1024, .f32⟩
  | .hbm, ⟨42, _⟩ => ⟨S16x2064x1024, .f32⟩
  | .hbm, ⟨43, _⟩ => ⟨S1024x5120, .f32⟩
  | .hbm, ⟨44, _⟩ => ⟨S16x2064x5120, .f32⟩
  | .hbm, ⟨45, _⟩ => ⟨S16x2064x512, .f32⟩
  | .hbm, ⟨46, _⟩ => ⟨S16x2064x512, .f32⟩
  | .hbm, ⟨47, _⟩ => ⟨S16x2064x512, .f32⟩
  | .hbm, ⟨48, _⟩ => ⟨S16x2064x1536, .f32⟩
  | .hbm, ⟨49, _⟩ => ⟨S16x2064x2048, .f32⟩
  | .hbm, ⟨50, _⟩ => ⟨S1024x128, .f32⟩
  | .hbm, ⟨51, _⟩ => ⟨S16x2064x128, .f32⟩
  | .hbm, ⟨52, _⟩ => ⟨S1x1x128, .f32⟩
  | .hbm, ⟨53, _⟩ => ⟨S16x2064x128, .f32⟩
  | .hbm, ⟨54, _⟩ => ⟨S16x2064x128, .f32⟩
  | .hbm, ⟨55, _⟩ => ⟨S16x2064x128, .f32⟩
  | .hbm, ⟨56, _⟩ => ⟨S_, .f32⟩
  | .hbm, ⟨57, _⟩ => ⟨S16x2064x128, .f32⟩
  | .hbm, ⟨58, _⟩ => ⟨S16x2064x128, .f32⟩
  | .hbm, ⟨59, _⟩ => ⟨S16x2064x128, .f32⟩
  | .hbm, ⟨60, _⟩ => ⟨S16x2064x128, .f32⟩
  | .hbm, ⟨61, _⟩ => ⟨S16x2064x128, .i1⟩
  | .hbm, ⟨62, _⟩ => ⟨S16x2064x128, .f32⟩
  | .hbm, ⟨63, _⟩ => ⟨S16x2064x128, .f32⟩
  | .hbm, ⟨64, _⟩ => ⟨S16x2064x128, .f32⟩
  | .hbm, ⟨65, _⟩ => ⟨S16x2064x128, .f32⟩
  | .hbm, ⟨66, _⟩ => ⟨S16x2064x128, .f32⟩
  | .hbm, ⟨67, _⟩ => ⟨S16x2064x128, .f32⟩
  | .hbm, ⟨68, _⟩ => ⟨S16x2064x128, .f32⟩
  | .hbm, ⟨69, _⟩ => ⟨S16x2064x128, .f32⟩
  | .hbm, ⟨70, _⟩ => ⟨S16x2064x128, .f32⟩
  | .hbm, ⟨71, _⟩ => ⟨S16x2063x1024, .f32⟩
  | .hbm, ⟨72, _⟩ => ⟨S16x2064x1024, .f32⟩
  | .hbm, ⟨73, _⟩ => ⟨S16x2064x1024, .f32⟩
  | .hbm, ⟨74, _⟩ => ⟨S1x1024, .f32⟩
  | .hbm, ⟨75, _⟩ => ⟨S1024, .f32⟩
  | .hbm, ⟨76, _⟩ => ⟨S1x1x1024, .f32⟩
  | .hbm, ⟨77, _⟩ => ⟨S16x2064x1024, .f32⟩
  | .hbm, ⟨78, _⟩ => ⟨S16x2064x1024, .f32⟩
  | .hbm, ⟨79, _⟩ => ⟨S16x2064x1024, .f32⟩
  | .hbm, ⟨80, _⟩ => ⟨S1x1024, .f32⟩
  | .hbm, ⟨81, _⟩ => ⟨S1024, .f32⟩
  | .hbm, ⟨82, _⟩ => ⟨S1x1x1024, .f32⟩
  | .hbm, ⟨83, _⟩ => ⟨S16x2064x1024, .f32⟩
  | .hbm, ⟨84, _⟩ => ⟨S16x2064x1024, .f32⟩
  | .hbm, ⟨85, _⟩ => ⟨S16x2064x1024, .f32⟩
  | .hbm, ⟨86, _⟩ => ⟨S1x1024, .f32⟩
  | .hbm, ⟨87, _⟩ => ⟨S1024, .f32⟩
  | .hbm, ⟨88, _⟩ => ⟨S1x1x1024, .f32⟩
  | .hbm, ⟨89, _⟩ => ⟨S16x2064x1024, .f32⟩
  | .hbm, ⟨90, _⟩ => ⟨S16x2064x1024, .f32⟩
  | .hbm, ⟨91, _⟩ => ⟨S16x2064x1024, .f32⟩
  | .hbm, ⟨92, _⟩ => ⟨S1024x64, .f32⟩
  | .hbm, ⟨93, _⟩ => ⟨S16x2064x64, .f32⟩
  | .hbm, ⟨94, _⟩ => ⟨S1024x64, .f32⟩
  | .hbm, ⟨95, _⟩ => ⟨S16x2064x64, .f32⟩
  | .hbm, ⟨96, _⟩ => ⟨S1024x128, .f32⟩
  | .hbm, ⟨97, _⟩ => ⟨S16x2064x128, .f32⟩
  | .hbm, ⟨98, _⟩ => ⟨S16x2064x256, .f32⟩
  | .hbm, ⟨99, _⟩ => ⟨S1024x1536, .bf16⟩
  | .hbm, ⟨100, _⟩ => ⟨S1024x1536, .f32⟩
  | .hbm, ⟨101, _⟩ => ⟨S16x1x1536, .f32⟩
  | .hbm, ⟨102, _⟩ => ⟨S16x2064x512, .bf16⟩
  | .hbm, ⟨103, _⟩ => ⟨S16x2064x1536, .bf16⟩
  | .hbm, ⟨104, _⟩ => ⟨S16x2064x2048, .f32⟩
  | .hbm, ⟨105, _⟩ => ⟨S16x2064x2048, .f32⟩
  | .hbm, ⟨106, _⟩ => ⟨S_, .f32⟩
  | .hbm, ⟨107, _⟩ => ⟨S16x2064x2048, .f32⟩
  | .hbm, ⟨108, _⟩ => ⟨S16x2064x2048, .f32⟩
  | .hbm, ⟨109, _⟩ => ⟨S_, .f32⟩
  | .hbm, ⟨110, _⟩ => ⟨S16x2064x2048, .f32⟩
  | .hbm, ⟨111, _⟩ => ⟨S16x2064x2048, .f32⟩
  | .hbm, ⟨112, _⟩ => ⟨S16x2064x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_4 : Ref sig .tc := ⟨.hbm, 106, rfl⟩
abbrev main_v74 : Ref sig .tc := ⟨.hbm, 107, rfl⟩
abbrev main_v75 : Ref sig .tc := ⟨.hbm, 108, rfl⟩
abbrev main_cst_5 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]
-- ==== Proof.MoeBits.Body.lean ====
/- The body of the expert call run once on each of its paths: what it stores into the output
   window and into the three weight scratches. -/
module

public import proofs.«01_k».proof.Proof.Gen.Kernel.Skeleton
public import proofs.«01_k».proof.Proof.Gen.Kernel.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.PureOps.Ideal
public import Idealize.ShloMosaic.PureOps.BitExact

@[expose] public section

set_option maxRecDepth 16384
set_option Elab.async false
set_option backward.proofsInPublic true

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The expert table, the count of used blocks, and the three scratches, as the body names them. -/
abbrev tbE : Memref sig .tc .smem S291 .i32 := Memref.whole main_arg0
abbrev tbN : Memref sig .tc .smem S1 .i32 := Memref.whole main_arg1
abbrev scG : Memref sig .tc .vmem S1024x1024 .bf16 := Memref.whole cc0_scratch0
abbrev scL : Memref sig .tc .vmem S1024x1024 .bf16 := Memref.whole cc0_scratch1
abbrev scD : Memref sig .tc .vmem S1024x1024 .bf16 := Memref.whole cc0_scratch2

variable (c : Dev nD) (T0 : Buf (Elt Bits) (tbE.view.loc (c : Thread nD τ)))
  (T1 : Buf (Elt Bits) (tbN.view.loc (c : Thread nD τ)))

/-- The number of used blocks, as the body reads it. -/
abbrev used : BitVec 32 :=
  View.readAt (Elt Bits) (tbN).view (Rect.unit (s := S1) ![0] S1.size inb_S1_S1_0).toLoadRect T1 (Shape.Idx.first (numel1_S1.symm ▸ Nat.one_pos))
/-- The expert of the current step, as the body reads it. -/
abbrev eNow (i : grid0.Coords) (h : k0_chk1 i (used c T1)) : BitVec 32 :=
  View.readAt (Elt Bits) (tbE).view (Rect.unit (s := S291) (k0_off2 i (used c T1)) S1.size (k0_off2_inb i (used c T1) h)).toLoadRect T0 (Shape.Idx.first (numel1_S1.symm ▸ Nat.one_pos))
/-- The expert of the step before, as the body reads it. -/
abbrev eBefore (i : grid0.Coords) (h : k0_chk1 i (used c T1)) : BitVec 32 :=
  View.readAt (Elt Bits) (tbE).view (Rect.unit (s := S291) (k0_off3 i (used c T1)) S1.size (k0_off3_inb i (used c T1) h)).toLoadRect T0 (Shape.Idx.first (numel1_S1.symm ▸ Nat.one_pos))
/-- Whether the step casts a new expert's weights into the scratches. -/
abbrev reload (i : grid0.Coords) (h : k0_chk1 i (used c T1)) : Prop :=
  Scalar.cmpi .ne (Scalar.extui (Scalar.ori (Scalar.cmpi .eq (BitVec.ofNat 32 (i 0).val) 0#32) (Scalar.cmpi .ne (eNow c T0 T1 i h) (eBefore c T0 T1 i h)))) 0#32 = 1#1

set_option maxHeartbeats 8000000 in
/-- A used step that casts a new expert's weights first. -/
noncomputable def runReload (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole) (x0 : Vec Bits S512x1024 .bf16) (x1 : Vec Bits S1x1024x2048 .f32) (x2 : Vec Bits S1x1x1024 .f32) (x3 : Vec Bits S1x1x1024 .f32) (x4 : Vec Bits S1x1024x1024 .f32) (x5 : Vec Bits S1x1x1024 .f32) (hchk : k0_chk1 i (used c T1)) (hr : reload c T0 T1 i hchk) (hc2 : k0_cond2 i (used c T1) = 1#1) (hc3 : ¬ (k0_cond3 i (used c T1) = 1#1)) :
    Σ' (out : List (View.Piece (Elt Bits) S512x1024 .bf16)) (o0 : Buf (Elt Bits) (scG.view.loc (c : Thread nD τ))) (o1 : Buf (Elt Bits) (scL.view.loc (c : Thread nD τ))), { o2 : Buf (Elt Bits) (scD.view.loc (c : Thread nD τ)) // ∀ (xa0 : Buf (Elt Bits) (scG.view.loc (c : Thread nD τ))) (xa1 : Buf (Elt Bits) (scL.view.loc (c : Thread nD τ))) (xa2 : Buf (Elt Bits) (scD.view.loc (c : Thread nD τ))) (K : PUnit → sProp 𝕄),
      iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ d, owns c arg9 fullShare d) ∗ (scG.view.loc c ↦{fullShare} xa0) ∗ (scL.view.loc c ↦{fullShare} xa1) ∗ (scD.view.loc c ↦{fullShare} xa2) ∗
        (iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ f, arg9.view.loc c ↦[arg9.view.set]{fullShare} arg9.view.writes (Elt Bits) f out) ∗ (scG.view.loc c ↦{fullShare} o0) ∗ (scL.view.loc c ↦{fullShare} o1) ∗ (scD.view.loc c ↦{fullShare} o2)) -∗ K ⟨⟩))
      ⊢ wp frame (wpE (defs₀ (F := Bits)) Variants.none c none) Set.univ (cc0_moe_experts i tbE (Memref.isWhole_whole _) tbN (Memref.isWhole_whole _) arg3 harg3 arg4 harg4 arg5 harg5 arg6 harg6 arg7 harg7 arg8 harg8 arg9 harg9 scG (Memref.isWhole_whole _) scL (Memref.isWhole_whole _) scD (Memref.isWhole_whole _)) K } :=
  ⟨_, _, _, _, fun xa0 xa1 xa2 K => by
    unfold owns
    rw [cc0_moe_experts_eq_skeleton]
    unfold cc0_moe_experts_skel
    iintro ⟨H0, H1, H2, H3, H4, H5, HT0, HT1, ⟨%d6, %f6, -, HO6⟩, HS0, HS1, HS2, Hk⟩
    have hS0 : scG.IsWhole := Memref.isWhole_whole _
    have hS1 : scL.IsWhole := Memref.isWhole_whole _
    have hS2 : scD.IsWhole := Memref.isWhole_whole _
    have hT0 : tbE.IsWhole := Memref.isWhole_whole _
    have hT1 : tbN.IsWhole := Memref.isWhole_whole _
    sl_exec! (disch := first
      | (guard_target = k0_chk1 _ _; exact hchk)
      | (guard_target = Scalar.cmpi _ _ _ = _; exact hr)
      | (guard_target = k0_cond2 _ _ = _; exact hc2)
      | (guard_target = ¬ (k0_cond3 _ _ = _); exact hc3))
    sl_step
    iapply Hk
    isplitl [H0]
    · iexact H0
    isplitl [H1]
    · iexact H1
    isplitl [H2]
    · iexact H2
    isplitl [H3]
    · iexact H3
    isplitl [H4]
    · iexact H4
    isplitl [H5]
    · iexact H5
    isplitl [HT0]
    · iexact HT0
    isplitl [HT1]
    · iexact HT1
    isplitl [HO6]
    · iexists _
      iexact HO6
    isplitl [HS0]
    · iexact HS0
    isplitl [HS1]
    · iexact HS1
    iexact HS2⟩

set_option maxHeartbeats 8000000 in
/-- A used step whose expert is the one before. -/
noncomputable def runKeep (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole) (x0 : Vec Bits S512x1024 .bf16) (x1 : Vec Bits S1x1024x2048 .f32) (x2 : Vec Bits S1x1x1024 .f32) (x3 : Vec Bits S1x1x1024 .f32) (x4 : Vec Bits S1x1024x1024 .f32) (x5 : Vec Bits S1x1x1024 .f32) (xa0 : Buf (Elt Bits) (scG.view.loc (c : Thread nD τ))) (xa1 : Buf (Elt Bits) (scL.view.loc (c : Thread nD τ))) (xa2 : Buf (Elt Bits) (scD.view.loc (c : Thread nD τ))) (hchk : k0_chk1 i (used c T1)) (hr : ¬ reload c T0 T1 i hchk) (hc2 : k0_cond2 i (used c T1) = 1#1) (hc3 : ¬ (k0_cond3 i (used c T1) = 1#1)) :
    { out : List (View.Piece (Elt Bits) S512x1024 .bf16) // ∀ (K : PUnit → sProp 𝕄),
      iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ d, owns c arg9 fullShare d) ∗ (scG.view.loc c ↦{fullShare} xa0) ∗ (scL.view.loc c ↦{fullShare} xa1) ∗ (scD.view.loc c ↦{fullShare} xa2) ∗
        (iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ f, arg9.view.loc c ↦[arg9.view.set]{fullShare} arg9.view.writes (Elt Bits) f out) ∗ (scG.view.loc c ↦{fullShare} xa0) ∗ (scL.view.loc c ↦{fullShare} xa1) ∗ (scD.view.loc c ↦{fullShare} xa2)) -∗ K ⟨⟩))
      ⊢ wp frame (wpE (defs₀ (F := Bits)) Variants.none c none) Set.univ (cc0_moe_experts i tbE (Memref.isWhole_whole _) tbN (Memref.isWhole_whole _) arg3 harg3 arg4 harg4 arg5 harg5 arg6 harg6 arg7 harg7 arg8 harg8 arg9 harg9 scG (Memref.isWhole_whole _) scL (Memref.isWhole_whole _) scD (Memref.isWhole_whole _)) K } :=
  ⟨_, fun K => by
    unfold owns
    rw [cc0_moe_experts_eq_skeleton]
    unfold cc0_moe_experts_skel
    iintro ⟨H0, H1, H2, H3, H4, H5, HT0, HT1, ⟨%d6, %f6, -, HO6⟩, HS0, HS1, HS2, Hk⟩
    have hS0 : scG.IsWhole := Memref.isWhole_whole _
    have hS1 : scL.IsWhole := Memref.isWhole_whole _
    have hS2 : scD.IsWhole := Memref.isWhole_whole _
    have hT0 : tbE.IsWhole := Memref.isWhole_whole _
    have hT1 : tbN.IsWhole := Memref.isWhole_whole _
    sl_exec! (disch := first
      | (guard_target = k0_chk1 _ _; exact hchk)
      | (guard_target = ¬ (Scalar.cmpi _ _ _ = _); exact hr)
      | (guard_target = k0_cond2 _ _ = _; exact hc2)
      | (guard_target = ¬ (k0_cond3 _ _ = _); exact hc3))
    sl_step
    iapply Hk
    isplitl [H0]
    · iexact H0
    isplitl [H1]
    · iexact H1
    isplitl [H2]
    · iexact H2
    isplitl [H3]
    · iexact H3
    isplitl [H4]
    · iexact H4
    isplitl [H5]
    · iexact H5
    isplitl [HT0]
    · iexact HT0
    isplitl [HT1]
    · iexact HT1
    isplitl [HO6]
    · iexists _
      iexact HO6
    isplitl [HS0]
    · iexact HS0
    isplitl [HS1]
    · iexact HS1
    iexact HS2⟩

set_option maxHeartbeats 8000000 in
/-- A step past the used ones: zeros. -/
noncomputable def runIdle (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole) (x0 : Vec Bits S512x1024 .bf16) (x1 : Vec Bits S1x1024x2048 .f32) (x2 : Vec Bits S1x1x1024 .f32) (x3 : Vec Bits S1x1x1024 .f32) (x4 : Vec Bits S1x1024x1024 .f32) (x5 : Vec Bits S1x1x1024 .f32) (xa0 : Buf (Elt Bits) (scG.view.loc (c : Thread nD τ))) (xa1 : Buf (Elt Bits) (scL.view.loc (c : Thread nD τ))) (xa2 : Buf (Elt Bits) (scD.view.loc (c : Thread nD τ))) (hchk : k0_chk1 i (used c T1)) (hr : ¬ reload c T0 T1 i hchk) (hc2 : ¬ (k0_cond2 i (used c T1) = 1#1)) (hc3 : k0_cond3 i (used c T1) = 1#1) :
    { out : List (View.Piece (Elt Bits) S512x1024 .bf16) // ∀ (K : PUnit → sProp 𝕄),
      iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ d, owns c arg9 fullShare d) ∗ (scG.view.loc c ↦{fullShare} xa0) ∗ (scL.view.loc c ↦{fullShare} xa1) ∗ (scD.view.loc c ↦{fullShare} xa2) ∗
        (iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ f, arg9.view.loc c ↦[arg9.view.set]{fullShare} arg9.view.writes (Elt Bits) f out) ∗ (scG.view.loc c ↦{fullShare} xa0) ∗ (scL.view.loc c ↦{fullShare} xa1) ∗ (scD.view.loc c ↦{fullShare} xa2)) -∗ K ⟨⟩))
      ⊢ wp frame (wpE (defs₀ (F := Bits)) Variants.none c none) Set.univ (cc0_moe_experts i tbE (Memref.isWhole_whole _) tbN (Memref.isWhole_whole _) arg3 harg3 arg4 harg4 arg5 harg5 arg6 harg6 arg7 harg7 arg8 harg8 arg9 harg9 scG (Memref.isWhole_whole _) scL (Memref.isWhole_whole _) scD (Memref.isWhole_whole _)) K } :=
  ⟨_, fun K => by
    unfold owns
    rw [cc0_moe_experts_eq_skeleton]
    unfold cc0_moe_experts_skel
    iintro ⟨H0, H1, H2, H3, H4, H5, HT0, HT1, ⟨%d6, %f6, -, HO6⟩, HS0, HS1, HS2, Hk⟩
    have hS0 : scG.IsWhole := Memref.isWhole_whole _
    have hS1 : scL.IsWhole := Memref.isWhole_whole _
    have hS2 : scD.IsWhole := Memref.isWhole_whole _
    have hT0 : tbE.IsWhole := Memref.isWhole_whole _
    have hT1 : tbN.IsWhole := Memref.isWhole_whole _
    sl_exec! (disch := first
      | (guard_target = k0_chk1 _ _; exact hchk)
      | (guard_target = ¬ (Scalar.cmpi _ _ _ = _); exact hr)
      | (guard_target = ¬ (k0_cond2 _ _ = _); exact hc2)
      | (guard_target = k0_cond3 _ _ = _; exact hc3))
    sl_step
    iapply Hk
    isplitl [H0]
    · iexact H0
    isplitl [H1]
    · iexact H1
    isplitl [H2]
    · iexact H2
    isplitl [H3]
    · iexact H3
    isplitl [H4]
    · iexact H4
    isplitl [H5]
    · iexact H5
    isplitl [HT0]
    · iexact HT0
    isplitl [HT1]
    · iexact HT1
    isplitl [HO6]
    · iexists _
      iexact HO6
    isplitl [HS0]
    · iexact HS0
    isplitl [HS1]
    · iexact HS1
    iexact HS2⟩

set_option maxHeartbeats 8000000 in
/-- The first step when no block is used: weights are cast, zeros are stored. -/
noncomputable def runReloadIdle (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole) (x0 : Vec Bits S512x1024 .bf16) (x1 : Vec Bits S1x1024x2048 .f32) (x2 : Vec Bits S1x1x1024 .f32) (x3 : Vec Bits S1x1x1024 .f32) (x4 : Vec Bits S1x1024x1024 .f32) (x5 : Vec Bits S1x1x1024 .f32) (hchk : k0_chk1 i (used c T1)) (hr : reload c T0 T1 i hchk) (hc2 : ¬ (k0_cond2 i (used c T1) = 1#1)) (hc3 : k0_cond3 i (used c T1) = 1#1) :
    Σ' (out : List (View.Piece (Elt Bits) S512x1024 .bf16)) (o0 : Buf (Elt Bits) (scG.view.loc (c : Thread nD τ))) (o1 : Buf (Elt Bits) (scL.view.loc (c : Thread nD τ))), { o2 : Buf (Elt Bits) (scD.view.loc (c : Thread nD τ)) // ∀ (xa0 : Buf (Elt Bits) (scG.view.loc (c : Thread nD τ))) (xa1 : Buf (Elt Bits) (scL.view.loc (c : Thread nD τ))) (xa2 : Buf (Elt Bits) (scD.view.loc (c : Thread nD τ))) (K : PUnit → sProp 𝕄),
      iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ d, owns c arg9 fullShare d) ∗ (scG.view.loc c ↦{fullShare} xa0) ∗ (scL.view.loc c ↦{fullShare} xa1) ∗ (scD.view.loc c ↦{fullShare} xa2) ∗
        (iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ f, arg9.view.loc c ↦[arg9.view.set]{fullShare} arg9.view.writes (Elt Bits) f out) ∗ (scG.view.loc c ↦{fullShare} o0) ∗ (scL.view.loc c ↦{fullShare} o1) ∗ (scD.view.loc c ↦{fullShare} o2)) -∗ K ⟨⟩))
      ⊢ wp frame (wpE (defs₀ (F := Bits)) Variants.none c none) Set.univ (cc0_moe_experts i tbE (Memref.isWhole_whole _) tbN (Memref.isWhole_whole _) arg3 harg3 arg4 harg4 arg5 harg5 arg6 harg6 arg7 harg7 arg8 harg8 arg9 harg9 scG (Memref.isWhole_whole _) scL (Memref.isWhole_whole _) scD (Memref.isWhole_whole _)) K } :=
  ⟨_, _, _, _, fun xa0 xa1 xa2 K => by
    unfold owns
    rw [cc0_moe_experts_eq_skeleton]
    unfold cc0_moe_experts_skel
    iintro ⟨H0, H1, H2, H3, H4, H5, HT0, HT1, ⟨%d6, %f6, -, HO6⟩, HS0, HS1, HS2, Hk⟩
    have hS0 : scG.IsWhole := Memref.isWhole_whole _
    have hS1 : scL.IsWhole := Memref.isWhole_whole _
    have hS2 : scD.IsWhole := Memref.isWhole_whole _
    have hT0 : tbE.IsWhole := Memref.isWhole_whole _
    have hT1 : tbN.IsWhole := Memref.isWhole_whole _
    sl_exec! (disch := first
      | (guard_target = k0_chk1 _ _; exact hchk)
      | (guard_target = Scalar.cmpi _ _ _ = _; exact hr)
      | (guard_target = ¬ (k0_cond2 _ _ = _); exact hc2)
      | (guard_target = k0_cond3 _ _ = _; exact hc3))
    sl_step
    iapply Hk
    isplitl [H0]
    · iexact H0
    isplitl [H1]
    · iexact H1
    isplitl [H2]
    · iexact H2
    isplitl [H3]
    · iexact H3
    isplitl [H4]
    · iexact H4
    isplitl [H5]
    · iexact H5
    isplitl [HT0]
    · iexact HT0
    isplitl [HT1]
    · iexact HT1
    isplitl [HO6]
    · iexists _
      iexact HO6
    isplitl [HS0]
    · iexact HS0
    isplitl [HS1]
    · iexact HS1
    iexact HS2⟩

end Cert.Kernel.Moe
-- ==== Proof.MoeBits.Step.lean ====
module

public import proofs.«01_k».proof.Proof.MoeBits.Tables
public import Idealize.ShloMosaic.Lib.VecWindow

@[expose] public section

set_option maxRecDepth 16384
set_option Elab.async false
set_option backward.proofsInPublic true

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (c : Dev nD)

/-! ## What the scratches hold after an expert's weights are cast -/

/-- The gate columns, from the expert's first weight block. -/
def bG (x1 : Vec Bits S1x1024x2048 .f32) : Buf (Elt Bits) (scG.view.loc (c : Thread nD τ)) :=
  (View.whole cc0_scratch0).writes (Elt Bits) (View.whole cc0_scratch0).junk (runReload.sl.HS0_8 (Memref.whole cc0_stg1_0) x1)
/-- The linear columns. -/
def bL (x1 : Vec Bits S1x1024x2048 .f32) : Buf (Elt Bits) (scL.view.loc (c : Thread nD τ)) :=
  (View.whole cc0_scratch1).writes (Elt Bits) (View.whole cc0_scratch1).junk (runReload.sl.HS1_8 (Memref.whole cc0_stg1_0) x1)
/-- The second weight block. -/
def bD (x4 : Vec Bits S1x1024x1024 .f32) : Buf (Elt Bits) (scD.view.loc (c : Thread nD τ)) :=
  (View.whole cc0_scratch2).writes (Elt Bits) (View.whole cc0_scratch2).junk (runReload.sl.HS2_1 (Memref.whole cc0_stg4_0) x4)

/-- The same, read whole, as the products take them. -/
def wG (x1 : Vec Bits S1x1024x2048 .f32) : Vec Bits S1024x1024 .bf16 :=
  View.readAt (Elt Bits) scG.view (Rect.unit (s := S1024x1024) ![0, 0] S1024x1024.size inb_S1024x1024_S1024x1024_0_0).toLoadRect (bG c x1)
def wL (x1 : Vec Bits S1x1024x2048 .f32) : Vec Bits S1024x1024 .bf16 :=
  View.readAt (Elt Bits) scL.view (Rect.unit (s := S1024x1024) ![0, 0] S1024x1024.size inb_S1024x1024_S1024x1024_0_0).toLoadRect (bL c x1)
def wD (x4 : Vec Bits S1x1024x1024 .f32) : Vec Bits S1024x1024 .bf16 :=
  View.readAt (Elt Bits) scD.view (Rect.unit (s := S1024x1024) ![0, 0] S1024x1024.size inb_S1024x1024_S1024x1024_0_0).toLoadRect (bD c x4)

/-- A used step's output block. -/
def yUsed (x0 : Vec Bits S512x1024 .bf16) (x1 : Vec Bits S1x1024x2048 .f32) (x2 : Vec Bits S1x1x1024 .f32) (x3 : Vec Bits S1x1x1024 .f32) (x4 : Vec Bits S1x1024x1024 .f32) (x5 : Vec Bits S1x1x1024 .f32) : Vec Bits S512x1024 .bf16 :=
  k0_pay7 (k0_pay31 x0 (wG c x1) x2 (wL c x1) x3 (wD c x4)) x5

/-- The cast weights do not depend on the staging buffer that they came through. -/
theorem gate_pieces (a b : Memref sig .tc .vmem S1x1024x2048 .f32) (x1 : Vec Bits S1x1024x2048 .f32) :
    runReload.sl.HS0_8 a x1 = runReload.sl.HS0_8 b x1 := by
  simp only [runReload.sl.HS0_8, runReload.sl.r, runReload.sl.r_1, runReload.sl.r_2, runReload.sl.r_3, runReload.sl.r_4, runReload.sl.r_5, runReload.sl.r_6, runReload.sl.r_7, View.readAt_rep]
theorem lin_pieces (a b : Memref sig .tc .vmem S1x1024x2048 .f32) (x1 : Vec Bits S1x1024x2048 .f32) :
    runReload.sl.HS1_8 a x1 = runReload.sl.HS1_8 b x1 := by
  simp only [runReload.sl.HS1_8, runReload.sl.r, runReload.sl.r_1, runReload.sl.r_2, runReload.sl.r_3, runReload.sl.r_4, runReload.sl.r_5, runReload.sl.r_6, runReload.sl.r_7, View.readAt_rep]
theorem down_pieces (a b : Memref sig .tc .vmem S1x1024x1024 .f32) (x4 : Vec Bits S1x1024x1024 .f32) :
    runReload.sl.HS2_1 a x4 = runReload.sl.HS2_1 b x4 := by
  simp only [runReload.sl.HS2_1, View.readAt_rep]

variable (T0 : Buf (Elt Bits) (tbE.view.loc (c : Thread nD τ))) (T1 : Buf (Elt Bits) (tbN.view.loc (c : Thread nD τ)))
variable (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole)
variable (x0 : Vec Bits S512x1024 .bf16) (x1 : Vec Bits S1x1024x2048 .f32) (x2 : Vec Bits S1x1x1024 .f32) (x3 : Vec Bits S1x1x1024 .f32) (x4 : Vec Bits S1x1024x1024 .f32) (x5 : Vec Bits S1x1x1024 .f32)
variable (hchk : k0_chk1 i (used c T1))

section
variable (hr : reload c T0 T1 i hchk) (hc2 : k0_cond2 i (used c T1) = 1#1) (hc3 : ¬ (k0_cond3 i (used c T1) = 1#1))

theorem reload_gate : (runReload c T0 T1 i arg3 harg3 arg4 harg4 arg5 harg5 arg6 harg6 arg7 harg7 arg8 harg8 arg9 harg9 x0 x1 x2 x3 x4 x5 hchk hr hc2 hc3).2.1 = bG c x1 := by
  delta runReload; dsimp only
  unfold bG; rw [gate_pieces arg4 (Memref.whole cc0_stg1_0)]
theorem reload_lin : (runReload c T0 T1 i arg3 harg3 arg4 harg4 arg5 harg5 arg6 harg6 arg7 harg7 arg8 harg8 arg9 harg9 x0 x1 x2 x3 x4 x5 hchk hr hc2 hc3).2.2.1 = bL c x1 := by
  delta runReload; dsimp only
  unfold bL; rw [lin_pieces arg4 (Memref.whole cc0_stg1_0)]
theorem reload_down : (runReload c T0 T1 i arg3 harg3 arg4 harg4 arg5 harg5 arg6 harg6 arg7 harg7 arg8 harg8 arg9 harg9 x0 x1 x2 x3 x4 x5 hchk hr hc2 hc3).2.2.2.1 = bD c x4 := by
  delta runReload; dsimp only
  unfold bD; rw [down_pieces arg7 (Memref.whole cc0_stg4_0)]

theorem reload_out (f) : arg9.view.read (Elt Bits) (arg9.view.writes (Elt Bits) f (runReload c T0 T1 i arg3 harg3 arg4 harg4 arg5 harg5 arg6 harg6 arg7 harg7 arg8 harg8 arg9 harg9 x0 x1 x2 x3 x4 x5 hchk hr hc2 hc3).1) = yUsed c x0 x1 x2 x3 x4 x5 := by
  delta runReload; dsimp only
  unfold runReload.sl.HO6_1 runReload.sl.r_8
  rw [View.read_writes_full]
  unfold yUsed wG wL wD bG bL bD
  rw [View.readAt_rep_full arg3.view x0, View.readAt_rep_full arg5.view x2, View.readAt_rep_full arg6.view x3, View.readAt_rep_full arg8.view x5]
  rw [gate_pieces (Memref.whole cc0_stg1_0) arg4, lin_pieces (Memref.whole cc0_stg1_0) arg4, down_pieces (Memref.whole cc0_stg4_0) arg7]
  rfl
end

section
variable (hr : reload c T0 T1 i hchk) (hc2 : ¬ (k0_cond2 i (used c T1) = 1#1)) (hc3 : k0_cond3 i (used c T1) = 1#1)

theorem reloadIdle_out (f) : arg9.view.read (Elt Bits) (arg9.view.writes (Elt Bits) f (runReloadIdle c T0 T1 i arg3 harg3 arg4 harg4 arg5 harg5 arg6 harg6 arg7 harg7 arg8 harg8 arg9 harg9 x0 x1 x2 x3 x4 x5 hchk hr hc2 hc3).1) = k0_pay8 (F := Bits) := by
  show arg9.view.read (Elt Bits) (arg9.view.writes (Elt Bits) f runReloadIdle.sl.HO6_1) = _
  unfold runReloadIdle.sl.HO6_1
  rw [View.read_writes_full]
end

section
variable (hr : ¬ reload c T0 T1 i hchk) (hc2 : ¬ (k0_cond2 i (used c T1) = 1#1)) (hc3 : k0_cond3 i (used c T1) = 1#1)

theorem idle_out (xa0 : Buf (Elt Bits) (scG.view.loc (c : Thread nD τ))) (xa1 : Buf (Elt Bits) (scL.view.loc (c : Thread nD τ))) (xa2 : Buf (Elt Bits) (scD.view.loc (c : Thread nD τ))) (f) : arg9.view.read (Elt Bits) (arg9.view.writes (Elt Bits) f (runIdle c T0 T1 i arg3 harg3 arg4 harg4 arg5 harg5 arg6 harg6 arg7 harg7 arg8 harg8 arg9 harg9 x0 x1 x2 x3 x4 x5 xa0 xa1 xa2 hchk hr hc2 hc3).1) = k0_pay8 (F := Bits) := by
  show arg9.view.read (Elt Bits) (arg9.view.writes (Elt Bits) f runIdle.sl.HO6_1) = _
  unfold runIdle.sl.HO6_1
  rw [View.read_writes_full]
end

section
variable (hr : ¬ reload c T0 T1 i hchk) (hc2 : k0_cond2 i (used c T1) = 1#1) (hc3 : ¬ (k0_cond3 i (used c T1) = 1#1))

theorem keep_out (f) : arg9.view.read (Elt Bits) (arg9.view.writes (Elt Bits) f (runKeep c T0 T1 i arg3 harg3 arg4 harg4 arg5 harg5 arg6 harg6 arg7 harg7 arg8 harg8 arg9 harg9 x0 x1 x2 x3 x4 x5 (bG c x1) (bL c x1) (bD c x4) hchk hr hc2 hc3).1) = yUsed c x0 x1 x2 x3 x4 x5 := by
  show arg9.view.read (Elt Bits) (arg9.view.writes (Elt Bits) f (runKeep.sl.HO6_1 c arg3 arg5 arg6 arg8 x0 x2 x3 x5 (bG c x1) (bL c x1) (bD c x4))) = _
  unfold runKeep.sl.HO6_1 runKeep.sl.r_3
  rw [View.read_writes_full]
  unfold yUsed wG wL wD
  rw [View.readAt_rep_full arg3.view x0, View.readAt_rep_full arg5.view x2, View.readAt_rep_full arg6.view x3, View.readAt_rep_full arg8.view x5]
end

end Cert.Kernel.Moe

end
-- ==== Proof.MoeBits.Cfg.lean ====
module

public import proofs.«01_k».proof.Proof.MoeBits.Step

@[expose] public section

set_option maxRecDepth 16384
set_option Elab.async false
set_option backward.proofsInPublic true

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The table's side condition -/

/-- Entry `n` of a table of the launch. -/
def tblEntry (pf : pre0.Contents (Elt Bits)) (n : Fin 291) : BitVec 32 := (pf 0 : S291.Idx → BitVec 32) fun | ⟨0, _⟩ => n

/-- The block of the first weights at a step is the one that the table names. -/
theorem transform_1_eq (pf : pre0.Contents (Elt Bits)) (i : grid0.Coords) :
    cc0_transform_1 k0_off1_inb numel1_S1 pf i = ![(tblEntry pf (i 0)).toNat, 0, 0] := by
  have hi : (i 0).val < 291 := (i 0).isLt
  unfold cc0_transform_1 tblEntry
  dsimp only
  refine congrArg (fun w : BitVec 32 => ![w.toNat, 0, 0]) ?_
  refine congrArg (pf 0 : S291.Idx → BitVec 32) (funext fun a => ?_)
  match a with
  | ⟨0, _⟩ =>
    refine Fin.ext ?_
    show (BitVec.ofNat 32 (i 0).val).toNat + 1 * 0 = (i 0).val
    rw [BitVec.toNat_ofNat, Nat.mod_eq_of_lt (by omega)]; omega

/-- A table whose entries are experts puts every block inside its array. -/
theorem ok_of_range (pf : pre0.Contents (Elt Bits)) (h : ∀ n, (tblEntry pf n).toNat < 32) : ok0 pf := by
  unfold ok0
  have h1 : ∀ i, cc0_transform_1 k0_off1_inb numel1_S1 pf i = ![(tblEntry pf (i 0)).toNat, 0, 0] := transform_1_eq pf
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inl rfl⟩⟩
  all_goals
    have hn := h (i 0)
    have e := congrFun (h1 i) a
    match a with
    | ⟨0, _⟩ =>
      have e' : cc0_transform_1 k0_off1_inb numel1_S1 pf i (0 : Fin 3) = (tblEntry pf (i 0)).toNat := e
      show (cc0_transform_1 k0_off1_inb numel1_S1 pf i (0 : Fin 3) + 1) * 1 ≤ 32
      rw [e']; omega
    | ⟨1, _⟩ => exact Nat.le_refl _
    | ⟨2, _⟩ => exact Nat.le_refl _

variable (a : (pcfg0 (F := Bits)).Adm)
variable (m : (ℓ : Loc nD τ sig) → Buf (Elt Bits) ℓ) (ρ : Dev nD → PrngReg)

/-- The pipeline at admissible tables. -/
abbrev cfgA : Pipeline.Cfg sig Λ₀ := cfg0 (F := Bits) a
abbrev pcs : Fin 1 → Pipeline.Cfg sig Λ₀ := Pipeline.pin (pcfgs (F := Bits)) fun _ => a

/-- Step `t`'s coordinates. -/
abbrev crd (t : Fin (cfgA a).N) : (cfgA a).grid.Coords := (cfgA a).grid.coords t

/-- The one coordinate of step `t` is `t`. -/
theorem crd_val (t : Fin (cfgA a).N) : ((crd a t) 0).val = t.val := by
  have h : ∀ t : Fin grid0.N, ((grid0.coords t) 0).val = t.val := by decide +kernel
  exact h t

/-- The expert of step `t`, an index of the weight arrays. -/
def ex (t : Fin (cfgA a).N) : Fin 32 :=
  ⟨(tblEntry a.1 ((crd a t) 0)).toNat, by
    obtain ⟨h, -⟩ := a.2.1 (crd a t)
    have h0 : (cc0_transform_1 k0_off1_inb numel1_S1 a.1 (crd a t) (0 : Fin 3) + 1) * 1 ≤ 32 := h (0 : Fin 3)
    have e : cc0_transform_1 k0_off1_inb numel1_S1 a.1 (crd a t) (0 : Fin 3) = (tblEntry a.1 ((crd a t) 0)).toNat := congrFun (transform_1_eq a.1 (crd a t)) (0 : Fin 3)
    omega⟩

/-- Window `w`'s block at step `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) (m (((cfgA a).win w).arr.view.loc (c : Thread nD τ)))

/-- The place of a block's element in a weight array. -/
def at3 {n1 n2 : Nat} (e : Fin 32) (y : (⟨3, ![1, n1, n2]⟩ : Shape).Idx) : (⟨3, ![32, n1, n2]⟩ : Shape).Idx := fun
  | ⟨0, _⟩ => e
  | ⟨1, _⟩ => y 1
  | ⟨2, _⟩ => y 2

theorem iblk1_apply (c : Dev nD) (t : Fin (cfgA a).N) (y : S1x1024x2048.Idx) :
    iblk a m c (1 : Fin 7) t y = (m ((c : Thread nD τ).loc main_arg3) : S32x1024x2048.Idx → Elt Bits .f32) (at3 (ex a t) y) := by
  unfold iblk
  refine congrArg (m ((c : Thread nD τ).loc main_arg3) : S32x1024x2048.Idx → Elt Bits .f32) (funext fun d => ?_)
  have hy : (y 0).val < 1 := (y 0).isLt
  have e := transform_1_eq a.1 (crd a t)
  match d with
  | ⟨0, _⟩ =>
    refine Fin.ext ?_
    show cc0_transform_1 k0_off1_inb numel1_S1 a.1 (crd a t) (0 : Fin 3) * 1 + 1 * (y 0).val = (tblEntry a.1 ((crd a t) 0)).toNat
    rw [e]
    show (tblEntry a.1 ((crd a t) 0)).toNat * 1 + 1 * (y 0).val = _
    omega
  | ⟨1, _⟩ => exact Fin.ext (by show 0 * 1024 + 1 * (y 1).val = (y 1).val; omega)
  | ⟨2, _⟩ => exact Fin.ext (by show 0 * 2048 + 1 * (y 2).val = (y 2).val; omega)

theorem iblk4_apply (c : Dev nD) (t : Fin (cfgA a).N) (y : S1x1024x1024.Idx) :
    iblk a m c (4 : Fin 7) t y = (m ((c : Thread nD τ).loc main_arg6) : S32x1024x1024.Idx → Elt Bits .f32) (at3 (ex a t) y) := by
  unfold iblk
  refine congrArg (m ((c : Thread nD τ).loc main_arg6) : S32x1024x1024.Idx → Elt Bits .f32) (funext fun d => ?_)
  have hy : (y 0).val < 1 := (y 0).isLt
  have e := transform_1_eq a.1 (crd a t)
  match d with
  | ⟨0, _⟩ =>
    refine Fin.ext ?_
    show cc0_transform_1 k0_off1_inb numel1_S1 a.1 (crd a t) (0 : Fin 3) * 1 + 1 * (y 0).val = (tblEntry a.1 ((crd a t) 0)).toNat
    rw [e]
    show (tblEntry a.1 ((crd a t) 0)).toNat * 1 + 1 * (y 0).val = _
    omega
  | ⟨1, _⟩ => exact Fin.ext (by show 0 * 1024 + 1 * (y 1).val = (y 1).val; omega)
  | ⟨2, _⟩ => exact Fin.ext (by show 0 * 1024 + 1 * (y 2).val = (y 2).val; omega)

/-- Steps of one expert have the same weight blocks. -/
theorem iblk1_congr (c : Dev nD) {t t' : Fin (cfgA a).N} (h : ex a t = ex a t') :
    (iblk a m c (1 : Fin 7) t : Vec Bits S1x1024x2048 .f32) = iblk a m c (1 : Fin 7) t' :=
  funext fun y => by rw [iblk1_apply, iblk1_apply, h]
theorem iblk4_congr (c : Dev nD) {t t' : Fin (cfgA a).N} (h : ex a t = ex a t') :
    (iblk a m c (4 : Fin 7) t : Vec Bits S1x1024x1024 .f32) = iblk a m c (4 : Fin 7) t' :=
  funext fun y => by rw [iblk4_apply, iblk4_apply, h]

end Cert.Kernel.Moe

end
-- ==== Proof.MoeBits.Frame.lean ====
module

public import proofs.«01_k».proof.Proof.MoeBits.Cfg
public import Idealize.ShloMosaic.Lib.Pipeline.Quiescent
public import Idealize.ShloMosaic.Lib.Pipeline.TableIdle

@[expose] public section

set_option maxRecDepth 16384
set_option Elab.async false
set_option backward.proofsInPublic true

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

variable (a : (pcfg0 (F := Bits)).Adm)
variable (m : (ℓ : Loc nD τ sig) → Buf (Elt Bits) ℓ) (ρ : Dev nD → PrngReg)

/-! ## A step's staging buffers -/

abbrev ms0 (t : Fin (cfgA a).N) : Memref sig .tc .vmem S512x1024 .bf16 := spec0_0.stage ((cfgA a).slots t (0 : Fin 7))
abbrev hs0 (t : Fin (cfgA a).N) : (ms0 a t).IsWhole := hstage0_0 (((cfgA a).slots t (0 : Fin 7)).cast nbuf0_0)
abbrev ms1 (t : Fin (cfgA a).N) : Memref sig .tc .vmem S1x1024x2048 .f32 := spec0_1.stage ((cfgA a).slots t (1 : Fin 7))
abbrev hs1 (t : Fin (cfgA a).N) : (ms1 a t).IsWhole := hstage0_1 (((cfgA a).slots t (1 : Fin 7)).cast nbuf0_1)
abbrev ms2 (t : Fin (cfgA a).N) : Memref sig .tc .vmem S1x1x1024 .f32 := spec0_2.stage ((cfgA a).slots t (2 : Fin 7))
abbrev hs2 (t : Fin (cfgA a).N) : (ms2 a t).IsWhole := hstage0_2 (((cfgA a).slots t (2 : Fin 7)).cast nbuf0_2)
abbrev ms3 (t : Fin (cfgA a).N) : Memref sig .tc .vmem S1x1x1024 .f32 := spec0_3.stage ((cfgA a).slots t (3 : Fin 7))
abbrev hs3 (t : Fin (cfgA a).N) : (ms3 a t).IsWhole := hstage0_3 (((cfgA a).slots t (3 : Fin 7)).cast nbuf0_3)
abbrev ms4 (t : Fin (cfgA a).N) : Memref sig .tc .vmem S1x1024x1024 .f32 := spec0_4.stage ((cfgA a).slots t (4 : Fin 7))
abbrev hs4 (t : Fin (cfgA a).N) : (ms4 a t).IsWhole := hstage0_4 (((cfgA a).slots t (4 : Fin 7)).cast nbuf0_4)
abbrev ms5 (t : Fin (cfgA a).N) : Memref sig .tc .vmem S1x1x1024 .f32 := spec0_5.stage ((cfgA a).slots t (5 : Fin 7))
abbrev hs5 (t : Fin (cfgA a).N) : (ms5 a t).IsWhole := hstage0_5 (((cfgA a).slots t (5 : Fin 7)).cast nbuf0_5)
abbrev ms6 (t : Fin (cfgA a).N) : Memref sig .tc .vmem S512x1024 .bf16 := spec0_6.stage ((cfgA a).slots t (6 : Fin 7))
abbrev hs6 (t : Fin (cfgA a).N) : (ms6 a t).IsWhole := hstage0_6 (((cfgA a).slots t (6 : Fin 7)).cast nbuf0_6)

/-- Step `t` is one of the used ones. -/
def isUsed (c : Dev nD) (t : Fin (cfgA a).N) : Prop := (t.val : Int) < (used c (a.1 1)).toInt

open Classical in
/-- The block that step `t` writes: the expert's output at a used step, zeros past the used ones. -/
def outBlock (c : Dev nD) (t : Fin (cfgA a).N) : Vec Bits S512x1024 .bf16 :=
  if isUsed a c t then yUsed c (iblk a m c (0 : Fin 7) t) (iblk a m c (1 : Fin 7) t) (iblk a m c (2 : Fin 7) t) (iblk a m c (3 : Fin 7) t) (iblk a m c (4 : Fin 7) t) (iblk a m c (5 : Fin 7) t) else k0_pay8 (F := Bits)

theorem outBlock_used (c : Dev nD) (t : Fin (cfgA a).N) (h : isUsed a c t) : outBlock a m c t = yUsed c (iblk a m c (0 : Fin 7) t) (iblk a m c (1 : Fin 7) t) (iblk a m c (2 : Fin 7) t) (iblk a m c (3 : Fin 7) t) (iblk a m c (4 : Fin 7) t) (iblk a m c (5 : Fin 7) t) := by
  unfold outBlock; rw [if_pos h]
theorem outBlock_idle (c : Dev nD) (t : Fin (cfgA a).N) (h : ¬ isUsed a c t) : outBlock a m c t = k0_pay8 (F := Bits) := by
  unfold outBlock; rw [if_neg h]

/-- Between steps: after a used step the scratches hold its expert's weights; the tables are held throughout. -/
def Phi (c : Dev nD) (k : Fin ((cfgA a).N + 1)) : sProp 𝕄 :=
  iprop((∃ (b0 : Buf (Elt Bits) (scG.view.loc (c : Thread nD τ))) (b1 : Buf (Elt Bits) (scL.view.loc (c : Thread nD τ))) (b2 : Buf (Elt Bits) (scD.view.loc (c : Thread nD τ))),
      ⌜∀ s : Fin (cfgA a).N, s.val + 1 = k.val → isUsed a c s →
        b0 = bG c (iblk a m c (1 : Fin 7) s) ∧ b1 = bL c (iblk a m c (1 : Fin 7) s) ∧ b2 = bD c (iblk a m c (4 : Fin 7) s)⌝
      ∗ (scG.view.loc (c : Thread nD τ) ↦{fullShare} b0) ∗ (scL.view.loc (c : Thread nD τ) ↦{fullShare} b1) ∗ (scD.view.loc (c : Thread nD τ) ↦{fullShare} b2))
    ∗ (tbE.view.loc (c : Thread nD τ) ↦{fullShare.right} a.1 0) ∗ (tbN.view.loc (c : Thread nD τ) ↦{fullShare.right} a.1 1))

/-- The proof data of the pipeline. -/
def dats (_ : Fin 1) (c : Dev nD) : Dat τ (Elt Bits) Unit ℕ (UR sig nD τ) ℕ (cfgA a) c where
  A w := m (((cfgA a).win w).arr.view.loc (c : Thread nD τ))
  after w t := match w with
    | ⟨0, _⟩ => iblk a m c (0 : Fin 7) t
    | ⟨1, _⟩ => iblk a m c (1 : Fin 7) t
    | ⟨2, _⟩ => iblk a m c (2 : Fin 7) t
    | ⟨3, _⟩ => iblk a m c (3 : Fin 7) t
    | ⟨4, _⟩ => iblk a m c (4 : Fin 7) t
    | ⟨5, _⟩ => iblk a m c (5 : Fin 7) t
    | ⟨6, _⟩ => outBlock a m c t
  Φ t := Phi a m c t
  q _ := fullShare
  owed _ := 0

theorem after_0 (c : Dev nD) (t : Fin (cfgA a).N) : (dats a m 0 c).after (0 : Fin 7) t = iblk a m c (0 : Fin 7) t := rfl
theorem after_1 (c : Dev nD) (t : Fin (cfgA a).N) : (dats a m 0 c).after (1 : Fin 7) t = iblk a m c (1 : Fin 7) t := rfl
theorem after_2 (c : Dev nD) (t : Fin (cfgA a).N) : (dats a m 0 c).after (2 : Fin 7) t = iblk a m c (2 : Fin 7) t := rfl
theorem after_3 (c : Dev nD) (t : Fin (cfgA a).N) : (dats a m 0 c).after (3 : Fin 7) t = iblk a m c (3 : Fin 7) t := rfl
theorem after_4 (c : Dev nD) (t : Fin (cfgA a).N) : (dats a m 0 c).after (4 : Fin 7) t = iblk a m c (4 : Fin 7) t := rfl
theorem after_5 (c : Dev nD) (t : Fin (cfgA a).N) : (dats a m 0 c).after (5 : Fin 7) t = iblk a m c (5 : Fin 7) t := rfl
theorem after_6 (c : Dev nD) (t : Fin (cfgA a).N) : (dats a m 0 c).after (6 : Fin 7) t = outBlock a m c t := rfl

theorem before_0 (c : Dev nD) (t : Fin (cfgA a).N) (d) : (dats a m 0 c).before (0 : Fin 7) t d = iblk a m c (0 : Fin 7) t :=
  ((dats a m 0 c).before_in_eq_fetched (0 : Fin 7) rfl (fun _ => rfl) (fun _ _ _ => rfl)
    (fun t => by rw [after_0]; unfold Dat.blockOf iblk; rfl) t d).trans (by unfold Dat.fetched Dat.blockOf iblk; rfl)
theorem before_1 (c : Dev nD) (t : Fin (cfgA a).N) (d) : (dats a m 0 c).before (1 : Fin 7) t d = iblk a m c (1 : Fin 7) t :=
  ((dats a m 0 c).before_in_eq_fetched (1 : Fin 7) rfl (fun _ => rfl) (fun _ _ _ => rfl)
    (fun t => by rw [after_1]; unfold Dat.blockOf iblk; rfl) t d).trans (by unfold Dat.fetched Dat.blockOf iblk; rfl)
theorem before_2 (c : Dev nD) (t : Fin (cfgA a).N) (d) : (dats a m 0 c).before (2 : Fin 7) t d = iblk a m c (2 : Fin 7) t :=
  ((dats a m 0 c).before_in_eq_fetched (2 : Fin 7) rfl (fun _ => rfl) (fun _ _ _ => rfl)
    (fun t => by rw [after_2]; unfold Dat.blockOf iblk; rfl) t d).trans (by unfold Dat.fetched Dat.blockOf iblk; rfl)
theorem before_3 (c : Dev nD) (t : Fin (cfgA a).N) (d) : (dats a m 0 c).before (3 : Fin 7) t d = iblk a m c (3 : Fin 7) t :=
  ((dats a m 0 c).before_in_eq_fetched (3 : Fin 7) rfl (fun _ => rfl) (fun _ _ _ => rfl)
    (fun t => by rw [after_3]; unfold Dat.blockOf iblk; rfl) t d).trans (by unfold Dat.fetched Dat.blockOf iblk; rfl)
theorem before_4 (c : Dev nD) (t : Fin (cfgA a).N) (d) : (dats a m 0 c).before (4 : Fin 7) t d = iblk a m c (4 : Fin 7) t :=
  ((dats a m 0 c).before_in_eq_fetched (4 : Fin 7) rfl (fun _ => rfl) (fun _ _ _ => rfl)
    (fun t => by rw [after_4]; unfold Dat.blockOf iblk; rfl) t d).trans (by unfold Dat.fetched Dat.blockOf iblk; rfl)
theorem before_5 (c : Dev nD) (t : Fin (cfgA a).N) (d) : (dats a m 0 c).before (5 : Fin 7) t d = iblk a m c (5 : Fin 7) t :=
  ((dats a m 0 c).before_in_eq_fetched (5 : Fin 7) rfl (fun _ => rfl) (fun _ _ _ => rfl)
    (fun t => by rw [after_5]; unfold Dat.blockOf iblk; rfl) t d).trans (by unfold Dat.fetched Dat.blockOf iblk; rfl)

/-- Every step stores its output block. -/
theorem idle_6 (t : Fin (cfgA a).N) : (cfgA a).idle (6 : Fin 7) ((cfgA a).grid.coords t) = false := by
  show (!(k0_cond2 (crd a t) (a.1.atD 1 ![0]) == 1#1) && !(k0_cond3 (crd a t) (a.1.atD 1 ![0]) == 1#1)) = false
  generalize a.1.atD 1 ![0] = v
  rcases lt_or_ge ((((crd a t) 0).val : Int)) (BitVec.toInt v) with h | h
  · rw [(cond2_iff (crd a t) v).2 h]; rfl
  · rw [(cond3_iff (crd a t) v).2 h]; simp

/-- The body at step `t`, as the pipeline calls it. -/
abbrev bodyAt (t : Fin (cfgA a).N) : Prog (TpuEff nD τ sig (Elt Bits) Λ₀ .tc) PUnit :=
  cc0_moe_experts (crd a t) (Memref.whole main_arg0) (Memref.isWhole_whole _) (Memref.whole main_arg1) (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (Memref.whole cc0_scratch0) (Memref.isWhole_whole _) (Memref.whole cc0_scratch1) (Memref.isWhole_whole _) (Memref.whole cc0_scratch2) (Memref.isWhole_whole _)

/-- The entry of the prefetched table, in the two forms of it that are used. -/
theorem tblEntry_eq (c : Dev nD) (pf : pre0.Contents (Elt Bits)) (n : Fin 291) : tblEntry pf n = entry c (pf 0) n := by
  unfold tblEntry entry
  refine congrArg (pf 0 : S291.Idx → BitVec 32) (funext fun b => ?_)
  match b with
  | ⟨0, _⟩ => rfl

set_option maxHeartbeats 4000000 in
/-- One step: from the invariant and the staged blocks, the body runs and leaves the invariant of the next step. -/
theorem sound_body (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 7) t d))
        ∗ (∃ d, owns (c : Thread nD τ) (ms1 a t) fullShare ((dats a m 0 c).before (1 : Fin 7) t d))
        ∗ (∃ d, owns (c : Thread nD τ) (ms2 a t) fullShare ((dats a m 0 c).before (2 : Fin 7) t d))
        ∗ (∃ d, owns (c : Thread nD τ) (ms3 a t) fullShare ((dats a m 0 c).before (3 : Fin 7) t d))
        ∗ (∃ d, owns (c : Thread nD τ) (ms4 a t) fullShare ((dats a m 0 c).before (4 : Fin 7) t d))
        ∗ (∃ d, owns (c : Thread nD τ) (ms5 a t) fullShare ((dats a m 0 c).before (5 : Fin 7) t d))
        ∗ (∃ d, owns (c : Thread nD τ) (ms6 a t) fullShare ((dats a m 0 c).before (6 : Fin 7) t d)))
      ⊢ wp frame (wpE (defs₀ (F := Bits)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  have hv := crd_val a t
  have hchk : k0_chk1 (crd a t) (used c (a.1 1)) := k0_chk1_all _ _
  rewrite [idle_6]
  simp only [before_0, before_1, before_2, before_3, before_4, before_5, after_0, after_1, after_2, after_3, after_4, after_5, after_6]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi
  simp only [Fin.val_castSucc, Fin.val_succ]
  iintro ⟨⟨⟨%b0, %b1, %b2, %hb, HS0, HS1, HS2⟩, HT0, HT1⟩, Ho, ⟨%d0, H0⟩, ⟨%d1, H1⟩, ⟨%d2, H2⟩, ⟨%d3, H3⟩, ⟨%d4, H4⟩, ⟨%d5, H5⟩, ⟨%d6, H6⟩⟩
  by_cases hu : isUsed a c t
  · have hu' : ((((crd a t) 0).val : Int)) < (used c (a.1 1)).toInt := by rw [hv]; exact hu
    have hc2 : k0_cond2 (crd a t) (used c (a.1 1)) = 1#1 := (cond2_iff _ _).2 hu'
    have hc3 : ¬ (k0_cond3 (crd a t) (used c (a.1 1)) = 1#1) := fun h => by have := (cond3_iff _ _).1 h; omega
    by_cases hr : reload c (a.1 0) (a.1 1) (crd a t) hchk
    · skip
      iapply ((runReload c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3).2.2.2.2 b0 b1 b2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0 HS1 HS2]
        · iexists _; iexists _; iexists _; isplitr; swap
          · isplitl [HS0]; · iexact HS0
            isplitl [HS1]; · iexact HS1
            iexact HS2
          · ipureintro; intro s hs _; obtain rfl : s = t := Fin.ext (by omega); exact ⟨reload_gate c (a.1 0) (a.1 1) (crd a s) (ms0 a s) (hs0 a s) (ms1 a s) (hs1 a s) (ms2 a s) (hs2 a s) (ms3 a s) (hs3 a s) (ms4 a s) (hs4 a s) (ms5 a s) (hs5 a s) (ms6 a s) (hs6 a s) (iblk a m c (0 : Fin 7) s) (iblk a m c (1 : Fin 7) s) (iblk a m c (2 : Fin 7) s) (iblk a m c (3 : Fin 7) s) (iblk a m c (4 : Fin 7) s) (iblk a m c (5 : Fin 7) s) hchk hr hc2 hc3, reload_lin c (a.1 0) (a.1 1) (crd a s) (ms0 a s) (hs0 a s) (ms1 a s) (hs1 a s) (ms2 a s) (hs2 a s) (ms3 a s) (hs3 a s) (ms4 a s) (hs4 a s) (ms5 a s) (hs5 a s) (ms6 a s) (hs6 a s) (iblk a m c (0 : Fin 7) s) (iblk a m c (1 : Fin 7) s) (iblk a m c (2 : Fin 7) s) (iblk a m c (3 : Fin 7) s) (iblk a m c (4 : Fin 7) s) (iblk a m c (5 : Fin 7) s) hchk hr hc2 hc3, reload_down c (a.1 0) (a.1 1) (crd a s) (ms0 a s) (hs0 a s) (ms1 a s) (hs1 a s) (ms2 a s) (hs2 a s) (ms3 a s) (hs3 a s) (ms4 a s) (hs4 a s) (ms5 a s) (hs5 a s) (ms6 a s) (hs6 a s) (iblk a m c (0 : Fin 7) s) (iblk a m c (1 : Fin 7) s) (iblk a m c (2 : Fin 7) s) (iblk a m c (3 : Fin 7) s) (iblk a m c (4 : Fin 7) s) (iblk a m c (5 : Fin 7) s) hchk hr hc2 hc3⟩
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact (reload_out c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3 e6).trans (outBlock_used a m c t hu).symm
    · obtain ⟨n, hn, he⟩ := keep_used c (a.1 0) (a.1 1) (crd a t) hchk hu' hr
      have hp : n.val < (cfgA a).N := lt_trans (by omega) t.isLt
      have hcn : (crd a ⟨n.val, hp⟩) 0 = n := Fin.ext (crd_val a ⟨n.val, hp⟩)
      have hex : ex a ⟨n.val, hp⟩ = ex a t := by
        refine Fin.ext ?_
        show (tblEntry a.1 (crd a ⟨n.val, hp⟩ 0)).toNat = (tblEntry a.1 (crd a t 0)).toNat
        rw [hcn]; exact congrArg BitVec.toNat (((tblEntry_eq c a.1 n).trans he).trans (tblEntry_eq c a.1 _).symm)
      have hun : isUsed a c ⟨n.val, hp⟩ := by
        show ((n.val : Int)) < (used c (a.1 1)).toInt
        omega
      obtain ⟨rfl, rfl, rfl⟩ := hb ⟨n.val, hp⟩ (by show n.val + 1 = t.val; omega) hun
      rw [iblk1_congr a m c hex, iblk4_congr a m c hex]
      iapply ((runKeep c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) (bG c (iblk a m c (1 : Fin 7) t)) (bL c (iblk a m c (1 : Fin 7) t)) (bD c (iblk a m c (4 : Fin 7) t)) hchk hr hc2 hc3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0 HS1 HS2]
        · iexists _; iexists _; iexists _; isplitr; swap
          · isplitl [HS0]; · iexact HS0
            isplitl [HS1]; · iexact HS1
            iexact HS2
          · ipureintro; intro s hs _; obtain rfl : s = t := Fin.ext (by omega); exact ⟨rfl, rfl, rfl⟩
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact (keep_out c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3 e6).trans (outBlock_used a m c t hu).symm
  · have hu' : (used c (a.1 1)).toInt ≤ ((((crd a t) 0).val : Int)) := by rw [hv]; exact not_lt.1 hu
    have hc3 : k0_cond3 (crd a t) (used c (a.1 1)) = 1#1 := (cond3_iff _ _).2 hu'
    have hc2 : ¬ (k0_cond2 (crd a t) (used c (a.1 1)) = 1#1) := fun h => by have := (cond2_iff _ _).1 h; omega
    by_cases hr : reload c (a.1 0) (a.1 1) (crd a t) hchk
    · skip
      iapply ((runReloadIdle c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3).2.2.2.2 b0 b1 b2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0 HS1 HS2]
        · iexists _; iexists _; iexists _; isplitr; swap
          · isplitl [HS0]; · iexact HS0
            isplitl [HS1]; · iexact HS1
            iexact HS2
          · ipureintro; intro s hs hs'; obtain rfl : s = t := Fin.ext (by omega); exact absurd hs' hu
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact (reloadIdle_out c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3 e6).trans (outBlock_idle a m c t hu).symm
    · skip
      iapply ((runIdle c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) b0 b1 b2 hchk hr hc2 hc3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0 HS1 HS2]
        · iexists _; iexists _; iexists _; isplitr; swap
          · isplitl [HS0]; · iexact HS0
            isplitl [HS1]; · iexact HS1
            iexact HS2
          · ipureintro; intro s hs hs'; obtain rfl : s = t := Fin.ext (by omega); exact absurd hs' hu
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact (idle_out c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3 b0 b1 b2 e6).trans (outBlock_idle a m c t hu).symm

theorem body_obligation (c : Dev nD) : BodyObligation (dats a m 0 c) (defs₀ (F := Bits)) Variants.none () Set.univ := fun t => by
  rw [bigSep_W0]; exact sound_body a m c t

/-! ## The launch -/

def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem phi_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  iintro ⟨-, ⟨HT0, HT1⟩, ⟨%b0, HS0⟩, ⟨%b1, HS1⟩, ⟨%b2, HS2⟩⟩
  isplitl [HS0 HS1 HS2]
  · iexists b0; iexists b1; iexists b2; isplitr; swap
    · isplitl [HS0]; · iexact HS0
      isplitl [HS1]; · iexact HS1
      iexact HS2
    · ipureintro; intro s hs; exact absurd hs (Nat.succ_ne_zero _)
  isplitl [HT0]; · iexact HT0
  iexact HT1

theorem phi_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (Fin.last _) from rfl]
  unfold Phi
  iintro ⟨⟨%b0, %b1, %b2, -, HS0, HS1, HS2⟩, -, -⟩
  isplitr; · iempintro
  isplitl [HS0]
  · iexists b0; iexact HS0
  isplitl [HS1]
  · iexists b1; iexact HS1
  iexists b2; iexact HS2

/-- What a run leaves: every array at what the pipeline's data say, the tables as they were. -/
def QC : PUnit × MemSt nD τ sig (Elt Bits) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- From a memory whose tables are `a`, every weakly fair execution ends with the arrays as computed and every counter at zero. -/
theorem run_main_quiescent (hV : ∀ (c : Dev nD) (j : Fin 2), m ((c : Thread nD τ).loc (pre0.ref j)) = a.1 j) :
    θ_run (defs (F := Bits)) (onTc (τ := τ) (main (F := Bits))) ⟨m, fun _ => 0, ρ⟩ (fun r => QC a m r ∧ r.2.sem = fun _ => 0) :=
  Pipeline.θ_run_region_noSem_pf_quiescent pcfgs (fun _ => a) (dats a m) () ((launch0 (F := Bits)).cellOf_inj fun _ => a) (0 : Fin 1)
    (launch0 (F := Bits)).win.to₀ (launch0 (F := Bits)).pre EP defs₀ Variants.none m ρ main
    (hbody := fun c => (body_obligation a m c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := Bits)).win.arr_inj c (launch0 (F := Bits)).arr_whole
      (share_eq a m c) _ _ fun _ => rfl)
    (hpf := hV)
    (X := fun _ => iprop(emp)) (Y := fun _ => iprop(emp)) (Z := fun _ => iprop(emp))
    (hX := fun c => by rw [unscopedRestP0_eq]; iintro -; isplitr <;> iempintro)
    (hin := phi_intro a m)
    (hout := phi_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments of a memory, all as they were in another. -/
abbrev Same (r : MemSt nD τ sig (Elt Bits)) : Prop := ∀ c : Dev nD,
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)

theorem same_of_QC (hV : ∀ (c : Dev nD) (j : Fin 2), m ((c : Thread nD τ).loc (pre0.ref j)) = a.1 j) (r : PUnit × MemSt nD τ sig (Elt Bits)) (h : QC a m r) : Same m r.2 := fun c =>
  ⟨((h c).2 0).trans (hV c 0).symm, ((h c).2 1).trans (hV c 1).symm, ((h c).1 (0 : Fin 7)).trans ((dats a m 0 c).arrAt_in (0 : Fin 7) rfl _),
    ((h c).1 (1 : Fin 7)).trans ((dats a m 0 c).arrAt_in (1 : Fin 7) rfl _), ((h c).1 (2 : Fin 7)).trans ((dats a m 0 c).arrAt_in (2 : Fin 7) rfl _),
    ((h c).1 (3 : Fin 7)).trans ((dats a m 0 c).arrAt_in (3 : Fin 7) rfl _), ((h c).1 (4 : Fin 7)).trans ((dats a m 0 c).arrAt_in (4 : Fin 7) rfl _),
    ((h c).1 (5 : Fin 7)).trans ((dats a m 0 c).arrAt_in (5 : Fin 7) rfl _)⟩

/-- The frame at admissible tables: the arguments end unchanged and every counter reads zero. -/
theorem frame_at (hV : ∀ (c : Dev nD) (j : Fin 2), m ((c : Thread nD τ).loc (pre0.ref j)) = a.1 j) :
    θ_run (defs (F := Bits)) (onTc (τ := τ) (main (F := Bits))) ⟨m, fun _ => 0, ρ⟩ (fun r => Same m r.2 ∧ r.2.sem = fun _ => 0) :=
  (θ_run defs _ _).mono (fun r h => ⟨same_of_QC a m hV r h.1, h.2⟩) (run_main_quiescent a m ρ hV)

end Cert.Kernel.Moe

end
-- ==== Proof.Range.lean ====
module

public import proofs.«01_k».proof.Proof.Gen.Pre_in_range
public import Idealize.ShloMosaic.Lib.ReduceAll
public import Idealize.ShloMosaic.Lib.Affine.Words

@[expose] public section

/-! What the precondition says of the table of experts: every entry, read as a signed word, is one of the 32 experts. -/

namespace Cert.Pre_in_range

open Idealize.ShloMosaic

/-- A word that is at least 0 and less than 32, read signed, is below 32 read unsigned. -/
theorem word_range (x : BitVec 32) (h : IntOp.andi (IntOp.cmpi .sge x 0#32) (IntOp.cmpi .slt x 32#32) = 1#1) : x.toNat < 32 := by
  have h0 : (0#32 : BitVec 32).sle x = true ∧ x.slt 32#32 = true := by
    revert h
    show ((BitVec.ofBool ((0#32 : BitVec 32).sle x)) &&& (BitVec.ofBool (x.slt 32#32)) = 1#1) → _
    cases (0#32 : BitVec 32).sle x <;> cases x.slt 32#32 <;> decide
  have h1 := h0.1
  have h2 := h0.2
  rw [BitVec.sle_iff_toInt_le] at h1
  rw [BitVec.slt_iff_toInt_lt] at h2
  have e0 : (0#32 : BitVec 32).toInt = 0 := by decide
  have e1 : (32#32 : BitVec 32).toInt = 32 := by decide
  rw [e0] at h1
  rw [e1] at h2
  have e := BitVec.toInt_eq_toNat_cond x
  split at e <;> omega

/-- Under the precondition every entry of the table is an expert. -/
theorem range_of_pre {F : FTy → Type} [FloatOps F] (a0 : IVec S291 32) (a1 : IVec S1 32) (a2 : FVec F S148992x1024 .bf16)
    (a3 : FVec F S32x1024x2048 .f32) (a4 : FVec F S32x1x1024 .f32) (a5 : FVec F S32x1x1024 .f32) (a6 : FVec F S32x1024x1024 .f32)
    (a7 : FVec F S32x1x1024 .f32) (h : fn (F := F) a0 a1 a2 a3 a4 a5 a6 a7 = fun _ => 1#1) (i : S291.Idx) : (a0 i).toNat < 32 := by
  have : Subsingleton S_.Idx := ⟨fun a b => funext fun k => k.elim0⟩
  have hi := Host.reduce_andi_all _ _ _ _ (fun k => k.elim0) (congrFun h _) i
  exact word_range (a0 i) hi

end Cert.Pre_in_range

end
-- ==== Proof.MoeBits.Start.lean ====
module

public import proofs.«01_k».proof.Proof.MoeBits.Frame
public import proofs.«01_k».proof.Proof.Range
public import proofs.«01_k».proof.Defs

@[expose] public section

/-! The tables of a memory under the precondition, and the frame of the expert layer from any such memory. -/

noncomputable section

namespace Cert.Kernel.Moe

open Cert.Kernel Cert.Kernel.Gen
open Idealize.ShloMosaic
open Idealize.ShloMosaic.TcCoe
open Idealize.SL Idealize.SL.Sem

/-- There is one device. -/
theorem dev_eq (c c' : Dev nD) : c = c' := Subsingleton.elim (α := Fin 1) c c'

/-- The device. -/
abbrev d₀ : Dev nD := (0 : Fin 1)

variable (m : (ℓ : Loc nD τ sig) → Buf (Elt Bits) ℓ) (h : Pre_Kernel m)

/-- The tables of a memory, as the launch reads them. -/
def tablesOf : pre0.Contents (Elt Bits) := fun j => m (((d₀ : Dev nD) : Thread nD τ).loc (pre0.ref j))

include h in
theorem tables_ok : ok0 (F := Bits) (tablesOf m) :=
  ok_of_range _ fun n => Cert.Pre_in_range.range_of_pre _ _ _ _ _ _ _ _ (h d₀) _

/-- The tables of a memory under the precondition are admissible. -/
def admOf : (pcfg0 (F := Bits)).Adm := ⟨tablesOf m, tables_ok m h⟩

theorem admOf_tables (c : Dev nD) (j : Fin 2) : m ((c : Thread nD τ).loc (pre0.ref j)) = (admOf m h).1 j := by
  rw [dev_eq c d₀]; rfl

include h in
/-- The frame under the precondition. -/
theorem quiescent (ρ : Dev nD → PrngReg) :
    θ_run (defs (F := Bits)) (onTc (τ := τ) (main (F := Bits))) ⟨m, fun _ => 0, ρ⟩ (fun r => Same m r.2 ∧ r.2.sem = fun _ => 0) :=
  frame_at (admOf m h) m ρ (admOf_tables m h)

end Cert.Kernel.Moe

end
-- ==== Proof.MoeIdeal.Body.lean ====
/- The body of the expert call run once on each of its paths: what it stores into the output
   window and into the three weight scratches. -/
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.PureOps.Ideal
public import Idealize.ShloMosaic.PureOps.BitExact

@[expose] public section

set_option maxRecDepth 16384
set_option Elab.async false
set_option backward.proofsInPublic true

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The expert table, the count of used blocks, and the three scratches, as the body names them. -/
abbrev tbE : Memref sig .tc .smem S291 .i32 := Memref.whole main_arg0
abbrev tbN : Memref sig .tc .smem S1 .i32 := Memref.whole main_arg1
abbrev scG : Memref sig .tc .vmem S1024x1024 .bf16 := Memref.whole cc0_scratch0
abbrev scL : Memref sig .tc .vmem S1024x1024 .bf16 := Memref.whole cc0_scratch1
abbrev scD : Memref sig .tc .vmem S1024x1024 .bf16 := Memref.whole cc0_scratch2

variable (c : Dev nD) (T0 : Buf (Elt Ideal) (tbE.view.loc (c : Thread nD τ)))
  (T1 : Buf (Elt Ideal) (tbN.view.loc (c : Thread nD τ)))

/-- The number of used blocks, as the body reads it. -/
abbrev used : BitVec 32 :=
  View.readAt (Elt Ideal) (tbN).view (Rect.unit (s := S1) ![0] S1.size inb_S1_S1_0).toLoadRect T1 (Shape.Idx.first (numel1_S1.symm ▸ Nat.one_pos))
/-- The expert of the current step, as the body reads it. -/
abbrev eNow (i : grid0.Coords) (h : k0_chk1 i (used c T1)) : BitVec 32 :=
  View.readAt (Elt Ideal) (tbE).view (Rect.unit (s := S291) (k0_off2 i (used c T1)) S1.size (k0_off2_inb i (used c T1) h)).toLoadRect T0 (Shape.Idx.first (numel1_S1.symm ▸ Nat.one_pos))
/-- The expert of the step before, as the body reads it. -/
abbrev eBefore (i : grid0.Coords) (h : k0_chk1 i (used c T1)) : BitVec 32 :=
  View.readAt (Elt Ideal) (tbE).view (Rect.unit (s := S291) (k0_off3 i (used c T1)) S1.size (k0_off3_inb i (used c T1) h)).toLoadRect T0 (Shape.Idx.first (numel1_S1.symm ▸ Nat.one_pos))
/-- Whether the step casts a new expert's weights into the scratches. -/
abbrev reload (i : grid0.Coords) (h : k0_chk1 i (used c T1)) : Prop :=
  Scalar.cmpi .ne (Scalar.extui (Scalar.ori (Scalar.cmpi .eq (BitVec.ofNat 32 (i 0).val) 0#32) (Scalar.cmpi .ne (eNow c T0 T1 i h) (eBefore c T0 T1 i h)))) 0#32 = 1#1

set_option maxHeartbeats 8000000 in
/-- A used step that casts a new expert's weights first. -/
noncomputable def runReload (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole) (x0 : Vec Ideal S512x1024 .bf16) (x1 : Vec Ideal S1x1024x2048 .f32) (x2 : Vec Ideal S1x1x1024 .f32) (x3 : Vec Ideal S1x1x1024 .f32) (x4 : Vec Ideal S1x1024x1024 .f32) (x5 : Vec Ideal S1x1x1024 .f32) (hchk : k0_chk1 i (used c T1)) (hr : reload c T0 T1 i hchk) (hc2 : k0_cond2 i (used c T1) = 1#1) (hc3 : ¬ (k0_cond3 i (used c T1) = 1#1)) :
    Σ' (out : List (View.Piece (Elt Ideal) S512x1024 .bf16)) (o0 : Buf (Elt Ideal) (scG.view.loc (c : Thread nD τ))) (o1 : Buf (Elt Ideal) (scL.view.loc (c : Thread nD τ))), { o2 : Buf (Elt Ideal) (scD.view.loc (c : Thread nD τ)) // ∀ (xa0 : Buf (Elt Ideal) (scG.view.loc (c : Thread nD τ))) (xa1 : Buf (Elt Ideal) (scL.view.loc (c : Thread nD τ))) (xa2 : Buf (Elt Ideal) (scD.view.loc (c : Thread nD τ))) (K : PUnit → sProp 𝕄),
      iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ d, owns c arg9 fullShare d) ∗ (scG.view.loc c ↦{fullShare} xa0) ∗ (scL.view.loc c ↦{fullShare} xa1) ∗ (scD.view.loc c ↦{fullShare} xa2) ∗
        (iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ f, arg9.view.loc c ↦[arg9.view.set]{fullShare} arg9.view.writes (Elt Ideal) f out) ∗ (scG.view.loc c ↦{fullShare} o0) ∗ (scL.view.loc c ↦{fullShare} o1) ∗ (scD.view.loc c ↦{fullShare} o2)) -∗ K ⟨⟩))
      ⊢ wp frame (wpE (defs₀ (F := Ideal)) Variants.none c none) Set.univ (cc0_moe_experts i tbE (Memref.isWhole_whole _) tbN (Memref.isWhole_whole _) arg3 harg3 arg4 harg4 arg5 harg5 arg6 harg6 arg7 harg7 arg8 harg8 arg9 harg9 scG (Memref.isWhole_whole _) scL (Memref.isWhole_whole _) scD (Memref.isWhole_whole _)) K } :=
  ⟨_, _, _, _, fun xa0 xa1 xa2 K => by
    unfold owns
    rw [cc0_moe_experts_eq_skeleton]
    unfold cc0_moe_experts_skel
    iintro ⟨H0, H1, H2, H3, H4, H5, HT0, HT1, ⟨%d6, %f6, -, HO6⟩, HS0, HS1, HS2, Hk⟩
    have hS0 : scG.IsWhole := Memref.isWhole_whole _
    have hS1 : scL.IsWhole := Memref.isWhole_whole _
    have hS2 : scD.IsWhole := Memref.isWhole_whole _
    have hT0 : tbE.IsWhole := Memref.isWhole_whole _
    have hT1 : tbN.IsWhole := Memref.isWhole_whole _
    sl_exec! (disch := first
      | (guard_target = k0_chk1 _ _; exact hchk)
      | (guard_target = Scalar.cmpi _ _ _ = _; exact hr)
      | (guard_target = k0_cond2 _ _ = _; exact hc2)
      | (guard_target = ¬ (k0_cond3 _ _ = _); exact hc3))
    sl_step
    iapply Hk
    isplitl [H0]
    · iexact H0
    isplitl [H1]
    · iexact H1
    isplitl [H2]
    · iexact H2
    isplitl [H3]
    · iexact H3
    isplitl [H4]
    · iexact H4
    isplitl [H5]
    · iexact H5
    isplitl [HT0]
    · iexact HT0
    isplitl [HT1]
    · iexact HT1
    isplitl [HO6]
    · iexists _
      iexact HO6
    isplitl [HS0]
    · iexact HS0
    isplitl [HS1]
    · iexact HS1
    iexact HS2⟩

set_option maxHeartbeats 8000000 in
/-- A used step whose expert is the one before. -/
noncomputable def runKeep (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole) (x0 : Vec Ideal S512x1024 .bf16) (x1 : Vec Ideal S1x1024x2048 .f32) (x2 : Vec Ideal S1x1x1024 .f32) (x3 : Vec Ideal S1x1x1024 .f32) (x4 : Vec Ideal S1x1024x1024 .f32) (x5 : Vec Ideal S1x1x1024 .f32) (xa0 : Buf (Elt Ideal) (scG.view.loc (c : Thread nD τ))) (xa1 : Buf (Elt Ideal) (scL.view.loc (c : Thread nD τ))) (xa2 : Buf (Elt Ideal) (scD.view.loc (c : Thread nD τ))) (hchk : k0_chk1 i (used c T1)) (hr : ¬ reload c T0 T1 i hchk) (hc2 : k0_cond2 i (used c T1) = 1#1) (hc3 : ¬ (k0_cond3 i (used c T1) = 1#1)) :
    { out : List (View.Piece (Elt Ideal) S512x1024 .bf16) // ∀ (K : PUnit → sProp 𝕄),
      iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ d, owns c arg9 fullShare d) ∗ (scG.view.loc c ↦{fullShare} xa0) ∗ (scL.view.loc c ↦{fullShare} xa1) ∗ (scD.view.loc c ↦{fullShare} xa2) ∗
        (iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ f, arg9.view.loc c ↦[arg9.view.set]{fullShare} arg9.view.writes (Elt Ideal) f out) ∗ (scG.view.loc c ↦{fullShare} xa0) ∗ (scL.view.loc c ↦{fullShare} xa1) ∗ (scD.view.loc c ↦{fullShare} xa2)) -∗ K ⟨⟩))
      ⊢ wp frame (wpE (defs₀ (F := Ideal)) Variants.none c none) Set.univ (cc0_moe_experts i tbE (Memref.isWhole_whole _) tbN (Memref.isWhole_whole _) arg3 harg3 arg4 harg4 arg5 harg5 arg6 harg6 arg7 harg7 arg8 harg8 arg9 harg9 scG (Memref.isWhole_whole _) scL (Memref.isWhole_whole _) scD (Memref.isWhole_whole _)) K } :=
  ⟨_, fun K => by
    unfold owns
    rw [cc0_moe_experts_eq_skeleton]
    unfold cc0_moe_experts_skel
    iintro ⟨H0, H1, H2, H3, H4, H5, HT0, HT1, ⟨%d6, %f6, -, HO6⟩, HS0, HS1, HS2, Hk⟩
    have hS0 : scG.IsWhole := Memref.isWhole_whole _
    have hS1 : scL.IsWhole := Memref.isWhole_whole _
    have hS2 : scD.IsWhole := Memref.isWhole_whole _
    have hT0 : tbE.IsWhole := Memref.isWhole_whole _
    have hT1 : tbN.IsWhole := Memref.isWhole_whole _
    sl_exec! (disch := first
      | (guard_target = k0_chk1 _ _; exact hchk)
      | (guard_target = ¬ (Scalar.cmpi _ _ _ = _); exact hr)
      | (guard_target = k0_cond2 _ _ = _; exact hc2)
      | (guard_target = ¬ (k0_cond3 _ _ = _); exact hc3))
    sl_step
    iapply Hk
    isplitl [H0]
    · iexact H0
    isplitl [H1]
    · iexact H1
    isplitl [H2]
    · iexact H2
    isplitl [H3]
    · iexact H3
    isplitl [H4]
    · iexact H4
    isplitl [H5]
    · iexact H5
    isplitl [HT0]
    · iexact HT0
    isplitl [HT1]
    · iexact HT1
    isplitl [HO6]
    · iexists _
      iexact HO6
    isplitl [HS0]
    · iexact HS0
    isplitl [HS1]
    · iexact HS1
    iexact HS2⟩

set_option maxHeartbeats 8000000 in
/-- A step past the used ones: zeros. -/
noncomputable def runIdle (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole) (x0 : Vec Ideal S512x1024 .bf16) (x1 : Vec Ideal S1x1024x2048 .f32) (x2 : Vec Ideal S1x1x1024 .f32) (x3 : Vec Ideal S1x1x1024 .f32) (x4 : Vec Ideal S1x1024x1024 .f32) (x5 : Vec Ideal S1x1x1024 .f32) (xa0 : Buf (Elt Ideal) (scG.view.loc (c : Thread nD τ))) (xa1 : Buf (Elt Ideal) (scL.view.loc (c : Thread nD τ))) (xa2 : Buf (Elt Ideal) (scD.view.loc (c : Thread nD τ))) (hchk : k0_chk1 i (used c T1)) (hr : ¬ reload c T0 T1 i hchk) (hc2 : ¬ (k0_cond2 i (used c T1) = 1#1)) (hc3 : k0_cond3 i (used c T1) = 1#1) :
    { out : List (View.Piece (Elt Ideal) S512x1024 .bf16) // ∀ (K : PUnit → sProp 𝕄),
      iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ d, owns c arg9 fullShare d) ∗ (scG.view.loc c ↦{fullShare} xa0) ∗ (scL.view.loc c ↦{fullShare} xa1) ∗ (scD.view.loc c ↦{fullShare} xa2) ∗
        (iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ f, arg9.view.loc c ↦[arg9.view.set]{fullShare} arg9.view.writes (Elt Ideal) f out) ∗ (scG.view.loc c ↦{fullShare} xa0) ∗ (scL.view.loc c ↦{fullShare} xa1) ∗ (scD.view.loc c ↦{fullShare} xa2)) -∗ K ⟨⟩))
      ⊢ wp frame (wpE (defs₀ (F := Ideal)) Variants.none c none) Set.univ (cc0_moe_experts i tbE (Memref.isWhole_whole _) tbN (Memref.isWhole_whole _) arg3 harg3 arg4 harg4 arg5 harg5 arg6 harg6 arg7 harg7 arg8 harg8 arg9 harg9 scG (Memref.isWhole_whole _) scL (Memref.isWhole_whole _) scD (Memref.isWhole_whole _)) K } :=
  ⟨_, fun K => by
    unfold owns
    rw [cc0_moe_experts_eq_skeleton]
    unfold cc0_moe_experts_skel
    iintro ⟨H0, H1, H2, H3, H4, H5, HT0, HT1, ⟨%d6, %f6, -, HO6⟩, HS0, HS1, HS2, Hk⟩
    have hS0 : scG.IsWhole := Memref.isWhole_whole _
    have hS1 : scL.IsWhole := Memref.isWhole_whole _
    have hS2 : scD.IsWhole := Memref.isWhole_whole _
    have hT0 : tbE.IsWhole := Memref.isWhole_whole _
    have hT1 : tbN.IsWhole := Memref.isWhole_whole _
    sl_exec! (disch := first
      | (guard_target = k0_chk1 _ _; exact hchk)
      | (guard_target = ¬ (Scalar.cmpi _ _ _ = _); exact hr)
      | (guard_target = ¬ (k0_cond2 _ _ = _); exact hc2)
      | (guard_target = k0_cond3 _ _ = _; exact hc3))
    sl_step
    iapply Hk
    isplitl [H0]
    · iexact H0
    isplitl [H1]
    · iexact H1
    isplitl [H2]
    · iexact H2
    isplitl [H3]
    · iexact H3
    isplitl [H4]
    · iexact H4
    isplitl [H5]
    · iexact H5
    isplitl [HT0]
    · iexact HT0
    isplitl [HT1]
    · iexact HT1
    isplitl [HO6]
    · iexists _
      iexact HO6
    isplitl [HS0]
    · iexact HS0
    isplitl [HS1]
    · iexact HS1
    iexact HS2⟩

set_option maxHeartbeats 8000000 in
/-- The first step when no block is used: weights are cast, zeros are stored. -/
noncomputable def runReloadIdle (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole) (x0 : Vec Ideal S512x1024 .bf16) (x1 : Vec Ideal S1x1024x2048 .f32) (x2 : Vec Ideal S1x1x1024 .f32) (x3 : Vec Ideal S1x1x1024 .f32) (x4 : Vec Ideal S1x1024x1024 .f32) (x5 : Vec Ideal S1x1x1024 .f32) (hchk : k0_chk1 i (used c T1)) (hr : reload c T0 T1 i hchk) (hc2 : ¬ (k0_cond2 i (used c T1) = 1#1)) (hc3 : k0_cond3 i (used c T1) = 1#1) :
    Σ' (out : List (View.Piece (Elt Ideal) S512x1024 .bf16)) (o0 : Buf (Elt Ideal) (scG.view.loc (c : Thread nD τ))) (o1 : Buf (Elt Ideal) (scL.view.loc (c : Thread nD τ))), { o2 : Buf (Elt Ideal) (scD.view.loc (c : Thread nD τ)) // ∀ (xa0 : Buf (Elt Ideal) (scG.view.loc (c : Thread nD τ))) (xa1 : Buf (Elt Ideal) (scL.view.loc (c : Thread nD τ))) (xa2 : Buf (Elt Ideal) (scD.view.loc (c : Thread nD τ))) (K : PUnit → sProp 𝕄),
      iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ d, owns c arg9 fullShare d) ∗ (scG.view.loc c ↦{fullShare} xa0) ∗ (scL.view.loc c ↦{fullShare} xa1) ∗ (scD.view.loc c ↦{fullShare} xa2) ∗
        (iprop((arg3.view.loc c ↦[arg3.view.set]{fullShare} arg3.view.rep x0) ∗ (arg4.view.loc c ↦[arg4.view.set]{fullShare} arg4.view.rep x1) ∗ (arg5.view.loc c ↦[arg5.view.set]{fullShare} arg5.view.rep x2) ∗ (arg6.view.loc c ↦[arg6.view.set]{fullShare} arg6.view.rep x3) ∗ (arg7.view.loc c ↦[arg7.view.set]{fullShare} arg7.view.rep x4) ∗ (arg8.view.loc c ↦[arg8.view.set]{fullShare} arg8.view.rep x5) ∗ (tbE.view.loc c ↦{fullShare.right} T0) ∗ (tbN.view.loc c ↦{fullShare.right} T1) ∗ (∃ f, arg9.view.loc c ↦[arg9.view.set]{fullShare} arg9.view.writes (Elt Ideal) f out) ∗ (scG.view.loc c ↦{fullShare} o0) ∗ (scL.view.loc c ↦{fullShare} o1) ∗ (scD.view.loc c ↦{fullShare} o2)) -∗ K ⟨⟩))
      ⊢ wp frame (wpE (defs₀ (F := Ideal)) Variants.none c none) Set.univ (cc0_moe_experts i tbE (Memref.isWhole_whole _) tbN (Memref.isWhole_whole _) arg3 harg3 arg4 harg4 arg5 harg5 arg6 harg6 arg7 harg7 arg8 harg8 arg9 harg9 scG (Memref.isWhole_whole _) scL (Memref.isWhole_whole _) scD (Memref.isWhole_whole _)) K } :=
  ⟨_, _, _, _, fun xa0 xa1 xa2 K => by
    unfold owns
    rw [cc0_moe_experts_eq_skeleton]
    unfold cc0_moe_experts_skel
    iintro ⟨H0, H1, H2, H3, H4, H5, HT0, HT1, ⟨%d6, %f6, -, HO6⟩, HS0, HS1, HS2, Hk⟩
    have hS0 : scG.IsWhole := Memref.isWhole_whole _
    have hS1 : scL.IsWhole := Memref.isWhole_whole _
    have hS2 : scD.IsWhole := Memref.isWhole_whole _
    have hT0 : tbE.IsWhole := Memref.isWhole_whole _
    have hT1 : tbN.IsWhole := Memref.isWhole_whole _
    sl_exec! (disch := first
      | (guard_target = k0_chk1 _ _; exact hchk)
      | (guard_target = Scalar.cmpi _ _ _ = _; exact hr)
      | (guard_target = ¬ (k0_cond2 _ _ = _); exact hc2)
      | (guard_target = k0_cond3 _ _ = _; exact hc3))
    sl_step
    iapply Hk
    isplitl [H0]
    · iexact H0
    isplitl [H1]
    · iexact H1
    isplitl [H2]
    · iexact H2
    isplitl [H3]
    · iexact H3
    isplitl [H4]
    · iexact H4
    isplitl [H5]
    · iexact H5
    isplitl [HT0]
    · iexact HT0
    isplitl [HT1]
    · iexact HT1
    isplitl [HO6]
    · iexists _
      iexact HO6
    isplitl [HS0]
    · iexact HS0
    isplitl [HS1]
    · iexact HS1
    iexact HS2⟩

end Cert.KernelIdeal.Moe
-- ==== Proof.MoeIdeal.Tables.lean ====
module

public import proofs.«01_k».proof.Proof.MoeIdeal.Body
public import Idealize.ShloMosaic.Lib.Affine.Words

@[expose] public section

set_option maxRecDepth 16384
set_option Elab.async false
set_option backward.proofsInPublic true

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The step's conditions in terms of the count of used blocks -/

/-- The step's number as a word is the step's number. -/
theorem step_word (i : grid0.Coords) : Affine.IsInt (BitVec.ofNat 32 (i 0).val) ((i 0).val : Int) := by
  have h : (i 0).val < 291 := (i 0).isLt
  exact Affine.ofNat _ ⟨rfl, by omega⟩

/-- The word of a truth value, compared with zero, is the truth value. -/
theorem flag_iff (b : BitVec 1) : Scalar.cmpi .ne (Scalar.extui b) 0#32 = 1#1 ↔ b = 1#1 := by
  revert b; decide

theorem cond2_iff (i : grid0.Coords) (v : BitVec 32) : k0_cond2 i v = 1#1 ↔ ((i 0).val : Int) < v.toInt := by
  unfold k0_cond2
  rw [flag_iff]
  constructor
  · intro h
    by_contra hn
    exact Affine.slt_fails (step_word i) (Affine.word v) hn h
  · intro h; exact Affine.slt_holds (step_word i) (Affine.word v) h

theorem cond3_iff (i : grid0.Coords) (v : BitVec 32) : k0_cond3 i v = 1#1 ↔ v.toInt ≤ ((i 0).val : Int) := by
  unfold k0_cond3
  rw [flag_iff]
  constructor
  · intro h
    by_contra hn
    exact Affine.sge_fails (step_word i) (Affine.word v) hn h
  · intro h; exact Affine.sge_holds (step_word i) (Affine.word v) h

/-- At a used step the table is read at the step itself, -/
theorem off2_used (i : grid0.Coords) (v : BitVec 32) (h : ((i 0).val : Int) < v.toInt) : k0_off2 i v = ![(i 0).val] := by
  have hi : (i 0).val < 291 := (i 0).isLt
  have hv := Affine.word_range v
  have h1 : Affine.IsInt (Scalar.subi v 1#32) (v.toInt - 1) :=
    Affine.subi (Affine.word v) (Affine.ofNat 1 ⟨rfl, by omega⟩) ⟨rfl, by omega, by omega⟩
  have h2 := Affine.maxsi h1 (Affine.ofNat 0 ⟨rfl, by omega⟩) (e := max (v.toInt - 1) 0) rfl
  have h3 := Affine.minsi (step_word i) h2 (e := ((i 0).val : Int)) (by omega)
  have h4 : Scalar.minsi (BitVec.ofNat 32 (i 0).val) (Scalar.maxsi (Scalar.subi v 1#32) 0#32) = BitVec.ofNat 32 (i 0).val :=
    Affine.eq_of_isInt h3 (step_word i)
  show ![(Scalar.indexCast (Scalar.minsi (BitVec.ofNat 32 (i 0).val) (Scalar.maxsi (Scalar.subi v 1#32) 0#32))).toNat] = _
  rw [h4]
  congr 1
  show (BitVec.ofNat 32 (i 0).val).toNat = _
  rw [BitVec.toNat_ofNat]; exact Nat.mod_eq_of_lt (by omega)

/-- and at the step before. -/
theorem off3_used (i : grid0.Coords) (v : BitVec 32) (h : ((i 0).val : Int) < v.toInt) (h0 : (i 0).val ≠ 0) :
    k0_off3 i v = ![(i 0).val - 1] := by
  have hi : (i 0).val < 291 := (i 0).isLt
  have hv := Affine.word_range v
  have h1 : Affine.IsInt (Scalar.subi v 1#32) (v.toInt - 1) :=
    Affine.subi (Affine.word v) (Affine.ofNat 1 ⟨rfl, by omega⟩) ⟨rfl, by omega, by omega⟩
  have h2 := Affine.maxsi h1 (Affine.ofNat 0 ⟨rfl, by omega⟩) (e := max (v.toInt - 1) 0) rfl
  have h5 : Affine.IsInt (Scalar.subi (BitVec.ofNat 32 (i 0).val) 1#32) (((i 0).val : Int) - 1) :=
    Affine.subi (step_word i) (Affine.ofNat 1 ⟨rfl, by omega⟩) ⟨rfl, by omega, by omega⟩
  have h6 := Affine.maxsi h5 (Affine.ofNat 0 ⟨rfl, by omega⟩) (e := ((i 0).val : Int) - 1) (by omega)
  have h3 := Affine.minsi h6 h2 (e := ((i 0).val : Int) - 1) (by omega)
  have h4 : Scalar.minsi (Scalar.maxsi (Scalar.subi (BitVec.ofNat 32 (i 0).val) 1#32) 0#32) (Scalar.maxsi (Scalar.subi v 1#32) 0#32)
      = BitVec.ofNat 32 ((i 0).val - 1) :=
    Affine.eq_of_isInt h3 (Affine.ofNat _ ⟨by omega, by omega⟩)
  show ![(Scalar.indexCast (Scalar.minsi (Scalar.maxsi (Scalar.subi (BitVec.ofNat 32 (i 0).val) 1#32) 0#32) (Scalar.maxsi (Scalar.subi v 1#32) 0#32))).toNat] = _
  rw [h4]
  congr 1
  show (BitVec.ofNat 32 ((i 0).val - 1)).toNat = _
  rw [BitVec.toNat_ofNat]; exact Nat.mod_eq_of_lt (by omega)

variable (c : Dev nD) (T0 : Buf (Elt Ideal) (tbE.view.loc (c : Thread nD τ))) (T1 : Buf (Elt Ideal) (tbN.view.loc (c : Thread nD τ)))

/-- The expert table's entry `n`. -/
def entry (n : Fin 291) : BitVec 32 := (T0 : S291.Idx → BitVec 32) fun | ⟨0, _⟩ => n

/-- A one-word read of the table is the entry it names. -/
theorem read_entry (off : Fin 1 → Nat) (h : ∀ a, off a + S1.size a ≤ S291.size a) (n : Fin 291) (he : off = ![n.val]) :
    View.readAt (Elt Ideal) (tbE).view (Rect.unit (s := S291) off S1.size h).toLoadRect T0 (Shape.Idx.first (numel1_S1.symm ▸ Nat.one_pos)) = entry c T0 n := by
  subst he
  unfold entry
  show (T0 : S291.Idx → BitVec 32) _ = _
  refine congrArg (T0 : S291.Idx → BitVec 32) (funext fun a => ?_)
  match a with
  | ⟨0, _⟩ => exact Fin.ext (by show n.val + 1 * 0 = n.val; omega)

theorem eNow_used (i : grid0.Coords) (hc : k0_chk1 i (used c T1)) (h : ((i 0).val : Int) < (used c T1).toInt) :
    eNow c T0 T1 i hc = entry c T0 (i 0) :=
  read_entry c T0 _ _ (i 0) (off2_used i _ h)

theorem eBefore_used (i : grid0.Coords) (hc : k0_chk1 i (used c T1)) (h : ((i 0).val : Int) < (used c T1).toInt) (n : Fin 291)
    (hn : n.val + 1 = (i 0).val) : eBefore c T0 T1 i hc = entry c T0 n :=
  read_entry c T0 _ _ n (by rw [off3_used i _ h (by omega)]; congr 1; omega)

/-- A used step that keeps the weights is not the first, and its expert is that of the step before. -/
theorem keep_used (i : grid0.Coords) (hc : k0_chk1 i (used c T1)) (h : ((i 0).val : Int) < (used c T1).toInt)
    (hr : ¬ reload c T0 T1 i hc) : ∃ n : Fin 291, n.val + 1 = (i 0).val ∧ entry c T0 n = entry c T0 (i 0) := by
  have hi : (i 0).val < 291 := (i 0).isLt
  have hr' : ¬ (Scalar.ori (Scalar.cmpi .eq (BitVec.ofNat 32 (i 0).val) 0#32) (Scalar.cmpi .ne (eNow c T0 T1 i hc) (eBefore c T0 T1 i hc)) = 1#1) :=
    fun hh => hr ((flag_iff _).2 hh)
  have or_left : ∀ a b : BitVec 1, a = 1#1 → Scalar.ori a b = 1#1 := by decide
  have or_right : ∀ a b : BitVec 1, b = 1#1 → Scalar.ori a b = 1#1 := by decide
  have h0 : (i 0).val ≠ 0 := fun h0 =>
    hr' (or_left _ _ (Affine.eq_holds (step_word i) (Affine.ofNat 0 ⟨rfl, by omega⟩) (by omega)))
  refine ⟨⟨(i 0).val - 1, by omega⟩, by show (i 0).val - 1 + 1 = _; omega, ?_⟩
  by_contra hne
  refine hr' (or_right _ _ ?_)
  rw [eNow_used c T0 T1 i hc h, eBefore_used c T0 T1 i hc h ⟨(i 0).val - 1, by omega⟩ (by show (i 0).val - 1 + 1 = _; omega)]
  unfold Scalar.cmpi IntOp.cmpi
  rw [show (entry c T0 (i 0) != entry c T0 ⟨(i 0).val - 1, by omega⟩) = true from bne_iff_ne.2 fun hh => hne hh.symm]
  rfl

end Cert.KernelIdeal.Moe

end
-- ==== Proof.MoeIdeal.Step.lean ====
module

public import proofs.«01_k».proof.Proof.MoeIdeal.Tables
public import Idealize.ShloMosaic.Lib.VecWindow

@[expose] public section

set_option maxRecDepth 16384
set_option Elab.async false
set_option backward.proofsInPublic true

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (c : Dev nD)

/-! ## What the scratches hold after an expert's weights are cast -/

/-- The gate columns, from the expert's first weight block. -/
def bG (x1 : Vec Ideal S1x1024x2048 .f32) : Buf (Elt Ideal) (scG.view.loc (c : Thread nD τ)) :=
  (View.whole cc0_scratch0).writes (Elt Ideal) (View.whole cc0_scratch0).junk (runReload.sl.HS0_8 (Memref.whole cc0_stg1_0) x1)
/-- The linear columns. -/
def bL (x1 : Vec Ideal S1x1024x2048 .f32) : Buf (Elt Ideal) (scL.view.loc (c : Thread nD τ)) :=
  (View.whole cc0_scratch1).writes (Elt Ideal) (View.whole cc0_scratch1).junk (runReload.sl.HS1_8 (Memref.whole cc0_stg1_0) x1)
/-- The second weight block. -/
def bD (x4 : Vec Ideal S1x1024x1024 .f32) : Buf (Elt Ideal) (scD.view.loc (c : Thread nD τ)) :=
  (View.whole cc0_scratch2).writes (Elt Ideal) (View.whole cc0_scratch2).junk (runReload.sl.HS2_1 (Memref.whole cc0_stg4_0) x4)

/-- The same, read whole, as the products take them. -/
def wG (x1 : Vec Ideal S1x1024x2048 .f32) : Vec Ideal S1024x1024 .bf16 :=
  View.readAt (Elt Ideal) scG.view (Rect.unit (s := S1024x1024) ![0, 0] S1024x1024.size inb_S1024x1024_S1024x1024_0_0).toLoadRect (bG c x1)
def wL (x1 : Vec Ideal S1x1024x2048 .f32) : Vec Ideal S1024x1024 .bf16 :=
  View.readAt (Elt Ideal) scL.view (Rect.unit (s := S1024x1024) ![0, 0] S1024x1024.size inb_S1024x1024_S1024x1024_0_0).toLoadRect (bL c x1)
def wD (x4 : Vec Ideal S1x1024x1024 .f32) : Vec Ideal S1024x1024 .bf16 :=
  View.readAt (Elt Ideal) scD.view (Rect.unit (s := S1024x1024) ![0, 0] S1024x1024.size inb_S1024x1024_S1024x1024_0_0).toLoadRect (bD c x4)

/-- A used step's output block. -/
def yUsed (x0 : Vec Ideal S512x1024 .bf16) (x1 : Vec Ideal S1x1024x2048 .f32) (x2 : Vec Ideal S1x1x1024 .f32) (x3 : Vec Ideal S1x1x1024 .f32) (x4 : Vec Ideal S1x1024x1024 .f32) (x5 : Vec Ideal S1x1x1024 .f32) : Vec Ideal S512x1024 .bf16 :=
  k0_pay7 (k0_pay31 x0 (wG c x1) x2 (wL c x1) x3 (wD c x4)) x5

/-- The cast weights do not depend on the staging buffer that they came through. -/
theorem gate_pieces (a b : Memref sig .tc .vmem S1x1024x2048 .f32) (x1 : Vec Ideal S1x1024x2048 .f32) :
    runReload.sl.HS0_8 a x1 = runReload.sl.HS0_8 b x1 := by
  simp only [runReload.sl.HS0_8, runReload.sl.r, runReload.sl.r_1, runReload.sl.r_2, runReload.sl.r_3, runReload.sl.r_4, runReload.sl.r_5, runReload.sl.r_6, runReload.sl.r_7, View.readAt_rep]
theorem lin_pieces (a b : Memref sig .tc .vmem S1x1024x2048 .f32) (x1 : Vec Ideal S1x1024x2048 .f32) :
    runReload.sl.HS1_8 a x1 = runReload.sl.HS1_8 b x1 := by
  simp only [runReload.sl.HS1_8, runReload.sl.r, runReload.sl.r_1, runReload.sl.r_2, runReload.sl.r_3, runReload.sl.r_4, runReload.sl.r_5, runReload.sl.r_6, runReload.sl.r_7, View.readAt_rep]
theorem down_pieces (a b : Memref sig .tc .vmem S1x1024x1024 .f32) (x4 : Vec Ideal S1x1024x1024 .f32) :
    runReload.sl.HS2_1 a x4 = runReload.sl.HS2_1 b x4 := by
  simp only [runReload.sl.HS2_1, View.readAt_rep]

variable (T0 : Buf (Elt Ideal) (tbE.view.loc (c : Thread nD τ))) (T1 : Buf (Elt Ideal) (tbN.view.loc (c : Thread nD τ)))
variable (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole)
variable (x0 : Vec Ideal S512x1024 .bf16) (x1 : Vec Ideal S1x1024x2048 .f32) (x2 : Vec Ideal S1x1x1024 .f32) (x3 : Vec Ideal S1x1x1024 .f32) (x4 : Vec Ideal S1x1024x1024 .f32) (x5 : Vec Ideal S1x1x1024 .f32)
variable (hchk : k0_chk1 i (used c T1))

section
variable (hr : reload c T0 T1 i hchk) (hc2 : k0_cond2 i (used c T1) = 1#1) (hc3 : ¬ (k0_cond3 i (used c T1) = 1#1))

theorem reload_gate : (runReload c T0 T1 i arg3 harg3 arg4 harg4 arg5 harg5 arg6 harg6 arg7 harg7 arg8 harg8 arg9 harg9 x0 x1 x2 x3 x4 x5 hchk hr hc2 hc3).2.1 = bG c x1 := by
  delta runReload; dsimp only
  unfold bG; rw [gate_pieces arg4 (Memref.whole cc0_stg1_0)]
theorem reload_lin : (runReload c T0 T1 i arg3 harg3 arg4 harg4 arg5 harg5 arg6 harg6 arg7 harg7 arg8 harg8 arg9 harg9 x0 x1 x2 x3 x4 x5 hchk hr hc2 hc3).2.2.1 = bL c x1 := by
  delta runReload; dsimp only
  unfold bL; rw [lin_pieces arg4 (Memref.whole cc0_stg1_0)]
theorem reload_down : (runReload c T0 T1 i arg3 harg3 arg4 harg4 arg5 harg5 arg6 harg6 arg7 harg7 arg8 harg8 arg9 harg9 x0 x1 x2 x3 x4 x5 hchk hr hc2 hc3).2.2.2.1 = bD c x4 := by
  delta runReload; dsimp only
  unfold bD; rw [down_pieces arg7 (Memref.whole cc0_stg4_0)]

theorem reload_out (f) : arg9.view.read (Elt Ideal) (arg9.view.writes (Elt Ideal) f (runReload c T0 T1 i arg3 harg3 arg4 harg4 arg5 harg5 arg6 harg6 arg7 harg7 arg8 harg8 arg9 harg9 x0 x1 x2 x3 x4 x5 hchk hr hc2 hc3).1) = yUsed c x0 x1 x2 x3 x4 x5 := by
  delta runReload; dsimp only
  unfold runReload.sl.HO6_1 runReload.sl.r_8
  rw [View.read_writes_full]
  unfold yUsed wG wL wD bG bL bD
  rw [View.readAt_rep_full arg3.view x0, View.readAt_rep_full arg5.view x2, View.readAt_rep_full arg6.view x3, View.readAt_rep_full arg8.view x5]
  rw [gate_pieces (Memref.whole cc0_stg1_0) arg4, lin_pieces (Memref.whole cc0_stg1_0) arg4, down_pieces (Memref.whole cc0_stg4_0) arg7]
  rfl
end

section
variable (hr : reload c T0 T1 i hchk) (hc2 : ¬ (k0_cond2 i (used c T1) = 1#1)) (hc3 : k0_cond3 i (used c T1) = 1#1)

theorem reloadIdle_out (f) : arg9.view.read (Elt Ideal) (arg9.view.writes (Elt Ideal) f (runReloadIdle c T0 T1 i arg3 harg3 arg4 harg4 arg5 harg5 arg6 harg6 arg7 harg7 arg8 harg8 arg9 harg9 x0 x1 x2 x3 x4 x5 hchk hr hc2 hc3).1) = k0_pay8 (F := Ideal) := by
  show arg9.view.read (Elt Ideal) (arg9.view.writes (Elt Ideal) f runReloadIdle.sl.HO6_1) = _
  unfold runReloadIdle.sl.HO6_1
  rw [View.read_writes_full]
end

section
variable (hr : ¬ reload c T0 T1 i hchk) (hc2 : ¬ (k0_cond2 i (used c T1) = 1#1)) (hc3 : k0_cond3 i (used c T1) = 1#1)

theorem idle_out (xa0 : Buf (Elt Ideal) (scG.view.loc (c : Thread nD τ))) (xa1 : Buf (Elt Ideal) (scL.view.loc (c : Thread nD τ))) (xa2 : Buf (Elt Ideal) (scD.view.loc (c : Thread nD τ))) (f) : arg9.view.read (Elt Ideal) (arg9.view.writes (Elt Ideal) f (runIdle c T0 T1 i arg3 harg3 arg4 harg4 arg5 harg5 arg6 harg6 arg7 harg7 arg8 harg8 arg9 harg9 x0 x1 x2 x3 x4 x5 xa0 xa1 xa2 hchk hr hc2 hc3).1) = k0_pay8 (F := Ideal) := by
  show arg9.view.read (Elt Ideal) (arg9.view.writes (Elt Ideal) f runIdle.sl.HO6_1) = _
  unfold runIdle.sl.HO6_1
  rw [View.read_writes_full]
end

section
variable (hr : ¬ reload c T0 T1 i hchk) (hc2 : k0_cond2 i (used c T1) = 1#1) (hc3 : ¬ (k0_cond3 i (used c T1) = 1#1))

theorem keep_out (f) : arg9.view.read (Elt Ideal) (arg9.view.writes (Elt Ideal) f (runKeep c T0 T1 i arg3 harg3 arg4 harg4 arg5 harg5 arg6 harg6 arg7 harg7 arg8 harg8 arg9 harg9 x0 x1 x2 x3 x4 x5 (bG c x1) (bL c x1) (bD c x4) hchk hr hc2 hc3).1) = yUsed c x0 x1 x2 x3 x4 x5 := by
  show arg9.view.read (Elt Ideal) (arg9.view.writes (Elt Ideal) f (runKeep.sl.HO6_1 c arg3 arg5 arg6 arg8 x0 x2 x3 x5 (bG c x1) (bL c x1) (bD c x4))) = _
  unfold runKeep.sl.HO6_1 runKeep.sl.r_3
  rw [View.read_writes_full]
  unfold yUsed wG wL wD
  rw [View.readAt_rep_full arg3.view x0, View.readAt_rep_full arg5.view x2, View.readAt_rep_full arg6.view x3, View.readAt_rep_full arg8.view x5]
end

end Cert.KernelIdeal.Moe

end
-- ==== Proof.MoeIdeal.Cfg.lean ====
module

public import proofs.«01_k».proof.Proof.MoeIdeal.Step

@[expose] public section

set_option maxRecDepth 16384
set_option Elab.async false
set_option backward.proofsInPublic true

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The table's side condition -/

/-- Entry `n` of a table of the launch. -/
def tblEntry (pf : pre0.Contents (Elt Ideal)) (n : Fin 291) : BitVec 32 := (pf 0 : S291.Idx → BitVec 32) fun | ⟨0, _⟩ => n

/-- The block of the first weights at a step is the one that the table names. -/
theorem transform_1_eq (pf : pre0.Contents (Elt Ideal)) (i : grid0.Coords) :
    cc0_transform_1 k0_off1_inb numel1_S1 pf i = ![(tblEntry pf (i 0)).toNat, 0, 0] := by
  have hi : (i 0).val < 291 := (i 0).isLt
  unfold cc0_transform_1 tblEntry
  dsimp only
  refine congrArg (fun w : BitVec 32 => ![w.toNat, 0, 0]) ?_
  refine congrArg (pf 0 : S291.Idx → BitVec 32) (funext fun a => ?_)
  match a with
  | ⟨0, _⟩ =>
    refine Fin.ext ?_
    show (BitVec.ofNat 32 (i 0).val).toNat + 1 * 0 = (i 0).val
    rw [BitVec.toNat_ofNat, Nat.mod_eq_of_lt (by omega)]; omega

/-- A table whose entries are experts puts every block inside its array. -/
theorem ok_of_range (pf : pre0.Contents (Elt Ideal)) (h : ∀ n, (tblEntry pf n).toNat < 32) : ok0 pf := by
  unfold ok0
  have h1 : ∀ i, cc0_transform_1 k0_off1_inb numel1_S1 pf i = ![(tblEntry pf (i 0)).toNat, 0, 0] := transform_1_eq pf
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inl rfl⟩⟩
  all_goals
    have hn := h (i 0)
    have e := congrFun (h1 i) a
    match a with
    | ⟨0, _⟩ =>
      have e' : cc0_transform_1 k0_off1_inb numel1_S1 pf i (0 : Fin 3) = (tblEntry pf (i 0)).toNat := e
      show (cc0_transform_1 k0_off1_inb numel1_S1 pf i (0 : Fin 3) + 1) * 1 ≤ 32
      rw [e']; omega
    | ⟨1, _⟩ => exact Nat.le_refl _
    | ⟨2, _⟩ => exact Nat.le_refl _

variable (a : (pcfg0 (F := Ideal)).Adm)
variable (m : (ℓ : Loc nD τ sig) → Buf (Elt Ideal) ℓ) (ρ : Dev nD → PrngReg)

/-- The pipeline at admissible tables. -/
abbrev cfgA : Pipeline.Cfg sig Λ₀ := cfg0 (F := Ideal) a
abbrev pcs : Fin 1 → Pipeline.Cfg sig Λ₀ := Pipeline.pin (pcfgs (F := Ideal)) fun _ => a

/-- Step `t`'s coordinates. -/
abbrev crd (t : Fin (cfgA a).N) : (cfgA a).grid.Coords := (cfgA a).grid.coords t

/-- The one coordinate of step `t` is `t`. -/
theorem crd_val (t : Fin (cfgA a).N) : ((crd a t) 0).val = t.val := by
  have h : ∀ t : Fin grid0.N, ((grid0.coords t) 0).val = t.val := by decide +kernel
  exact h t

/-- The expert of step `t`, an index of the weight arrays. -/
def ex (t : Fin (cfgA a).N) : Fin 32 :=
  ⟨(tblEntry a.1 ((crd a t) 0)).toNat, by
    obtain ⟨h, -⟩ := a.2.1 (crd a t)
    have h0 : (cc0_transform_1 k0_off1_inb numel1_S1 a.1 (crd a t) (0 : Fin 3) + 1) * 1 ≤ 32 := h (0 : Fin 3)
    have e : cc0_transform_1 k0_off1_inb numel1_S1 a.1 (crd a t) (0 : Fin 3) = (tblEntry a.1 ((crd a t) 0)).toNat := congrFun (transform_1_eq a.1 (crd a t)) (0 : Fin 3)
    omega⟩

/-- Window `w`'s block at step `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) (m (((cfgA a).win w).arr.view.loc (c : Thread nD τ)))

/-- The place of a block's element in a weight array. -/
def at3 {n1 n2 : Nat} (e : Fin 32) (y : (⟨3, ![1, n1, n2]⟩ : Shape).Idx) : (⟨3, ![32, n1, n2]⟩ : Shape).Idx := fun
  | ⟨0, _⟩ => e
  | ⟨1, _⟩ => y 1
  | ⟨2, _⟩ => y 2

theorem iblk1_apply (c : Dev nD) (t : Fin (cfgA a).N) (y : S1x1024x2048.Idx) :
    iblk a m c (1 : Fin 7) t y = (m ((c : Thread nD τ).loc main_arg3) : S32x1024x2048.Idx → Elt Ideal .f32) (at3 (ex a t) y) := by
  unfold iblk
  refine congrArg (m ((c : Thread nD τ).loc main_arg3) : S32x1024x2048.Idx → Elt Ideal .f32) (funext fun d => ?_)
  have hy : (y 0).val < 1 := (y 0).isLt
  have e := transform_1_eq a.1 (crd a t)
  match d with
  | ⟨0, _⟩ =>
    refine Fin.ext ?_
    show cc0_transform_1 k0_off1_inb numel1_S1 a.1 (crd a t) (0 : Fin 3) * 1 + 1 * (y 0).val = (tblEntry a.1 ((crd a t) 0)).toNat
    rw [e]
    show (tblEntry a.1 ((crd a t) 0)).toNat * 1 + 1 * (y 0).val = _
    omega
  | ⟨1, _⟩ => exact Fin.ext (by show 0 * 1024 + 1 * (y 1).val = (y 1).val; omega)
  | ⟨2, _⟩ => exact Fin.ext (by show 0 * 2048 + 1 * (y 2).val = (y 2).val; omega)

theorem iblk4_apply (c : Dev nD) (t : Fin (cfgA a).N) (y : S1x1024x1024.Idx) :
    iblk a m c (4 : Fin 7) t y = (m ((c : Thread nD τ).loc main_arg6) : S32x1024x1024.Idx → Elt Ideal .f32) (at3 (ex a t) y) := by
  unfold iblk
  refine congrArg (m ((c : Thread nD τ).loc main_arg6) : S32x1024x1024.Idx → Elt Ideal .f32) (funext fun d => ?_)
  have hy : (y 0).val < 1 := (y 0).isLt
  have e := transform_1_eq a.1 (crd a t)
  match d with
  | ⟨0, _⟩ =>
    refine Fin.ext ?_
    show cc0_transform_1 k0_off1_inb numel1_S1 a.1 (crd a t) (0 : Fin 3) * 1 + 1 * (y 0).val = (tblEntry a.1 ((crd a t) 0)).toNat
    rw [e]
    show (tblEntry a.1 ((crd a t) 0)).toNat * 1 + 1 * (y 0).val = _
    omega
  | ⟨1, _⟩ => exact Fin.ext (by show 0 * 1024 + 1 * (y 1).val = (y 1).val; omega)
  | ⟨2, _⟩ => exact Fin.ext (by show 0 * 1024 + 1 * (y 2).val = (y 2).val; omega)

/-- Steps of one expert have the same weight blocks. -/
theorem iblk1_congr (c : Dev nD) {t t' : Fin (cfgA a).N} (h : ex a t = ex a t') :
    (iblk a m c (1 : Fin 7) t : Vec Ideal S1x1024x2048 .f32) = iblk a m c (1 : Fin 7) t' :=
  funext fun y => by rw [iblk1_apply, iblk1_apply, h]
theorem iblk4_congr (c : Dev nD) {t t' : Fin (cfgA a).N} (h : ex a t = ex a t') :
    (iblk a m c (4 : Fin 7) t : Vec Ideal S1x1024x1024 .f32) = iblk a m c (4 : Fin 7) t' :=
  funext fun y => by rw [iblk4_apply, iblk4_apply, h]

end Cert.KernelIdeal.Moe

end
-- ==== Proof.MoeIdeal.Frame.lean ====
module

public import proofs.«01_k».proof.Proof.MoeIdeal.Cfg
public import Idealize.ShloMosaic.Lib.Pipeline.Quiescent
public import Idealize.ShloMosaic.Lib.Pipeline.TableIdle

@[expose] public section

set_option maxRecDepth 16384
set_option Elab.async false
set_option backward.proofsInPublic true

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (a : (pcfg0 (F := Ideal)).Adm)
variable (m : (ℓ : Loc nD τ sig) → Buf (Elt Ideal) ℓ) (ρ : Dev nD → PrngReg)

/-! ## A step's staging buffers -/

abbrev ms0 (t : Fin (cfgA a).N) : Memref sig .tc .vmem S512x1024 .bf16 := spec0_0.stage ((cfgA a).slots t (0 : Fin 7))
abbrev hs0 (t : Fin (cfgA a).N) : (ms0 a t).IsWhole := hstage0_0 (((cfgA a).slots t (0 : Fin 7)).cast nbuf0_0)
abbrev ms1 (t : Fin (cfgA a).N) : Memref sig .tc .vmem S1x1024x2048 .f32 := spec0_1.stage ((cfgA a).slots t (1 : Fin 7))
abbrev hs1 (t : Fin (cfgA a).N) : (ms1 a t).IsWhole := hstage0_1 (((cfgA a).slots t (1 : Fin 7)).cast nbuf0_1)
abbrev ms2 (t : Fin (cfgA a).N) : Memref sig .tc .vmem S1x1x1024 .f32 := spec0_2.stage ((cfgA a).slots t (2 : Fin 7))
abbrev hs2 (t : Fin (cfgA a).N) : (ms2 a t).IsWhole := hstage0_2 (((cfgA a).slots t (2 : Fin 7)).cast nbuf0_2)
abbrev ms3 (t : Fin (cfgA a).N) : Memref sig .tc .vmem S1x1x1024 .f32 := spec0_3.stage ((cfgA a).slots t (3 : Fin 7))
abbrev hs3 (t : Fin (cfgA a).N) : (ms3 a t).IsWhole := hstage0_3 (((cfgA a).slots t (3 : Fin 7)).cast nbuf0_3)
abbrev ms4 (t : Fin (cfgA a).N) : Memref sig .tc .vmem S1x1024x1024 .f32 := spec0_4.stage ((cfgA a).slots t (4 : Fin 7))
abbrev hs4 (t : Fin (cfgA a).N) : (ms4 a t).IsWhole := hstage0_4 (((cfgA a).slots t (4 : Fin 7)).cast nbuf0_4)
abbrev ms5 (t : Fin (cfgA a).N) : Memref sig .tc .vmem S1x1x1024 .f32 := spec0_5.stage ((cfgA a).slots t (5 : Fin 7))
abbrev hs5 (t : Fin (cfgA a).N) : (ms5 a t).IsWhole := hstage0_5 (((cfgA a).slots t (5 : Fin 7)).cast nbuf0_5)
abbrev ms6 (t : Fin (cfgA a).N) : Memref sig .tc .vmem S512x1024 .bf16 := spec0_6.stage ((cfgA a).slots t (6 : Fin 7))
abbrev hs6 (t : Fin (cfgA a).N) : (ms6 a t).IsWhole := hstage0_6 (((cfgA a).slots t (6 : Fin 7)).cast nbuf0_6)

/-- Step `t` is one of the used ones. -/
def isUsed (c : Dev nD) (t : Fin (cfgA a).N) : Prop := (t.val : Int) < (used c (a.1 1)).toInt

open Classical in
/-- The block that step `t` writes: the expert's output at a used step, zeros past the used ones. -/
def outBlock (c : Dev nD) (t : Fin (cfgA a).N) : Vec Ideal S512x1024 .bf16 :=
  if isUsed a c t then yUsed c (iblk a m c (0 : Fin 7) t) (iblk a m c (1 : Fin 7) t) (iblk a m c (2 : Fin 7) t) (iblk a m c (3 : Fin 7) t) (iblk a m c (4 : Fin 7) t) (iblk a m c (5 : Fin 7) t) else k0_pay8 (F := Ideal)

theorem outBlock_used (c : Dev nD) (t : Fin (cfgA a).N) (h : isUsed a c t) : outBlock a m c t = yUsed c (iblk a m c (0 : Fin 7) t) (iblk a m c (1 : Fin 7) t) (iblk a m c (2 : Fin 7) t) (iblk a m c (3 : Fin 7) t) (iblk a m c (4 : Fin 7) t) (iblk a m c (5 : Fin 7) t) := by
  unfold outBlock; rw [if_pos h]
theorem outBlock_idle (c : Dev nD) (t : Fin (cfgA a).N) (h : ¬ isUsed a c t) : outBlock a m c t = k0_pay8 (F := Ideal) := by
  unfold outBlock; rw [if_neg h]

/-- Between steps: after a used step the scratches hold its expert's weights; the tables are held throughout. -/
def Phi (c : Dev nD) (k : Fin ((cfgA a).N + 1)) : sProp 𝕄 :=
  iprop((∃ (b0 : Buf (Elt Ideal) (scG.view.loc (c : Thread nD τ))) (b1 : Buf (Elt Ideal) (scL.view.loc (c : Thread nD τ))) (b2 : Buf (Elt Ideal) (scD.view.loc (c : Thread nD τ))),
      ⌜∀ s : Fin (cfgA a).N, s.val + 1 = k.val → isUsed a c s →
        b0 = bG c (iblk a m c (1 : Fin 7) s) ∧ b1 = bL c (iblk a m c (1 : Fin 7) s) ∧ b2 = bD c (iblk a m c (4 : Fin 7) s)⌝
      ∗ (scG.view.loc (c : Thread nD τ) ↦{fullShare} b0) ∗ (scL.view.loc (c : Thread nD τ) ↦{fullShare} b1) ∗ (scD.view.loc (c : Thread nD τ) ↦{fullShare} b2))
    ∗ (tbE.view.loc (c : Thread nD τ) ↦{fullShare.right} a.1 0) ∗ (tbN.view.loc (c : Thread nD τ) ↦{fullShare.right} a.1 1))

/-- The proof data of the pipeline. -/
def dats (_ : Fin 1) (c : Dev nD) : Dat τ (Elt Ideal) Unit ℕ (UR sig nD τ) ℕ (cfgA a) c where
  A w := m (((cfgA a).win w).arr.view.loc (c : Thread nD τ))
  after w t := match w with
    | ⟨0, _⟩ => iblk a m c (0 : Fin 7) t
    | ⟨1, _⟩ => iblk a m c (1 : Fin 7) t
    | ⟨2, _⟩ => iblk a m c (2 : Fin 7) t
    | ⟨3, _⟩ => iblk a m c (3 : Fin 7) t
    | ⟨4, _⟩ => iblk a m c (4 : Fin 7) t
    | ⟨5, _⟩ => iblk a m c (5 : Fin 7) t
    | ⟨6, _⟩ => outBlock a m c t
  Φ t := Phi a m c t
  q _ := fullShare
  owed _ := 0

theorem after_0 (c : Dev nD) (t : Fin (cfgA a).N) : (dats a m 0 c).after (0 : Fin 7) t = iblk a m c (0 : Fin 7) t := rfl
theorem after_1 (c : Dev nD) (t : Fin (cfgA a).N) : (dats a m 0 c).after (1 : Fin 7) t = iblk a m c (1 : Fin 7) t := rfl
theorem after_2 (c : Dev nD) (t : Fin (cfgA a).N) : (dats a m 0 c).after (2 : Fin 7) t = iblk a m c (2 : Fin 7) t := rfl
theorem after_3 (c : Dev nD) (t : Fin (cfgA a).N) : (dats a m 0 c).after (3 : Fin 7) t = iblk a m c (3 : Fin 7) t := rfl
theorem after_4 (c : Dev nD) (t : Fin (cfgA a).N) : (dats a m 0 c).after (4 : Fin 7) t = iblk a m c (4 : Fin 7) t := rfl
theorem after_5 (c : Dev nD) (t : Fin (cfgA a).N) : (dats a m 0 c).after (5 : Fin 7) t = iblk a m c (5 : Fin 7) t := rfl
theorem after_6 (c : Dev nD) (t : Fin (cfgA a).N) : (dats a m 0 c).after (6 : Fin 7) t = outBlock a m c t := rfl

theorem before_0 (c : Dev nD) (t : Fin (cfgA a).N) (d) : (dats a m 0 c).before (0 : Fin 7) t d = iblk a m c (0 : Fin 7) t :=
  ((dats a m 0 c).before_in_eq_fetched (0 : Fin 7) rfl (fun _ => rfl) (fun _ _ _ => rfl)
    (fun t => by rw [after_0]; unfold Dat.blockOf iblk; rfl) t d).trans (by unfold Dat.fetched Dat.blockOf iblk; rfl)
theorem before_1 (c : Dev nD) (t : Fin (cfgA a).N) (d) : (dats a m 0 c).before (1 : Fin 7) t d = iblk a m c (1 : Fin 7) t :=
  ((dats a m 0 c).before_in_eq_fetched (1 : Fin 7) rfl (fun _ => rfl) (fun _ _ _ => rfl)
    (fun t => by rw [after_1]; unfold Dat.blockOf iblk; rfl) t d).trans (by unfold Dat.fetched Dat.blockOf iblk; rfl)
theorem before_2 (c : Dev nD) (t : Fin (cfgA a).N) (d) : (dats a m 0 c).before (2 : Fin 7) t d = iblk a m c (2 : Fin 7) t :=
  ((dats a m 0 c).before_in_eq_fetched (2 : Fin 7) rfl (fun _ => rfl) (fun _ _ _ => rfl)
    (fun t => by rw [after_2]; unfold Dat.blockOf iblk; rfl) t d).trans (by unfold Dat.fetched Dat.blockOf iblk; rfl)
theorem before_3 (c : Dev nD) (t : Fin (cfgA a).N) (d) : (dats a m 0 c).before (3 : Fin 7) t d = iblk a m c (3 : Fin 7) t :=
  ((dats a m 0 c).before_in_eq_fetched (3 : Fin 7) rfl (fun _ => rfl) (fun _ _ _ => rfl)
    (fun t => by rw [after_3]; unfold Dat.blockOf iblk; rfl) t d).trans (by unfold Dat.fetched Dat.blockOf iblk; rfl)
theorem before_4 (c : Dev nD) (t : Fin (cfgA a).N) (d) : (dats a m 0 c).before (4 : Fin 7) t d = iblk a m c (4 : Fin 7) t :=
  ((dats a m 0 c).before_in_eq_fetched (4 : Fin 7) rfl (fun _ => rfl) (fun _ _ _ => rfl)
    (fun t => by rw [after_4]; unfold Dat.blockOf iblk; rfl) t d).trans (by unfold Dat.fetched Dat.blockOf iblk; rfl)
theorem before_5 (c : Dev nD) (t : Fin (cfgA a).N) (d) : (dats a m 0 c).before (5 : Fin 7) t d = iblk a m c (5 : Fin 7) t :=
  ((dats a m 0 c).before_in_eq_fetched (5 : Fin 7) rfl (fun _ => rfl) (fun _ _ _ => rfl)
    (fun t => by rw [after_5]; unfold Dat.blockOf iblk; rfl) t d).trans (by unfold Dat.fetched Dat.blockOf iblk; rfl)

/-- Every step stores its output block. -/
theorem idle_6 (t : Fin (cfgA a).N) : (cfgA a).idle (6 : Fin 7) ((cfgA a).grid.coords t) = false := by
  show (!(k0_cond2 (crd a t) (a.1.atD 1 ![0]) == 1#1) && !(k0_cond3 (crd a t) (a.1.atD 1 ![0]) == 1#1)) = false
  generalize a.1.atD 1 ![0] = v
  rcases lt_or_ge ((((crd a t) 0).val : Int)) (BitVec.toInt v) with h | h
  · rw [(cond2_iff (crd a t) v).2 h]; rfl
  · rw [(cond3_iff (crd a t) v).2 h]; simp

/-- The body at step `t`, as the pipeline calls it. -/
abbrev bodyAt (t : Fin (cfgA a).N) : Prog (TpuEff nD τ sig (Elt Ideal) Λ₀ .tc) PUnit :=
  cc0_moe_experts (crd a t) (Memref.whole main_arg0) (Memref.isWhole_whole _) (Memref.whole main_arg1) (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (Memref.whole cc0_scratch0) (Memref.isWhole_whole _) (Memref.whole cc0_scratch1) (Memref.isWhole_whole _) (Memref.whole cc0_scratch2) (Memref.isWhole_whole _)

/-- The entry of the prefetched table, in the two forms of it that are used. -/
theorem tblEntry_eq (c : Dev nD) (pf : pre0.Contents (Elt Ideal)) (n : Fin 291) : tblEntry pf n = entry c (pf 0) n := by
  unfold tblEntry entry
  refine congrArg (pf 0 : S291.Idx → BitVec 32) (funext fun b => ?_)
  match b with
  | ⟨0, _⟩ => rfl

set_option maxHeartbeats 4000000 in
/-- One step: from the invariant and the staged blocks, the body runs and leaves the invariant of the next step. -/
theorem sound_body (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 7) t d))
        ∗ (∃ d, owns (c : Thread nD τ) (ms1 a t) fullShare ((dats a m 0 c).before (1 : Fin 7) t d))
        ∗ (∃ d, owns (c : Thread nD τ) (ms2 a t) fullShare ((dats a m 0 c).before (2 : Fin 7) t d))
        ∗ (∃ d, owns (c : Thread nD τ) (ms3 a t) fullShare ((dats a m 0 c).before (3 : Fin 7) t d))
        ∗ (∃ d, owns (c : Thread nD τ) (ms4 a t) fullShare ((dats a m 0 c).before (4 : Fin 7) t d))
        ∗ (∃ d, owns (c : Thread nD τ) (ms5 a t) fullShare ((dats a m 0 c).before (5 : Fin 7) t d))
        ∗ (∃ d, owns (c : Thread nD τ) (ms6 a t) fullShare ((dats a m 0 c).before (6 : Fin 7) t d)))
      ⊢ wp frame (wpE (defs₀ (F := Ideal)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  have hv := crd_val a t
  have hchk : k0_chk1 (crd a t) (used c (a.1 1)) := k0_chk1_all _ _
  rewrite [idle_6]
  simp only [before_0, before_1, before_2, before_3, before_4, before_5, after_0, after_1, after_2, after_3, after_4, after_5, after_6]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi
  simp only [Fin.val_castSucc, Fin.val_succ]
  iintro ⟨⟨⟨%b0, %b1, %b2, %hb, HS0, HS1, HS2⟩, HT0, HT1⟩, Ho, ⟨%d0, H0⟩, ⟨%d1, H1⟩, ⟨%d2, H2⟩, ⟨%d3, H3⟩, ⟨%d4, H4⟩, ⟨%d5, H5⟩, ⟨%d6, H6⟩⟩
  by_cases hu : isUsed a c t
  · have hu' : ((((crd a t) 0).val : Int)) < (used c (a.1 1)).toInt := by rw [hv]; exact hu
    have hc2 : k0_cond2 (crd a t) (used c (a.1 1)) = 1#1 := (cond2_iff _ _).2 hu'
    have hc3 : ¬ (k0_cond3 (crd a t) (used c (a.1 1)) = 1#1) := fun h => by have := (cond3_iff _ _).1 h; omega
    by_cases hr : reload c (a.1 0) (a.1 1) (crd a t) hchk
    · skip
      iapply ((runReload c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3).2.2.2.2 b0 b1 b2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0 HS1 HS2]
        · iexists _; iexists _; iexists _; isplitr; swap
          · isplitl [HS0]; · iexact HS0
            isplitl [HS1]; · iexact HS1
            iexact HS2
          · ipureintro; intro s hs _; obtain rfl : s = t := Fin.ext (by omega); exact ⟨reload_gate c (a.1 0) (a.1 1) (crd a s) (ms0 a s) (hs0 a s) (ms1 a s) (hs1 a s) (ms2 a s) (hs2 a s) (ms3 a s) (hs3 a s) (ms4 a s) (hs4 a s) (ms5 a s) (hs5 a s) (ms6 a s) (hs6 a s) (iblk a m c (0 : Fin 7) s) (iblk a m c (1 : Fin 7) s) (iblk a m c (2 : Fin 7) s) (iblk a m c (3 : Fin 7) s) (iblk a m c (4 : Fin 7) s) (iblk a m c (5 : Fin 7) s) hchk hr hc2 hc3, reload_lin c (a.1 0) (a.1 1) (crd a s) (ms0 a s) (hs0 a s) (ms1 a s) (hs1 a s) (ms2 a s) (hs2 a s) (ms3 a s) (hs3 a s) (ms4 a s) (hs4 a s) (ms5 a s) (hs5 a s) (ms6 a s) (hs6 a s) (iblk a m c (0 : Fin 7) s) (iblk a m c (1 : Fin 7) s) (iblk a m c (2 : Fin 7) s) (iblk a m c (3 : Fin 7) s) (iblk a m c (4 : Fin 7) s) (iblk a m c (5 : Fin 7) s) hchk hr hc2 hc3, reload_down c (a.1 0) (a.1 1) (crd a s) (ms0 a s) (hs0 a s) (ms1 a s) (hs1 a s) (ms2 a s) (hs2 a s) (ms3 a s) (hs3 a s) (ms4 a s) (hs4 a s) (ms5 a s) (hs5 a s) (ms6 a s) (hs6 a s) (iblk a m c (0 : Fin 7) s) (iblk a m c (1 : Fin 7) s) (iblk a m c (2 : Fin 7) s) (iblk a m c (3 : Fin 7) s) (iblk a m c (4 : Fin 7) s) (iblk a m c (5 : Fin 7) s) hchk hr hc2 hc3⟩
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact (reload_out c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3 e6).trans (outBlock_used a m c t hu).symm
    · obtain ⟨n, hn, he⟩ := keep_used c (a.1 0) (a.1 1) (crd a t) hchk hu' hr
      have hp : n.val < (cfgA a).N := lt_trans (by omega) t.isLt
      have hcn : (crd a ⟨n.val, hp⟩) 0 = n := Fin.ext (crd_val a ⟨n.val, hp⟩)
      have hex : ex a ⟨n.val, hp⟩ = ex a t := by
        refine Fin.ext ?_
        show (tblEntry a.1 (crd a ⟨n.val, hp⟩ 0)).toNat = (tblEntry a.1 (crd a t 0)).toNat
        rw [hcn]; exact congrArg BitVec.toNat (((tblEntry_eq c a.1 n).trans he).trans (tblEntry_eq c a.1 _).symm)
      have hun : isUsed a c ⟨n.val, hp⟩ := by
        show ((n.val : Int)) < (used c (a.1 1)).toInt
        omega
      obtain ⟨rfl, rfl, rfl⟩ := hb ⟨n.val, hp⟩ (by show n.val + 1 = t.val; omega) hun
      rw [iblk1_congr a m c hex, iblk4_congr a m c hex]
      iapply ((runKeep c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) (bG c (iblk a m c (1 : Fin 7) t)) (bL c (iblk a m c (1 : Fin 7) t)) (bD c (iblk a m c (4 : Fin 7) t)) hchk hr hc2 hc3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0 HS1 HS2]
        · iexists _; iexists _; iexists _; isplitr; swap
          · isplitl [HS0]; · iexact HS0
            isplitl [HS1]; · iexact HS1
            iexact HS2
          · ipureintro; intro s hs _; obtain rfl : s = t := Fin.ext (by omega); exact ⟨rfl, rfl, rfl⟩
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact (keep_out c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3 e6).trans (outBlock_used a m c t hu).symm
  · have hu' : (used c (a.1 1)).toInt ≤ ((((crd a t) 0).val : Int)) := by rw [hv]; exact not_lt.1 hu
    have hc3 : k0_cond3 (crd a t) (used c (a.1 1)) = 1#1 := (cond3_iff _ _).2 hu'
    have hc2 : ¬ (k0_cond2 (crd a t) (used c (a.1 1)) = 1#1) := fun h => by have := (cond2_iff _ _).1 h; omega
    by_cases hr : reload c (a.1 0) (a.1 1) (crd a t) hchk
    · skip
      iapply ((runReloadIdle c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3).2.2.2.2 b0 b1 b2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0 HS1 HS2]
        · iexists _; iexists _; iexists _; isplitr; swap
          · isplitl [HS0]; · iexact HS0
            isplitl [HS1]; · iexact HS1
            iexact HS2
          · ipureintro; intro s hs hs'; obtain rfl : s = t := Fin.ext (by omega); exact absurd hs' hu
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact (reloadIdle_out c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3 e6).trans (outBlock_idle a m c t hu).symm
    · skip
      iapply ((runIdle c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) b0 b1 b2 hchk hr hc2 hc3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0 HS1 HS2]
        · iexists _; iexists _; iexists _; isplitr; swap
          · isplitl [HS0]; · iexact HS0
            isplitl [HS1]; · iexact HS1
            iexact HS2
          · ipureintro; intro s hs hs'; obtain rfl : s = t := Fin.ext (by omega); exact absurd hs' hu
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact (idle_out c (a.1 0) (a.1 1) (crd a t) (ms0 a t) (hs0 a t) (ms1 a t) (hs1 a t) (ms2 a t) (hs2 a t) (ms3 a t) (hs3 a t) (ms4 a t) (hs4 a t) (ms5 a t) (hs5 a t) (ms6 a t) (hs6 a t) (iblk a m c (0 : Fin 7) t) (iblk a m c (1 : Fin 7) t) (iblk a m c (2 : Fin 7) t) (iblk a m c (3 : Fin 7) t) (iblk a m c (4 : Fin 7) t) (iblk a m c (5 : Fin 7) t) hchk hr hc2 hc3 b0 b1 b2 e6).trans (outBlock_idle a m c t hu).symm

theorem body_obligation (c : Dev nD) : BodyObligation (dats a m 0 c) (defs₀ (F := Ideal)) Variants.none () Set.univ := fun t => by
  rw [bigSep_W0]; exact sound_body a m c t

/-! ## The launch -/

def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem phi_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  iintro ⟨-, ⟨HT0, HT1⟩, ⟨%b0, HS0⟩, ⟨%b1, HS1⟩, ⟨%b2, HS2⟩⟩
  isplitl [HS0 HS1 HS2]
  · iexists b0; iexists b1; iexists b2; isplitr; swap
    · isplitl [HS0]; · iexact HS0
      isplitl [HS1]; · iexact HS1
      iexact HS2
    · ipureintro; intro s hs; exact absurd hs (Nat.succ_ne_zero _)
  isplitl [HT0]; · iexact HT0
  iexact HT1

theorem phi_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (Fin.last _) from rfl]
  unfold Phi
  iintro ⟨⟨%b0, %b1, %b2, -, HS0, HS1, HS2⟩, -, -⟩
  isplitr; · iempintro
  isplitl [HS0]
  · iexists b0; iexact HS0
  isplitl [HS1]
  · iexists b1; iexact HS1
  iexists b2; iexact HS2

/-- What a run leaves: every array at what the pipeline's data say, the tables as they were. -/
def QC : PUnit × MemSt nD τ sig (Elt Ideal) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- From a memory whose tables are `a`, every weakly fair execution ends with the arrays as computed and every counter at zero. -/
theorem run_main_quiescent (hV : ∀ (c : Dev nD) (j : Fin 2), m ((c : Thread nD τ).loc (pre0.ref j)) = a.1 j) :
    θ_run (defs (F := Ideal)) (onTc (τ := τ) (main (F := Ideal))) ⟨m, fun _ => 0, ρ⟩ (fun r => QC a m r ∧ r.2.sem = fun _ => 0) :=
  Pipeline.θ_run_region_noSem_pf_quiescent pcfgs (fun _ => a) (dats a m) () ((launch0 (F := Ideal)).cellOf_inj fun _ => a) (0 : Fin 1)
    (launch0 (F := Ideal)).win.to₀ (launch0 (F := Ideal)).pre EP defs₀ Variants.none m ρ main
    (hbody := fun c => (body_obligation a m c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := Ideal)).win.arr_inj c (launch0 (F := Ideal)).arr_whole
      (share_eq a m c) _ _ fun _ => rfl)
    (hpf := hV)
    (X := fun _ => iprop(emp)) (Y := fun _ => iprop(emp)) (Z := fun _ => iprop(emp))
    (hX := fun c => by rw [unscopedRestP0_eq]; iintro -; isplitr <;> iempintro)
    (hin := phi_intro a m)
    (hout := phi_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments of a memory, all as they were in another. -/
abbrev Same (r : MemSt nD τ sig (Elt Ideal)) : Prop := ∀ c : Dev nD,
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)

theorem same_of_QC (hV : ∀ (c : Dev nD) (j : Fin 2), m ((c : Thread nD τ).loc (pre0.ref j)) = a.1 j) (r : PUnit × MemSt nD τ sig (Elt Ideal)) (h : QC a m r) : Same m r.2 := fun c =>
  ⟨((h c).2 0).trans (hV c 0).symm, ((h c).2 1).trans (hV c 1).symm, ((h c).1 (0 : Fin 7)).trans ((dats a m 0 c).arrAt_in (0 : Fin 7) rfl _),
    ((h c).1 (1 : Fin 7)).trans ((dats a m 0 c).arrAt_in (1 : Fin 7) rfl _), ((h c).1 (2 : Fin 7)).trans ((dats a m 0 c).arrAt_in (2 : Fin 7) rfl _),
    ((h c).1 (3 : Fin 7)).trans ((dats a m 0 c).arrAt_in (3 : Fin 7) rfl _), ((h c).1 (4 : Fin 7)).trans ((dats a m 0 c).arrAt_in (4 : Fin 7) rfl _),
    ((h c).1 (5 : Fin 7)).trans ((dats a m 0 c).arrAt_in (5 : Fin 7) rfl _)⟩

/-- The frame at admissible tables: the arguments end unchanged and every counter reads zero. -/
theorem frame_at (hV : ∀ (c : Dev nD) (j : Fin 2), m ((c : Thread nD τ).loc (pre0.ref j)) = a.1 j) :
    θ_run (defs (F := Ideal)) (onTc (τ := τ) (main (F := Ideal))) ⟨m, fun _ => 0, ρ⟩ (fun r => Same m r.2 ∧ r.2.sem = fun _ => 0) :=
  (θ_run defs _ _).mono (fun r h => ⟨same_of_QC a m hV r h.1, h.2⟩) (run_main_quiescent a m ρ hV)

end Cert.KernelIdeal.Moe

end
-- ==== Proof.MoeIdeal.Start.lean ====
module

public import proofs.«01_k».proof.Proof.MoeIdeal.Frame
public import proofs.«01_k».proof.Proof.Range
public import proofs.«01_k».proof.Defs

@[expose] public section

/-! The tables of a memory under the precondition, and the frame of the expert layer from any such memory. -/

noncomputable section

namespace Cert.KernelIdeal.Moe

open Cert.KernelIdeal Cert.KernelIdeal.Gen
open Idealize.ShloMosaic
open Idealize.ShloMosaic.TcCoe
open Idealize.SL Idealize.SL.Sem

/-- There is one device. -/
theorem dev_eq (c c' : Dev nD) : c = c' := Subsingleton.elim (α := Fin 1) c c'

/-- The device. -/
abbrev d₀ : Dev nD := (0 : Fin 1)

variable (m : (ℓ : Loc nD τ sig) → Buf (Elt Ideal) ℓ) (h : Pre_KernelIdeal m)

/-- The tables of a memory, as the launch reads them. -/
def tablesOf : pre0.Contents (Elt Ideal) := fun j => m (((d₀ : Dev nD) : Thread nD τ).loc (pre0.ref j))

include h in
theorem tables_ok : ok0 (F := Ideal) (tablesOf m) :=
  ok_of_range _ fun n => Cert.Pre_in_range.range_of_pre _ _ _ _ _ _ _ _ (h d₀) _

/-- The tables of a memory under the precondition are admissible. -/
def admOf : (pcfg0 (F := Ideal)).Adm := ⟨tablesOf m, tables_ok m h⟩

theorem admOf_tables (c : Dev nD) (j : Fin 2) : m ((c : Thread nD τ).loc (pre0.ref j)) = (admOf m h).1 j := by
  rw [dev_eq c d₀]; rfl

include h in
/-- The frame under the precondition. -/
theorem quiescent (ρ : Dev nD → PrngReg) :
    θ_run (defs (F := Ideal)) (onTc (τ := τ) (main (F := Ideal))) ⟨m, fun _ => 0, ρ⟩ (fun r => Same m r.2 ∧ r.2.sem = fun _ => 0) :=
  frame_at (admOf m h) m ρ (admOf_tables m h)

end Cert.KernelIdeal.Moe

end
-- ==== Proof.MoeIdeal.Weights.lean ====
module

public import proofs.«01_k».proof.Proof.MoeIdeal.Step
public import Idealize.ShloMosaic.Lib.Pointwise
public import Idealize.ShloMosaic.Lib.MatmulPlain

@[expose] public section

set_option maxRecDepth 16384
set_option Elab.async false

noncomputable section

namespace Cert.KernelIdeal.Moe

open Cert.KernelIdeal Cert.KernelIdeal.Gen
open Idealize.ShloMosaic
open Idealize.ShloMosaic.TcCoe
open Idealize.SL Idealize.SL.Sem
open scoped BigOperators

/-- The row that column `c` of a chunk comes from. -/
def src (c : Fin 256) : Fin 256 := if h : c.val < 128 then ⟨2 * c.val, by omega⟩ else ⟨2 * (c.val - 128) + 1, by omega⟩

/-- The word that a column's one sits at. -/
theorem src_word : ∀ c : Fin 256, Scalar.select (IntOp.cmpi CmpIPredicate.slt (BitVec.ofNat 32 c.val) 128#32)
    (IntOp.muli (2#32) (BitVec.ofNat 32 c.val)) (IntOp.addi (IntOp.muli (2#32) (IntOp.subi (BitVec.ofNat 32 c.val) 128#32)) 1#32)
      = BitVec.ofNat 32 (src c).val := by decide +kernel

/-- The matrix of the chunk's columns, even ones first: one one per column. -/
theorem pay9_apply (j c : Fin 256) : k0_pay9 (F := Ideal) (ix2 j c) = if j = src c then 1 else 0 := by
  unfold k0_pay9
  pointwise
  rw [src_word c]
  by_cases h : j = src c
  · subst h
    rw [if_pos rfl]
    exact if_pos (by show BitVec.ofBool (_ == _) = 1#1; rw [beq_self_eq_true]; rfl)
  · rw [if_neg h]
    refine if_neg fun e => h (Fin.ext ?_)
    have e' : BitVec.ofNat 32 j.val = BitVec.ofNat 32 (src c).val := by
      by_contra hn
      have : (BitVec.ofNat 32 j.val == BitVec.ofNat 32 (src c).val) = false := beq_eq_false_iff_ne.mpr hn
      change BitVec.ofBool (_ == _) = 1#1 at e
      rw [this] at e
      exact absurd e (by decide)
    have e2 := congrArg BitVec.toNat e'
    rw [BitVec.toNat_ofNat, BitVec.toNat_ofNat, Nat.mod_eq_of_lt (by omega), Nat.mod_eq_of_lt (by omega)] at e2
    exact e2

theorem pay10_apply (v : Vec Ideal S1x1024x256 .f32) (r : Fin 1024) (c : Fin 256) :
    k0_pay10 (F := Ideal) v (ix2 r c) = v (ix3 0 r (src c)) := by
  unfold k0_pay10
  pointwise [dot_S1024x256_S256x256_S1024x256_1_0_0_1_n_n, pay9_apply]
  rw [Finset.sum_eq_single (src c)]
  · rw [if_pos rfl, mul_one]
  · intro b _ hb; rw [if_neg hb, mul_zero]
  · intro h; exact absurd (Finset.mem_univ _) h

theorem pay11_apply (v : Vec Ideal S1x1024x256 .f32) (r : Fin 1024) (c : Fin 128) :
    k0_pay11 (F := Ideal) v (ix2 r c) = v (ix3 0 r ⟨2 * c.val, by omega⟩) := by
  unfold k0_pay11
  pointwise [pay10_apply]
  refine congrArg (fun q => v (ix3 0 r q)) (Fin.ext ?_)
  unfold src
  rw [dif_pos c.isLt]

theorem pay12_apply (v : Vec Ideal S1x1024x256 .f32) (r : Fin 1024) (c : Fin 128) :
    k0_pay12 (F := Ideal) v (ix2 r c) = v (ix3 0 r ⟨2 * c.val + 1, by omega⟩) := by
  unfold k0_pay12
  pointwise [pay10_apply]
  refine congrArg (fun q => v (ix3 0 r q)) (Fin.ext ?_)
  unfold src
  rw [dif_neg (by show ¬ (128 + c.val < 128); omega)]
  show 2 * (128 + c.val - 128) + 1 = 2 * c.val + 1
  omega

/-- The gate columns of a weight block. -/
def gateCols (x1 : Vec Ideal S1x1024x2048 .f32) : Vec Ideal S1024x1024 .bf16 := fun y => x1 (ix3 0 (y 0) ⟨2 * (y 1).val, by have := (y 1).isLt; change _ < 1024 at this; omega⟩)
/-- The linear columns. -/
def linCols (x1 : Vec Ideal S1x1024x2048 .f32) : Vec Ideal S1024x1024 .bf16 := fun y => x1 (ix3 0 (y 0) ⟨2 * (y 1).val + 1, by have := (y 1).isLt; change _ < 1024 at this; omega⟩)

/-- One chunk's gate columns, where they are stored. -/
theorem gate_chunk (x1 : Vec Ideal S1x1024x2048 .f32) (k : Nat) (v : Vec Ideal S1x1024x256 .f32)
    (hk : ∀ r : Fin 1024, ∀ q : Fin 256, ∀ h : 256 * k + q.val < 2048, v (ix3 0 r q) = x1 (ix3 0 r ⟨256 * k + q.val, h⟩))
    (hb : ∀ a, (![0, 128 * k] : Fin 2 → Nat) a + S1024x128.size a ≤ S1024x1024.size a) (x : S1024x128.Idx) :
    k0_pay11 (F := Ideal) v x = gateCols x1 ((Rect.unit (s := S1024x1024) ![0, 128 * k] S1024x128.size hb).emb x) := by
  have h1 : 128 * k + 128 ≤ 1024 := hb 1
  obtain ⟨r, q, rfl⟩ : ∃ (r : Fin 1024) (q : Fin 128), x = ix2 r q :=
    ⟨x 0, x 1, by funext a; match a with | ⟨0, _⟩ => rfl | ⟨1, _⟩ => rfl⟩
  rw [pay11_apply, hk _ _ (by show 256 * k + 2 * q.val < 2048; omega)]
  unfold gateCols
  refine congrArg x1 (funext fun a => Fin.ext ?_)
  match a with
  | ⟨0, _⟩ => rfl
  | ⟨1, _⟩ => show r.val = 0 + 1 * r.val; omega
  | ⟨2, _⟩ => show 256 * k + 2 * q.val = 2 * (128 * k + 1 * q.val); omega

theorem lin_chunk (x1 : Vec Ideal S1x1024x2048 .f32) (k : Nat) (v : Vec Ideal S1x1024x256 .f32)
    (hk : ∀ r : Fin 1024, ∀ q : Fin 256, ∀ h : 256 * k + q.val < 2048, v (ix3 0 r q) = x1 (ix3 0 r ⟨256 * k + q.val, h⟩))
    (hb : ∀ a, (![0, 128 * k] : Fin 2 → Nat) a + S1024x128.size a ≤ S1024x1024.size a) (x : S1024x128.Idx) :
    k0_pay12 (F := Ideal) v x = linCols x1 ((Rect.unit (s := S1024x1024) ![0, 128 * k] S1024x128.size hb).emb x) := by
  have h1 : 128 * k + 128 ≤ 1024 := hb 1
  obtain ⟨r, q, rfl⟩ : ∃ (r : Fin 1024) (q : Fin 128), x = ix2 r q :=
    ⟨x 0, x 1, by funext a; match a with | ⟨0, _⟩ => rfl | ⟨1, _⟩ => rfl⟩
  rw [pay12_apply, hk _ _ (by show 256 * k + (2 * q.val + 1) < 2048; omega)]
  unfold linCols
  refine congrArg x1 (funext fun a => Fin.ext ?_)
  match a with
  | ⟨0, _⟩ => rfl
  | ⟨1, _⟩ => show r.val = 0 + 1 * r.val; omega
  | ⟨2, _⟩ => show 256 * k + (2 * q.val + 1) = 2 * (128 * k + 1 * q.val) + 1; omega

/-- A chunk of the weight block, read. -/
theorem chunk_read (v : View sig .tc .vmem S1x1024x2048 .f32) (x1 : Vec Ideal S1x1024x2048 .f32) (k : Nat)
    (hb : ∀ a, (![0, 0, 256 * k] : Fin 3 → Nat) a + S1x1024x256.size a ≤ S1x1024x2048.size a) (r : Fin 1024) (q : Fin 256) (h : 256 * k + q.val < 2048) :
    View.readAt (Elt Ideal) v (Rect.unit (s := S1x1024x2048) ![0, 0, 256 * k] S1x1024x256.size hb).toLoadRect (v.rep x1) (ix3 0 r q)
      = x1 (ix3 0 r ⟨256 * k + q.val, h⟩) := by
  rw [View.readAt_rep]
  refine congrArg x1 (funext fun a => Fin.ext ?_)
  match a with
  | ⟨0, _⟩ => rfl
  | ⟨1, _⟩ => show 0 + 1 * r.val = r.val; omega
  | ⟨2, _⟩ => show 256 * k + 1 * q.val = 256 * k + q.val; omega

theorem gate_list (M : Memref sig .tc .vmem S1x1024x2048 .f32) (x1 : Vec Ideal S1x1024x2048 .f32) :
    ∀ p ∈ runReload.sl.HS0_8 M x1, ∀ x : p.1.shape.Idx, p.2 x = gateCols x1 (p.1.emb x) := by
  unfold runReload.sl.HS0_8
  intro p hp
  simp only [List.mem_cons, List.not_mem_nil, or_false] at hp
  rcases hp with rfl | rfl | rfl | rfl | rfl | rfl | rfl | rfl
  · exact gate_chunk x1 7 _ (chunk_read M.view x1 7 (by decide)) (by decide)
  · exact gate_chunk x1 6 _ (chunk_read M.view x1 6 (by decide)) (by decide)
  · exact gate_chunk x1 5 _ (chunk_read M.view x1 5 (by decide)) (by decide)
  · exact gate_chunk x1 4 _ (chunk_read M.view x1 4 (by decide)) (by decide)
  · exact gate_chunk x1 3 _ (chunk_read M.view x1 3 (by decide)) (by decide)
  · exact gate_chunk x1 2 _ (chunk_read M.view x1 2 (by decide)) (by decide)
  · exact gate_chunk x1 1 _ (chunk_read M.view x1 1 (by decide)) (by decide)
  · exact gate_chunk x1 0 _ (chunk_read M.view x1 0 (by decide)) (by decide)

theorem lin_list (M : Memref sig .tc .vmem S1x1024x2048 .f32) (x1 : Vec Ideal S1x1024x2048 .f32) :
    ∀ p ∈ runReload.sl.HS1_8 M x1, ∀ x : p.1.shape.Idx, p.2 x = linCols x1 (p.1.emb x) := by
  unfold runReload.sl.HS1_8
  intro p hp
  simp only [List.mem_cons, List.not_mem_nil, or_false] at hp
  rcases hp with rfl | rfl | rfl | rfl | rfl | rfl | rfl | rfl
  · exact lin_chunk x1 7 _ (chunk_read M.view x1 7 (by decide)) (by decide)
  · exact lin_chunk x1 6 _ (chunk_read M.view x1 6 (by decide)) (by decide)
  · exact lin_chunk x1 5 _ (chunk_read M.view x1 5 (by decide)) (by decide)
  · exact lin_chunk x1 4 _ (chunk_read M.view x1 4 (by decide)) (by decide)
  · exact lin_chunk x1 3 _ (chunk_read M.view x1 3 (by decide)) (by decide)
  · exact lin_chunk x1 2 _ (chunk_read M.view x1 2 (by decide)) (by decide)
  · exact lin_chunk x1 1 _ (chunk_read M.view x1 1 (by decide)) (by decide)
  · exact lin_chunk x1 0 _ (chunk_read M.view x1 0 (by decide)) (by decide)

theorem wG_eq (c : Dev nD) (x1 : Vec Ideal S1x1024x2048 .f32) : wG c x1 = gateCols x1 := by
  have hc := View.cover_of_tiled (runReload.sl.HS0_8 (Memref.whole cc0_stg1_0) x1) ![1024, 128] rfl
  unfold wG
  rw [View.readAt_full]
  unfold bG scG
  exact funext fun y => View.read_writes_apply_of_pieces _ _ (gateCols x1) _ (gate_list _ x1) y (hc y)

theorem wL_eq (c : Dev nD) (x1 : Vec Ideal S1x1024x2048 .f32) : wL c x1 = linCols x1 := by
  have hc := View.cover_of_tiled (runReload.sl.HS1_8 (Memref.whole cc0_stg1_0) x1) ![1024, 128] rfl
  unfold wL
  rw [View.readAt_full]
  unfold bL scL
  exact funext fun y => View.read_writes_apply_of_pieces _ _ (linCols x1) _ (lin_list _ x1) y (hc y)

/-- A block of the down projection, as a matrix. -/
def downBlk (x4 : Vec Ideal S1x1024x1024 .f32) : Vec Ideal S1024x1024 .bf16 :=
  fun y => x4 (ix3 (0 : Fin 1) (⟨(y 0).val, (y 0).isLt⟩ : Fin 1024) (⟨(y 1).val, (y 1).isLt⟩ : Fin 1024))

theorem pay6_apply (v : Vec Ideal S1x1024x1024 .f32) (r q : Fin 1024) : k0_pay6 (F := Ideal) v (ix2 r q) = v (ix3 0 r q) := by
  pointwise [k0_pay6]

theorem down_piece (x4 v : Vec Ideal S1x1024x1024 .f32) (hv : v = x4)
    (hb : ∀ a, (![0, 0] : Fin 2 → Nat) a + S1024x1024.size a ≤ S1024x1024.size a) (x : S1024x1024.Idx) :
    k0_pay6 (F := Ideal) v x = downBlk x4 ((Rect.unit (s := S1024x1024) ![0, 0] S1024x1024.size hb).emb x) := by
  subst hv
  obtain ⟨r, q, rfl⟩ : ∃ (r q : Fin 1024), x = ix2 r q :=
    ⟨x 0, x 1, by funext a; match a with | ⟨0, _⟩ => rfl | ⟨1, _⟩ => rfl⟩
  rw [pay6_apply]
  unfold downBlk
  refine congrArg v (funext fun a => Fin.ext ?_)
  match a with
  | ⟨0, _⟩ => rfl
  | ⟨1, _⟩ => show r.val = 0 + 1 * r.val; omega
  | ⟨2, _⟩ => show q.val = 0 + 1 * q.val; omega

theorem down_list (M : Memref sig .tc .vmem S1x1024x1024 .f32) (x4 : Vec Ideal S1x1024x1024 .f32) :
    ∀ p ∈ runReload.sl.HS2_1 M x4, ∀ x : p.1.shape.Idx, p.2 x = downBlk x4 (p.1.emb x) := by
  unfold runReload.sl.HS2_1
  intro p hp
  simp only [List.mem_cons, List.not_mem_nil, or_false] at hp
  rcases hp with rfl
  exact down_piece x4 _ (View.readAt_rep_full M.view x4 inb_S1x1024x1024_S1x1024x1024_0_0_0) inb_S1024x1024_S1024x1024_0_0

/-- The down projection's scratch is the window's block, as a matrix. -/
theorem wD_eq (c : Dev nD) (x4 : Vec Ideal S1x1024x1024 .f32) : wD c x4 = downBlk x4 := by
  have hc := View.cover_of_tiled (runReload.sl.HS2_1 (Memref.whole cc0_stg4_0) x4) ![1024, 1024] rfl
  unfold wD
  rw [View.readAt_full]
  unfold bD scD
  exact funext fun y => View.read_writes_apply_of_pieces _ _ (downBlk x4) _ (down_list _ x4) y (hc y)

end Cert.KernelIdeal.Moe
-- ==== Proof.Spec.lean ====
module

public import Idealize.ShloMosaic.Lib.Pointwise

@[expose] public section

/-! The expert layer, element by element: what both programs compute. -/

noncomputable section

namespace Cert.Spec

open Idealize.ShloMosaic

/-- The clipped gate. -/
def gate (u b : EReal) : EReal := min (u + b) (Ideal.ofBits FTy.f32 1088421888#32)

/-- The clipped linear branch, plus one. -/
def lin (u b : EReal) : EReal := min (Ideal.ofBits FTy.f32 1088421888#32) (max (Ideal.ofBits FTy.f32 3235905536#32) (u + b)) + 1

/-- The gated activation. -/
def act (u bg v bl : EReal) : EReal :=
  gate u bg * Ideal.div 1 (1 + Ideal.exp (-(Ideal.ofBits FTy.f32 1071242019#32 * gate u bg))) * lin v bl

/-- One element of an expert's output on one row. -/
def expert (X : Fin 1024 → EReal) (W1 : Fin 1024 → Fin 2048 → EReal) (bg bl : Fin 1024 → EReal) (W2 : Fin 1024 → Fin 1024 → EReal)
    (b2 : Fin 1024 → EReal) (o : Fin 1024) : EReal :=
  ∑ k : Fin 1024, act (∑ j, X j * W1 j ⟨2 * k.val, by omega⟩) (bg k) (∑ j, X j * W1 j ⟨2 * k.val + 1, by omega⟩) (bl k) * W2 k o + b2 o

/-- A word as an expert's number. -/
def exNo (w : BitVec 32) : Fin 32 := ⟨w.toNat % 32, Nat.mod_lt _ (by decide)⟩

theorem exNo_val (w : BitVec 32) (h : w.toNat < 32) : (exNo w).val = w.toNat := Nat.mod_eq_of_lt h

/-- Row `r` of block `t` of the layer: the block's expert on the row, or zero past the used blocks. -/
def block (be : (⟨1, ![291]⟩ : Shape).Idx → BitVec 32) (n : (⟨1, ![1]⟩ : Shape).Idx → BitVec 32)
    (xs : (⟨2, ![148992, 1024]⟩ : Shape).Idx → EReal) (w1 : (⟨3, ![32, 1024, 2048]⟩ : Shape).Idx → EReal)
    (bg bl : (⟨3, ![32, 1, 1024]⟩ : Shape).Idx → EReal) (w2 : (⟨3, ![32, 1024, 1024]⟩ : Shape).Idx → EReal)
    (b2 : (⟨3, ![32, 1, 1024]⟩ : Shape).Idx → EReal) (t : Fin 291) (r : Fin 512) (o : Fin 1024) : EReal :=
  expert (fun j => xs (ix2 ⟨512 * t.val + r.val, by omega⟩ j)) (fun j q => w1 (ix3 (exNo (be (ix1 t))) j q))
    (fun k => bg (ix3 (exNo (be (ix1 t))) 0 k)) (fun k => bl (ix3 (exNo (be (ix1 t))) 0 k))
    (fun k q => w2 (ix3 (exNo (be (ix1 t))) k q)) (fun q => b2 (ix3 (exNo (be (ix1 t))) 0 q)) o

open Classical in
/-- The layer. -/
def out (be : (⟨1, ![291]⟩ : Shape).Idx → BitVec 32) (n : (⟨1, ![1]⟩ : Shape).Idx → BitVec 32)
    (xs : (⟨2, ![148992, 1024]⟩ : Shape).Idx → EReal) (w1 : (⟨3, ![32, 1024, 2048]⟩ : Shape).Idx → EReal)
    (bg bl : (⟨3, ![32, 1, 1024]⟩ : Shape).Idx → EReal) (w2 : (⟨3, ![32, 1024, 1024]⟩ : Shape).Idx → EReal)
    (b2 : (⟨3, ![32, 1, 1024]⟩ : Shape).Idx → EReal) : (⟨2, ![148992, 1024]⟩ : Shape).Idx → EReal := fun i =>
  if (((i 0).val / 512 : Nat) : Int) < (n (ix1 0)).toInt then
    block be n xs w1 bg bl w2 b2 ⟨(i 0).val / 512, by have : (i 0).val < 148992 := (i 0).isLt; omega⟩ ⟨(i 0).val % 512, by omega⟩ ⟨(i 1).val, (i 1).isLt⟩
  else 0

open Classical in
/-- The layer at row `r` of block `t`. -/
theorem out_at (be : (⟨1, ![291]⟩ : Shape).Idx → BitVec 32) (n : (⟨1, ![1]⟩ : Shape).Idx → BitVec 32) (xs : (⟨2, ![148992, 1024]⟩ : Shape).Idx → EReal) (w1 : (⟨3, ![32, 1024, 2048]⟩ : Shape).Idx → EReal)
    (bg bl : (⟨3, ![32, 1, 1024]⟩ : Shape).Idx → EReal) (w2 : (⟨3, ![32, 1024, 1024]⟩ : Shape).Idx → EReal) (b2 : (⟨3, ![32, 1, 1024]⟩ : Shape).Idx → EReal) (t : Fin 291) (r : Fin 512) (o : Fin 1024) :
    out be n xs w1 bg bl w2 b2 (ix2 ⟨512 * t.val + r.val, by omega⟩ o)
      = if ((t.val : Nat) : Int) < (n (ix1 0)).toInt then block be n xs w1 bg bl w2 b2 t r o else 0 := by
  have hq : (512 * t.val + r.val) / 512 = t.val := by omega
  have hr : (512 * t.val + r.val) % 512 = r.val := by omega
  have hx : (⟨(512 * t.val + r.val) / 512, by omega⟩ : Fin 291) = t := Fin.ext hq
  have hy : (⟨(512 * t.val + r.val) % 512, by omega⟩ : Fin 512) = r := Fin.ext hr
  show (if (((512 * t.val + r.val) / 512 : Nat) : Int) < (n (ix1 0)).toInt then
    block be n xs w1 bg bl w2 b2 ⟨(512 * t.val + r.val) / 512, _⟩ ⟨(512 * t.val + r.val) % 512, _⟩ o else 0) = _
  rw [hx, hy, hq]

/-- Every index is a row of a block and a column. -/
theorem index_cases (i : (⟨2, ![148992, 1024]⟩ : Shape).Idx) :
    ∃ (t : Fin 291) (r : Fin 512) (o : Fin 1024), i = ix2 ⟨512 * t.val + r.val, by omega⟩ o := by
  have h : (i 0).val < 148992 := (i 0).isLt
  refine ⟨⟨(i 0).val / 512, by omega⟩, ⟨(i 0).val % 512, by omega⟩, i 1, funext fun a => ?_⟩
  match a with
  | ⟨0, _⟩ => exact Fin.ext (by show (i 0).val = 512 * ((i 0).val / 512) + (i 0).val % 512; omega)
  | ⟨1, _⟩ => rfl

end Cert.Spec
-- ==== Proof.MoeIdeal.Block.lean ====
module

public import proofs.«01_k».proof.Proof.MoeIdeal.Weights
public import proofs.«01_k».proof.Proof.Spec

@[expose] public section

/-! What a used step writes, element by element. -/

noncomputable section

namespace Cert.KernelIdeal.Moe

open Cert.KernelIdeal Cert.KernelIdeal.Gen
open Idealize.ShloMosaic
open Idealize.ShloMosaic.TcCoe

theorem pay_apply (X : Vec Ideal S512x1024 .bf16) (G L D : Vec Ideal S1024x1024 .bf16) (bg bl bd : Vec Ideal S1x1x1024 .f32) (r : Fin 512) (o : Fin 1024) :
    k0_pay7 (F := Ideal) (k0_pay31 X G bg L bl D) bd (ix2 r o)
      = ∑ k : Fin 1024, Spec.act (∑ j : Fin 1024, X (ix2 r j) * G (ix2 j k)) (bg (ix3 0 0 k)) (∑ j : Fin 1024, X (ix2 r j) * L (ix2 j k)) (bl (ix3 0 0 k)) * D (ix2 k o) + bd (ix3 0 0 o) := by
  pointwise [k0_pay7, k0_pay31, dot_S512x1024_S1024x1024_S512x1024_1_0_0_1_n_n]
  simp only [Spec.act, Spec.gate, Spec.lin, zero_sub]

theorem yUsed_apply (c : Dev nD) (x0 : Vec Ideal S512x1024 .bf16) (x1 : Vec Ideal S1x1024x2048 .f32) (x2 x3 : Vec Ideal S1x1x1024 .f32)
    (x4 : Vec Ideal S1x1024x1024 .f32) (x5 : Vec Ideal S1x1x1024 .f32) (r : Fin 512) (o : Fin 1024) :
    yUsed c x0 x1 x2 x3 x4 x5 (ix2 r o) = Spec.expert (fun j => x0 (ix2 r j)) (fun j q => x1 (ix3 0 j q)) (fun k => x2 (ix3 0 0 k)) (fun k => x3 (ix3 0 0 k))
      (fun k q => x4 (ix3 0 k q)) (fun q => x5 (ix3 0 0 q)) o := by
  unfold yUsed
  rw [wG_eq, wL_eq, wD_eq, pay_apply]
  rfl

theorem zero_apply (y : S512x1024.Idx) : k0_pay8 (F := Ideal) y = 0 := by
  obtain ⟨r, q, rfl⟩ : ∃ (r : Fin 512) (q : Fin 1024), y = ix2 r q :=
    ⟨y 0, y 1, by funext a; match a with | ⟨0, _⟩ => rfl | ⟨1, _⟩ => rfl⟩
  pointwise [k0_pay8]

end Cert.KernelIdeal.Moe
-- ==== Proof.MoeIdeal.Out.lean ====
module

public import proofs.«01_k».proof.Proof.MoeIdeal.Start
public import proofs.«01_k».proof.Proof.MoeIdeal.Block
public import Idealize.ShloMosaic.Lib.Pipeline.ValueKit.Geometry
public import Idealize.ShloMosaic.Lib.Pipeline.Covers

@[expose] public section

/-! The array that the layer's launch leaves. -/

noncomputable section

namespace Cert.KernelIdeal.Moe

open Cert.KernelIdeal Cert.KernelIdeal.Gen
open Idealize.ShloMosaic
open Idealize.ShloMosaic.TcCoe

variable (a : (pcfg0 (F := Ideal)).Adm)
variable (m : (ℓ : Loc nD τ sig) → Buf (Elt Ideal) ℓ)

theorem iblk2_apply (c : Dev nD) (t : Fin (cfgA a).N) (y : S1x1x1024.Idx) :
    iblk a m c (2 : Fin 7) t y = (m ((c : Thread nD τ).loc main_arg4) : S32x1x1024.Idx → Elt Ideal .f32) (at3 (ex a t) y) := by
  unfold iblk
  refine congrArg (m ((c : Thread nD τ).loc main_arg4) : S32x1x1024.Idx → Elt Ideal .f32) (funext fun d => ?_)
  have hy : (y 0).val < 1 := (y 0).isLt
  have e := transform_1_eq a.1 (crd a t)
  match d with
  | ⟨0, _⟩ =>
    refine Fin.ext ?_
    show cc0_transform_1 k0_off1_inb numel1_S1 a.1 (crd a t) (0 : Fin 3) * 1 + 1 * (y 0).val = (tblEntry a.1 ((crd a t) 0)).toNat
    rw [e]
    show (tblEntry a.1 ((crd a t) 0)).toNat * 1 + 1 * (y 0).val = _
    omega
  | ⟨1, _⟩ => exact Fin.ext (by show 0 * 1 + 1 * (y 1).val = (y 1).val; omega)
  | ⟨2, _⟩ => exact Fin.ext (by show 0 * 1024 + 1 * (y 2).val = (y 2).val; omega)

theorem iblk3_apply (c : Dev nD) (t : Fin (cfgA a).N) (y : S1x1x1024.Idx) :
    iblk a m c (3 : Fin 7) t y = (m ((c : Thread nD τ).loc main_arg5) : S32x1x1024.Idx → Elt Ideal .f32) (at3 (ex a t) y) := by
  unfold iblk
  refine congrArg (m ((c : Thread nD τ).loc main_arg5) : S32x1x1024.Idx → Elt Ideal .f32) (funext fun d => ?_)
  have hy : (y 0).val < 1 := (y 0).isLt
  have e := transform_1_eq a.1 (crd a t)
  match d with
  | ⟨0, _⟩ =>
    refine Fin.ext ?_
    show cc0_transform_1 k0_off1_inb numel1_S1 a.1 (crd a t) (0 : Fin 3) * 1 + 1 * (y 0).val = (tblEntry a.1 ((crd a t) 0)).toNat
    rw [e]
    show (tblEntry a.1 ((crd a t) 0)).toNat * 1 + 1 * (y 0).val = _
    omega
  | ⟨1, _⟩ => exact Fin.ext (by show 0 * 1 + 1 * (y 1).val = (y 1).val; omega)
  | ⟨2, _⟩ => exact Fin.ext (by show 0 * 1024 + 1 * (y 2).val = (y 2).val; omega)

theorem iblk5_apply (c : Dev nD) (t : Fin (cfgA a).N) (y : S1x1x1024.Idx) :
    iblk a m c (5 : Fin 7) t y = (m ((c : Thread nD τ).loc main_arg7) : S32x1x1024.Idx → Elt Ideal .f32) (at3 (ex a t) y) := by
  unfold iblk
  refine congrArg (m ((c : Thread nD τ).loc main_arg7) : S32x1x1024.Idx → Elt Ideal .f32) (funext fun d => ?_)
  have hy : (y 0).val < 1 := (y 0).isLt
  have e := transform_1_eq a.1 (crd a t)
  match d with
  | ⟨0, _⟩ =>
    refine Fin.ext ?_
    show cc0_transform_1 k0_off1_inb numel1_S1 a.1 (crd a t) (0 : Fin 3) * 1 + 1 * (y 0).val = (tblEntry a.1 ((crd a t) 0)).toNat
    rw [e]
    show (tblEntry a.1 ((crd a t) 0)).toNat * 1 + 1 * (y 0).val = _
    omega
  | ⟨1, _⟩ => exact Fin.ext (by show 0 * 1 + 1 * (y 1).val = (y 1).val; omega)
  | ⟨2, _⟩ => exact Fin.ext (by show 0 * 1024 + 1 * (y 2).val = (y 2).val; omega)

/-- A row block's index is the step. -/
theorem transform_0_eq (t : Fin (cfgA a).N) : cc0_transform_0 (crd a t) = ![t.val, 0] := by
  have hN : (cfgA a).N = 291 := N_0
  have ht : t.val < 291 := hN ▸ t.isLt
  unfold cc0_transform_0
  funext d
  match d with
  | ⟨0, _⟩ =>
    show (BitVec.ofNat 32 ((crd a t) 0).val).toNat = t.val
    rw [crd_val a t, BitVec.toNat_ofNat]; omega
  | ⟨1, _⟩ => rfl

theorem lt291 (t : Fin (cfgA a).N) : t.val < 291 := by
  have hN : (cfgA a).N = 291 := N_0
  exact hN ▸ t.isLt

theorem iblk0_apply (c : Dev nD) (t : Fin (cfgA a).N) (r : Fin 512) (j : Fin 1024) :
    iblk a m c (0 : Fin 7) t (ix2 r j) = (m ((c : Thread nD τ).loc main_arg2) : S148992x1024.Idx → Elt Ideal .bf16)
      (ix2 ⟨512 * t.val + r.val, by have := lt291 a t; omega⟩ j) := by
  unfold iblk
  refine congrArg (m ((c : Thread nD τ).loc main_arg2) : S148992x1024.Idx → Elt Ideal .bf16) (funext fun d => ?_)
  have e := transform_0_eq a t
  match d with
  | ⟨0, _⟩ =>
    refine Fin.ext ?_
    show cc0_transform_0 (crd a t) (0 : Fin 2) * 512 + 1 * r.val = 512 * t.val + r.val
    rw [e]
    show t.val * 512 + 1 * r.val = _
    omega
  | ⟨1, _⟩ => exact Fin.ext (by show 0 * 1024 + 1 * j.val = j.val; omega)

/-- The layer's result on a memory. -/
def outOf (c : Dev nD) : S148992x1024.Idx → EReal :=
  Spec.out (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The output window's blocks tile its array. -/
theorem covers6 : ((cfgA a).win (6 : Fin 7)).Covers :=
  ((cfgA a).win (6 : Fin 7)).covers_of_indexMap_surj rfl (fun d => match d with | ⟨0, _⟩ => (by decide : 0 < 512) | ⟨1, _⟩ => (by decide : 0 < 1024)) fun β => by
    have nb0 : ((cfgA a).win (6 : Fin 7)).nblk (0 : Fin 2) = 291 := by show (148992 + 512 - 1) / 512 = 291; rfl
    have nb1 : ((cfgA a).win (6 : Fin 7)).nblk (1 : Fin 2) = 1 := by show (1024 + 1024 - 1) / 1024 = 1; rfl
    have h0 : (β (0 : Fin 2)).val < 291 := lt_of_lt_of_eq (β (0 : Fin 2)).isLt nb0
    have h1 : (β (1 : Fin 2)).val < 1 := lt_of_lt_of_eq (β (1 : Fin 2)).isLt nb1
    refine ⟨(grid0.coords ⟨(β (0 : Fin 2)).val, by rw [N_0]; exact h0⟩), fun d => ?_⟩
    have e := transform_0_eq a ⟨(β (0 : Fin 2)).val, by rw [show (cfgA a).N = 291 from N_0]; exact h0⟩
    match d with
    | ⟨0, _⟩ => exact congrFun e 0
    | ⟨1, _⟩ => exact (congrFun e 1).trans (by show 0 = (β (1 : Fin 2)).val; omega)

/-- The count of used blocks, as the body reads it, is the table's word. -/
theorem used_eq (c : Dev nD) : used c (a.1 1) = (a.1 1 : S1.Idx → BitVec 32) (ix1 0) := by
  refine congrArg (a.1 1 : S1.Idx → BitVec 32) (funext fun d => ?_)
  match d with
  | ⟨0, _⟩ => exact Fin.ext (by have := (Shape.Idx.first (s := S1) (numel1_S1.symm ▸ Nat.one_pos) 0).isLt; rfl)

theorem at3_ix3 {n1 n2 : Nat} (e : Fin 32) (p : Fin 1) (j : Fin n1) (q : Fin n2) : at3 e (ix3 p j q) = ix3 e j q := by
  funext d
  match d with
  | ⟨0, _⟩ => rfl
  | ⟨1, _⟩ => rfl
  | ⟨2, _⟩ => rfl

/-- The array ends holding the layer's result. -/
theorem arr_out (c : Dev nD) (hV : ∀ j : Fin 2, m ((c : Thread nD τ).loc (pre0.ref j)) = a.1 j) :
    (dats a m 0 c).arrAt (6 : Fin 7) (cfgA a).N = outOf m c := by
  refine (dats a m 0 c).arrAt_eq_of_covers (6 : Fin 7) _ (covers6 a) fun t hf y => ?_
  obtain ⟨r, o, rfl⟩ : ∃ (r : Fin 512) (o : Fin 1024), y = ix2 r o :=
    ⟨y 0, y 1, by funext d; match d with | ⟨0, _⟩ => rfl | ⟨1, _⟩ => rfl⟩
  have ht := lt291 a t
  have hi : (((cfgA a).win (6 : Fin 7)).blk t).view.emb (ix2 r o) = (ix2 ⟨512 * t.val + r.val, by omega⟩ o : S148992x1024.Idx) := by
    funext d
    have e := transform_0_eq a t
    match d with
    | ⟨0, _⟩ =>
      refine Fin.ext ?_
      show cc0_transform_0 (crd a t) (0 : Fin 2) * 512 + 1 * r.val = 512 * t.val + r.val
      rw [e]
      show t.val * 512 + 1 * r.val = _
      omega
    | ⟨1, _⟩ => exact Fin.ext (by show 0 * 1024 + 1 * o.val = o.val; omega)
  rw [hi]
  show outBlock a m c t (ix2 r o) = _
  have e0 : (m ((c : Thread nD τ).loc main_arg0) : S291.Idx → BitVec 32) = a.1 0 := hV 0
  have e1 : (m ((c : Thread nD τ).loc main_arg1) : S1.Idx → BitVec 32) = a.1 1 := hV 1
  have hn := used_eq a c
  have hq : (512 * t.val + r.val) / 512 = t.val := by omega
  have hr : (512 * t.val + r.val) % 512 = r.val := by omega
  unfold outOf
  rw [Spec.out_at _ _ _ _ _ _ _ _ ⟨t.val, ht⟩ r o, e0, e1]
  by_cases hu : isUsed a c t
  · rw [outBlock_used a m c t hu, yUsed_apply, if_pos (by unfold isUsed at hu; rw [hn] at hu; exact hu)]
    have hx : Spec.exNo ((a.1 0 : S291.Idx → BitVec 32) (ix1 ⟨t.val, ht⟩)) = ex a t := by
      refine Fin.ext ?_
      have h1 : (a.1 0 : S291.Idx → BitVec 32) (ix1 ⟨t.val, ht⟩) = tblEntry a.1 ((crd a t) 0) := by
        unfold tblEntry
        refine congrArg (a.1 0 : S291.Idx → BitVec 32) (funext fun d => ?_)
        match d with
        | ⟨0, _⟩ => exact Fin.ext (crd_val a t).symm
      have h2 : (tblEntry a.1 ((crd a t) 0)).toNat < 32 := (ex a t).isLt
      exact (congrArg (fun z => (Spec.exNo z).val) h1).trans (Spec.exNo_val _ h2)
    unfold Spec.block
    rw [hx]
    simp only [iblk0_apply, iblk1_apply, iblk2_apply, iblk3_apply, iblk4_apply, iblk5_apply, at3_ix3]
  · rw [outBlock_idle a m c t hu, zero_apply, if_neg (by unfold isUsed at hu; rw [hn] at hu; exact hu)]

end Cert.KernelIdeal.Moe
-- ==== Proof.Ref.Slice.lean ====
module

public import proofs.«01_k».proof.Proof.Gen.ReferenceIdeal.Run
public import proofs.«01_k».proof.Proof.Spec
public import Idealize.ShloMosaic.Lib.DynamicIndex
public import Idealize.ShloMosaic.Lib.Pointwise
public import Idealize.ShloMosaic.Lib.MatmulPlain
public import Idealize.ShloMosaic.Lib.StackMember

@[expose] public section

/-! One trip of the reference's loop, element by element. -/

noncomputable section

namespace Cert.ReferenceIdeal.Moe

open Cert.ReferenceIdeal Cert.ReferenceIdeal.Gen Cert.ReferenceIdeal.Value
open Idealize.ShloMosaic
open Idealize.ShloMosaic.TcCoe

/-- A slice of one member of a stack. -/
theorem dslice_at {α : Type} {N n1 n2 : Nat} (W : (⟨3, ![N, n1, n2]⟩ : Shape).Idx → α) (start : Fin 3 → Int) (e : Fin N)
    (h : (⟨3, ![N, n1, n2]⟩ : Shape).Slices (fun _ => 0) ⟨3, ![1, n1, n2]⟩) (h0 : start 0 = (e.val : Int)) (h1 : start 1 = 0) (h2 : start 2 = 0) :
    Host.dynamicSlice ⟨3, ![1, n1, n2]⟩ W start h = fun y => W (ix3 e (y 1) (y 2)) := by
  funext y
  rw [Host.dynamicSlice_apply]
  refine congrArg W (funext fun a => Fin.ext ?_)
  have hy : (y 0).val < 1 := (y 0).isLt
  match a with
  | ⟨0, _⟩ =>
    show Host.clampedStart _ _ h.1 start (0 : Fin 3) + (y 0).val = e.val
    rw [Host.clampedStart_of_le h.1 start (0 : Fin 3) e.val h0 (by show e.val + 1 ≤ N; have := e.isLt; omega)]; omega
  | ⟨1, _⟩ =>
    show Host.clampedStart _ _ h.1 start (1 : Fin 3) + (y 1).val = (y 1).val
    rw [Host.clampedStart_of_le h.1 start (1 : Fin 3) 0 h1 (by show 0 + n1 ≤ n1; omega)]; omega
  | ⟨2, _⟩ =>
    show Host.clampedStart _ _ h.1 start (2 : Fin 3) + (y 2).val = (y 2).val
    rw [Host.clampedStart_of_le h.1 start (2 : Fin 3) 0 h2 (by show 0 + n2 ≤ n2; omega)]; omega

/-- An expert's number, wrapped as an index, is the number. -/
theorem wrap_word (w : BitVec 32) (hw : w.toNat < 32) (d : IVec S_ 32) (i : S_.Idx) :
    BitVec.toInt (select (cmpi .slt (fun _ => w) (constantI S_ 32 0#32)) (addi (fun _ => w) d) (fun _ => w) i) = (w.toNat : Int) := by
  have h : w.toInt = (w.toNat : Int) := by rw [BitVec.toInt_eq_toNat_cond]; split <;> omega
  rw [select_slt_zero_of_nonneg _ _ _ i (by show 0 ≤ w.toInt; omega)]
  exact h

/-- A slice of one word of a table. -/
theorem dslice1_at {α : Type} {N : Nat} (W : (⟨1, ![N]⟩ : Shape).Idx → α) (start : Fin 1 → Int) (e : Fin N)
    (h : (⟨1, ![N]⟩ : Shape).Slices (fun _ => 0) ⟨1, ![1]⟩) (h0 : start 0 = (e.val : Int)) :
    Host.dynamicSlice ⟨1, ![1]⟩ W start h = fun _ => W (ix1 e) := by
  funext y
  rw [Host.dynamicSlice_apply]
  refine congrArg W (funext fun a => Fin.ext ?_)
  have hy : (y 0).val < 1 := (y 0).isLt
  match a with
  | ⟨0, _⟩ =>
    show Host.clampedStart _ _ h.1 start (0 : Fin 1) + (y 0).val = e.val
    rw [Host.clampedStart_of_le h.1 start (0 : Fin 1) e.val h0 (by show e.val + 1 ≤ N; have := e.isLt; omega)]; omega

/-- One member of a stack put in place. -/
theorem dupdate_at {α : Type} {N n1 n2 : Nat} (W : (⟨3, ![N, n1, n2]⟩ : Shape).Idx → α) (U : (⟨3, ![1, n1, n2]⟩ : Shape).Idx → α) (start : Fin 3 → Int) (e : Fin N)
    (h : (⟨3, ![N, n1, n2]⟩ : Shape).Slices (fun _ => 0) ⟨3, ![1, n1, n2]⟩) (h0 : start 0 = (e.val : Int)) (h1 : start 1 = 0) (h2 : start 2 = 0)
    (j : Fin N) (r : Fin n1) (o : Fin n2) :
    Host.dynamicUpdateSlice W U start h (ix3 j r o) = if j = e then U (ix3 0 r o) else W (ix3 j r o) := by
  have c0 := Host.clampedStart_of_le h.1 start (0 : Fin 3) e.val h0 (by show e.val + 1 ≤ N; have := e.isLt; omega)
  have c1 := Host.clampedStart_of_le h.1 start (1 : Fin 3) 0 h1 (by show 0 + n1 ≤ n1; omega)
  have c2 := Host.clampedStart_of_le h.1 start (2 : Fin 3) 0 h2 (by show 0 + n2 ≤ n2; omega)
  rw [Host.dynamicUpdateSlice_apply]
  by_cases hj : j = e
  · subst hj
    have hin : ∀ a : Fin 3, Host.clampedStart (⟨3, ![N, n1, n2]⟩ : Shape) ⟨3, ![1, n1, n2]⟩ h.1 start a ≤ (ix3 j r o a).val
        ∧ (ix3 j r o a).val < Host.clampedStart (⟨3, ![N, n1, n2]⟩ : Shape) ⟨3, ![1, n1, n2]⟩ h.1 start a + (⟨3, ![1, n1, n2]⟩ : Shape).size (a.cast h.1.symm) := fun a => by
      match a with
      | ⟨0, _⟩ => exact ⟨by rw [show Host.clampedStart _ _ h.1 start ⟨0, _⟩ = j.val from c0]; exact Nat.le_refl _, by
          rw [show Host.clampedStart _ _ h.1 start ⟨0, _⟩ = j.val from c0]; show j.val < j.val + 1; omega⟩
      | ⟨1, _⟩ => exact ⟨by rw [show Host.clampedStart _ _ h.1 start ⟨1, _⟩ = 0 from c1]; exact Nat.zero_le _, by
          rw [show Host.clampedStart _ _ h.1 start ⟨1, _⟩ = 0 from c1]; show r.val < 0 + n1; have := r.isLt; omega⟩
      | ⟨2, _⟩ => exact ⟨by rw [show Host.clampedStart _ _ h.1 start ⟨2, _⟩ = 0 from c2]; exact Nat.zero_le _, by
          rw [show Host.clampedStart _ _ h.1 start ⟨2, _⟩ = 0 from c2]; show o.val < 0 + n2; have := o.isLt; omega⟩
    rw [dif_pos hin, if_pos rfl]
    refine congrArg U (funext fun a => Fin.ext ?_)
    match a with
    | ⟨0, _⟩ => show j.val - Host.clampedStart _ _ h.1 start (0 : Fin 3) = 0; rw [c0]; omega
    | ⟨1, _⟩ => show r.val - Host.clampedStart _ _ h.1 start (1 : Fin 3) = r.val; rw [c1]; omega
    | ⟨2, _⟩ => show o.val - Host.clampedStart _ _ h.1 start (2 : Fin 3) = o.val; rw [c2]; omega
  · rw [dif_neg fun hin => hj (Fin.ext (by
      have h' := hin (0 : Fin 3)
      rw [c0] at h'
      have ha : e.val ≤ j.val := h'.1
      have hb : j.val < e.val + 1 := h'.2
      omega)), if_neg hj]

/-! ## The carried buffers, as arrays -/

variable (V0 : Valuation τ sig (Elt Ideal)) (t : Fin 291) (w : BitVec 32)

abbrev aX : S291x512x1024.Idx → EReal := V0 (Proc.devRef .tc main_v3_0)
abbrev aE : S291.Idx → BitVec 32 := V0 (Proc.devRef .tc main_v3_1)
abbrev aW : S32x1024x2048.Idx → EReal := V0 (Proc.devRef .tc main_v3_2)
abbrev aG : S32x1x1024.Idx → EReal := V0 (Proc.devRef .tc main_v3_3)
abbrev aL : S32x1x1024.Idx → EReal := V0 (Proc.devRef .tc main_v3_4)
abbrev aD : S32x1024x1024.Idx → EReal := V0 (Proc.devRef .tc main_v3_5)
abbrev aB : S32x1x1024.Idx → EReal := V0 (Proc.devRef .tc main_v3_6)
abbrev aO : S291x512x1024.Idx → EReal := V0 (Proc.devRef .tc main_v3_8)

theorem v13_eq (hc : V0 (Proc.devRef .tc main_v3_7) = fun _ => BitVec.ofNat 32 t.val) :
    res_main_while0b_v13 V0 = fun _ => aE V0 (ix1 t) := by
  unfold res_main_while0b_v13
  rw [hc, dslice1_at (aE V0) _ t _ (toInt_ofNat_of_lt (by omega))]
  rfl

variable (hc : V0 (Proc.devRef .tc main_v3_7) = fun _ => BitVec.ofNat 32 t.val) (hw : w.toNat < 32) (h13 : res_main_while0b_v13 V0 = fun _ => w)
include hc hw h13

theorem v25_apply (r : Fin 512) (q : Fin 2048) :
    (res_main_while0b_v25 V0 : S512x2048.Idx → EReal) (ix2 r q) = ∑ j : Fin 1024, aX V0 (ix3 t r j) * aW V0 (ix3 (Spec.exNo w) j q) := by
  unfold res_main_while0b_v25
  rw [h13, hc]
  rw [dslice_at (aX V0) _ t _ (toInt_ofNat_of_lt (by omega)) rfl rfl]
  rw [dslice_at (aW V0) _ (Spec.exNo w) _ ((wrap_word w hw _ _).trans (by rw [Spec.exNo_val w hw])) rfl rfl]
  pointwise [dot_S512x1024_S1024x2048_S512x2048_1_0_0_1_n_n]

theorem v41_apply (r : Fin 512) (k : Fin 1024) :
    (res_main_while0b_v41 V0 : S512x1024.Idx → EReal) (ix2 r k)
      = Spec.gate (∑ j : Fin 1024, aX V0 (ix3 t r j) * aW V0 (ix3 (Spec.exNo w) j ⟨2 * k.val, by omega⟩)) (aG V0 (ix3 (Spec.exNo w) 0 k)) := by
  have h25 := v25_apply V0 t w hc hw h13
  unfold res_main_while0b_v41
  rw [h13]
  rw [dslice_at (aG V0) _ (Spec.exNo w) _ ((wrap_word w hw _ _).trans (by rw [Spec.exNo_val w hw])) rfl rfl]
  pointwise
  rw [h25]
  rfl

/-- The block that a trip puts in place. -/
theorem step_block (j : Fin 291) (r : Fin 512) (o : Fin 1024) :
    (step_main_v3_8 V0 : S291x512x1024.Idx → EReal) (ix3 j r o)
      = if j = t then Spec.expert (fun i => aX V0 (ix3 t r i)) (fun i q => aW V0 (ix3 (Spec.exNo w) i q)) (fun k => aG V0 (ix3 (Spec.exNo w) 0 k))
          (fun k => aL V0 (ix3 (Spec.exNo w) 0 k)) (fun k q => aD V0 (ix3 (Spec.exNo w) k q)) (fun q => aB V0 (ix3 (Spec.exNo w) 0 q)) o
        else aO V0 (ix3 j r o) := by
  have h25 := v25_apply V0 t w hc hw h13
  have h41 := v41_apply V0 t w hc hw h13
  unfold step_main_v3_8
  rw [h13, hc]
  rw [dslice_at (aL V0) _ (Spec.exNo w) _ ((wrap_word w hw _ _).trans (by rw [Spec.exNo_val w hw])) rfl rfl]
  rw [dslice_at (aD V0) _ (Spec.exNo w) _ ((wrap_word w hw _ _).trans (by rw [Spec.exNo_val w hw])) rfl rfl]
  rw [dslice_at (aB V0) _ (Spec.exNo w) _ ((wrap_word w hw _ _).trans (by rw [Spec.exNo_val w hw])) rfl rfl]
  refine (dupdate_at (aO V0) _ _ t _ ?_ ?_ ?_ j r o).trans ?_
  · exact toInt_ofNat_of_lt (by omega)
  · rfl
  · rfl
  by_cases hj : j = t
  swap
  · rw [if_neg hj, if_neg hj]
  rw [if_pos hj, if_pos hj]
  pointwise [dot_S512x1024_S1024x1024_S512x1024_1_0_0_1_n_n, id]
  simp only [h25, h41, Spec.expert, Spec.act, Spec.lin, Nat.add_comm 1]

end Cert.ReferenceIdeal.Moe
-- ==== Proof.Ref.Out.lean ====
module

public import proofs.«01_k».proof.Proof.Ref.Slice

@[expose] public section

/-! What the reference's loop and its last operations leave. -/

noncomputable section

namespace Cert.ReferenceIdeal.Moe

open Cert.ReferenceIdeal Cert.ReferenceIdeal.Gen Cert.ReferenceIdeal.Value
open Idealize.ShloMosaic Idealize.ShloMosaic.StableHlo
open Idealize.ShloMosaic.TcCoe

/-- The block that trip `t` puts in place, of the arrays at the loop's entry. -/
def tripBlock (V : Valuation τ sig (Elt Ideal)) (t : Fin 291) (r : Fin 512) (o : Fin 1024) : EReal :=
  Spec.expert (fun i => aX V (ix3 t r i)) (fun i q => aW V (ix3 (Spec.exNo (aE V (ix1 t))) i q)) (fun k => aG V (ix3 (Spec.exNo (aE V (ix1 t))) 0 k))
    (fun k => aL V (ix3 (Spec.exNo (aE V (ix1 t))) 0 k)) (fun k q => aD V (ix3 (Spec.exNo (aE V (ix1 t))) k q)) (fun q => aB V (ix3 (Spec.exNo (aE V (ix1 t))) 0 q)) o

variable (V : Valuation τ sig (Elt Ideal))

theorem iter_0 : ∀ k, STEP^[k] V (Proc.devRef .tc main_v3_0) = V (Proc.devRef .tc main_v3_0)
  | 0 => rfl
  | k + 1 => by rw [Function.iterate_succ_apply', STEP_main_v3_0, iter_0 k]
theorem iter_1 : ∀ k, STEP^[k] V (Proc.devRef .tc main_v3_1) = V (Proc.devRef .tc main_v3_1)
  | 0 => rfl
  | k + 1 => by rw [Function.iterate_succ_apply', STEP_main_v3_1, iter_1 k]
theorem iter_2 : ∀ k, STEP^[k] V (Proc.devRef .tc main_v3_2) = V (Proc.devRef .tc main_v3_2)
  | 0 => rfl
  | k + 1 => by rw [Function.iterate_succ_apply', STEP_main_v3_2, iter_2 k]
theorem iter_3 : ∀ k, STEP^[k] V (Proc.devRef .tc main_v3_3) = V (Proc.devRef .tc main_v3_3)
  | 0 => rfl
  | k + 1 => by rw [Function.iterate_succ_apply', STEP_main_v3_3, iter_3 k]
theorem iter_4 : ∀ k, STEP^[k] V (Proc.devRef .tc main_v3_4) = V (Proc.devRef .tc main_v3_4)
  | 0 => rfl
  | k + 1 => by rw [Function.iterate_succ_apply', STEP_main_v3_4, iter_4 k]
theorem iter_5 : ∀ k, STEP^[k] V (Proc.devRef .tc main_v3_5) = V (Proc.devRef .tc main_v3_5)
  | 0 => rfl
  | k + 1 => by rw [Function.iterate_succ_apply', STEP_main_v3_5, iter_5 k]
theorem iter_6 : ∀ k, STEP^[k] V (Proc.devRef .tc main_v3_6) = V (Proc.devRef .tc main_v3_6)
  | 0 => rfl
  | k + 1 => by rw [Function.iterate_succ_apply', STEP_main_v3_6, iter_6 k]

theorem iter_7 (h7 : V (Proc.devRef .tc main_v3_7) = fun _ => (0#32 : BitVec 32)) :
    ∀ k, STEP^[k] V (Proc.devRef .tc main_v3_7) = fun _ => BitVec.ofNat 32 k
  | 0 => h7
  | k + 1 => by
    rw [Function.iterate_succ_apply', STEP_main_v3_7]
    unfold step_main_v3_7
    rw [iter_7 h7 k]
    funext y
    show BitVec.ofNat 32 k + 1#32 = BitVec.ofNat 32 (k + 1)
    rw [BitVec.ofNat_add]

theorem iter_8 (h7 : V (Proc.devRef .tc main_v3_7) = fun _ => (0#32 : BitVec 32)) (hE : ∀ t : Fin 291, (aE V (ix1 t)).toNat < 32) :
    ∀ k, k ≤ 291 → ∀ (j : Fin 291) (r : Fin 512) (o : Fin 1024), j.val < k → aO (STEP^[k] V) (ix3 j r o) = tripBlock V j r o
  | 0, _, _, _, _, h => absurd h (Nat.not_lt_zero _)
  | k + 1, hk, j, r, o, h => by
    have hc := iter_7 V h7 k
    have h13 := v13_eq (STEP^[k] V) ⟨k, hk⟩ hc
    have eE : aE (STEP^[k] V) (ix1 ⟨k, hk⟩) = aE V (ix1 ⟨k, hk⟩) := congrFun (iter_1 V k) _
    have e := step_block (STEP^[k] V) ⟨k, hk⟩ (aE V (ix1 ⟨k, hk⟩)) hc (hE ⟨k, hk⟩) (by rw [h13, eE]) j r o
    have e' : aO (STEP^[k + 1] V) (ix3 j r o) = (step_main_v3_8 (STEP^[k] V) : S291x512x1024.Idx → EReal) (ix3 j r o) := by
      rw [Function.iterate_succ_apply']
      exact congrFun (STEP_main_v3_8 (STEP^[k] V)) _
    rw [e', e]
    by_cases hj : j = ⟨k, hk⟩
    · rw [if_pos hj]
      subst hj
      unfold tripBlock aX aW aG aL aD aB
      rw [iter_0 V k, iter_2 V k, iter_3 V k, iter_4 V k, iter_5 V k, iter_6 V k]
    · rw [if_neg hj]
      exact iter_8 h7 hE k (by omega) j r o (by have : j.val ≠ k := fun h => hj (Fin.ext h); omega)

open Classical in
/-- The reference's result at a row. -/
theorem out_apply (W : Valuation τ sig (Elt Ideal)) (t : Fin 291) (r : Fin 512) (o : Fin 1024) :
    (out_main_v11 W : S148992x1024.Idx → EReal) (ix2 ⟨512 * t.val + r.val, by omega⟩ o)
      = if (t.val : Int) < ((W (Proc.devRef .tc main_arg1) : S1.Idx → BitVec 32) (ix1 0)).toInt then aO W (ix3 t r o) else 0 := by
  unfold out_main_v11
  pointwise [id]
  have ht : (BitVec.ofNat 32 t.val).toInt = (t.val : Int) := toInt_ofNat_of_lt (by omega)
  generalize hn : (W (Proc.devRef .tc main_arg1) : S1.Idx → BitVec 32) (ix1 0) = n
  show (if BitVec.ofBool ((BitVec.ofNat 32 t.val).slt n) = 1 then _ else _) = _
  by_cases h : (t.val : Int) < n.toInt
  · rw [if_pos h, if_pos (by simp only [BitVec.slt, ht, h, decide_true]; rfl)]
  · rw [if_neg h, if_neg (by simp only [BitVec.slt, ht, h, decide_false]; decide)]

variable (m : (ℓ : Loc nD τ sig) → Buf (Elt Ideal) ℓ)

theorem rows_at (A : Vec Ideal S148992x1024 .bf16) (t : Fin 291) (r : Fin 512) (j : Fin 1024) :
    shapeCast S291x512x1024 (extf (F := Ideal) .f32 A bitsLt_bf16_f32) shapeCasts_S148992x1024_S291x512x1024 (ix3 t r j) = A (ix2 ⟨512 * t.val + r.val, by omega⟩ j) := by
  pointwise
  exact congrArg A (congrArg (fun q => ix2 q j) (Fin.ext (by show t.val * 512 + r.val = 512 * t.val + r.val; omega)))

/-- The rows at the loop's entry, block by block. -/
theorem entry_0 (c : Dev nD) (t : Fin 291) (r : Fin 512) (j : Fin 1024) :
    aX (entryContents preI m c) (ix3 t r j) = (m ((c.tc : Thread nD τ).loc main_arg2) : S148992x1024.Idx → EReal) (ix2 ⟨512 * t.val + r.val, by omega⟩ j) := by
  have e : entryContents preI m c (Proc.devRef .tc main_v3_0)
      = shapeCast S291x512x1024 (extf (F := Ideal) .f32 (m ((c.tc : Thread nD τ).loc main_arg2)) bitsLt_bf16_f32) shapeCasts_S148992x1024_S291x512x1024 := by
    simp only [entryContents, afterL_cons, afterL_nil]
    after_reads_simp
    rfl
  unfold aX
  rw [e]
  exact rows_at _ t r j

theorem entry_1 (c : Dev nD) : entryContents preI m c (Proc.devRef .tc main_v3_1) = m ((c.tc : Thread nD τ).loc main_arg0) := by
  simp only [entryContents, afterL_cons, afterL_nil]
  after_reads_simp
  rfl

theorem entry_2 (c : Dev nD) : entryContents preI m c (Proc.devRef .tc main_v3_2) = m ((c.tc : Thread nD τ).loc main_arg3) := by
  simp only [entryContents, afterL_cons, afterL_nil]
  after_reads_simp
  rfl

theorem entry_3 (c : Dev nD) : entryContents preI m c (Proc.devRef .tc main_v3_3) = m ((c.tc : Thread nD τ).loc main_arg4) := by
  simp only [entryContents, afterL_cons, afterL_nil]
  after_reads_simp
  rfl

theorem entry_4 (c : Dev nD) : entryContents preI m c (Proc.devRef .tc main_v3_4) = m ((c.tc : Thread nD τ).loc main_arg5) := by
  simp only [entryContents, afterL_cons, afterL_nil]
  after_reads_simp
  rfl

theorem entry_5 (c : Dev nD) : entryContents preI m c (Proc.devRef .tc main_v3_5) = m ((c.tc : Thread nD τ).loc main_arg6) := by
  simp only [entryContents, afterL_cons, afterL_nil]
  after_reads_simp
  rfl

theorem entry_6 (c : Dev nD) : entryContents preI m c (Proc.devRef .tc main_v3_6) = m ((c.tc : Thread nD τ).loc main_arg7) := by
  simp only [entryContents, afterL_cons, afterL_nil]
  after_reads_simp
  rfl

/-- The reference's result is the layer of the launch's arguments. -/
theorem ref_out (c : Dev nD) (hE : ∀ n : Fin 291, ((m ((c.tc : Thread nD τ).loc main_arg0) : S291.Idx → BitVec 32) (ix1 n)).toNat < 32) :
    (out_main_v11 (STEP^[291] (entryContents preI m c)) : S148992x1024.Idx → EReal)
      = Spec.out (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  funext i
  obtain ⟨t, r, o, rfl⟩ := Spec.index_cases i
  have hE' : ∀ n : Fin 291, (aE (entryContents preI m c) (ix1 n)).toNat < 32 := fun n => by
    rw [show aE (entryContents preI m c) = _ from entry_1 m c]; exact hE n
  have e8 := iter_8 (entryContents preI m c) (ctr_entry m c) hE' 291 (Nat.le_refl _) t r o t.isLt
  have e1 := iter_main_arg1 m c 291
  rw [out_apply, Spec.out_at, e8, e1]
  refine if_congr Iff.rfl ?_ rfl
  have x0 : (fun j => aX (entryContents preI m c) (ix3 t r j)) = fun j => (m ((c.tc : Thread nD τ).loc main_arg2) : S148992x1024.Idx → EReal) (ix2 ⟨512 * t.val + r.val, by omega⟩ j) :=
    funext fun j => entry_0 m c t r j
  have x1 : aE (entryContents preI m c) = m ((c.tc : Thread nD τ).loc main_arg0) := entry_1 m c
  have x2 : aW (entryContents preI m c) = m ((c.tc : Thread nD τ).loc main_arg3) := entry_2 m c
  have x3 : aG (entryContents preI m c) = m ((c.tc : Thread nD τ).loc main_arg4) := entry_3 m c
  have x4 : aL (entryContents preI m c) = m ((c.tc : Thread nD τ).loc main_arg5) := entry_4 m c
  have x5 : aD (entryContents preI m c) = m ((c.tc : Thread nD τ).loc main_arg6) := entry_5 m c
  have x6 : aB (entryContents preI m c) = m ((c.tc : Thread nD τ).loc main_arg7) := entry_6 m c
  unfold tripBlock Spec.block
  rw [x0, x1, x2, x3, x4, x5, x6]

end Cert.ReferenceIdeal.Moe
-- ==== Proof.InprojBits.Body.lean ====
module

public import proofs.«01_k».proof.Proof.Gen.Kernel2.Skeleton
public import proofs.«01_k».proof.Proof.Gen.Kernel2.Launch
public import Idealize.ShloMosaic.Lib.Pipeline.Kit
public import Idealize.ShloMosaic.Lib.Pipeline.FrameBody
public import Idealize.ShloMosaic.Lib.Writes
public import Idealize.ShloMosaic.Lib.VecWindow
public import Idealize.ShloMosaic.Lib.Ring
public import Idealize.ShloMosaic.PureOps.Ideal
public import Idealize.ShloMosaic.PureOps.BitExact

@[expose] public section

set_option maxRecDepth 16384
set_option Elab.async false
set_option backward.proofsInPublic true

/-! The body of the projection call run once: what each output window and the carried row hold
    after it, from the blocks the inputs hold before it. -/

noncomputable section

namespace Cert.Kernel2.Inproj

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The carried row's scratch. -/
abbrev scC : Memref sig .tc .vmem S1x1024 .f32 := Memref.whole cc0_scratch0

/-! ## The columns of the projection's weights -/

def wq (w : Vec Bits S1024x5120 .bf16) : Vec Bits S1024x512 .bf16 := fun y => w ((Rect.unit (s := S1024x5120) ![0, 0] S1024x512.size inb_S1024x5120_S1024x512_0_0).toLoadRect.idx y)
def wk (w : Vec Bits S1024x5120 .bf16) : Vec Bits S1024x512 .bf16 := fun y => w ((Rect.unit (s := S1024x5120) ![0, 512] S1024x512.size inb_S1024x5120_S1024x512_0_512).toLoadRect.idx y)
def wv (w : Vec Bits S1024x5120 .bf16) : Vec Bits S1024x512 .bf16 := fun y => w ((Rect.unit (s := S1024x5120) ![0, 1024] S1024x512.size inb_S1024x5120_S1024x512_0_1024).toLoadRect.idx y)
def wr (w : Vec Bits S1024x5120 .bf16) : Vec Bits S1024x1536 .bf16 := fun y => w ((Rect.unit (s := S1024x5120) ![0, 1536] S1024x1536.size inb_S1024x5120_S1024x1536_0_1536).toLoadRect.idx y)
def wg (w : Vec Bits S1024x5120 .bf16) : Vec Bits S1024x2048 .bf16 := fun y => w ((Rect.unit (s := S1024x5120) ![0, 3072] S1024x2048.size inb_S1024x5120_S1024x2048_0_3072).toLoadRect.idx y)

/-! ## What a step leaves -/

/-- The normalised tile. -/
def tile (i : grid0.Coords) (x0 : Vec Bits S1x344x1024 .f32) (x1 : Vec Bits S16x1024 .f32) (x3 x4 : Vec Bits S1x1024 .f32) : FVec Bits S344x1024 .f32 := k0_pay1 i x0 x1 x3 x4
/-- The row carried to the next tile. -/
def carry (h : FVec Bits S344x1024 .f32) : Vec Bits S1x1024 .f32 := k0_pay6 h
/-- The shifted difference. -/
def diff (h : FVec Bits S344x1024 .f32) (v : Vec Bits S1x1024 .f32) : FVec Bits S344x1024 .f32 := k0_pay7 h (iota .tc S344x1024 32 [0] iota_S344x1024_d0_w32) v
/-- The three low rank projections, as they are stored side by side. -/
def lowParts (h : FVec Bits S344x1024 .f32) (v : Vec Bits S1x1024 .f32) (x8 : Vec Bits S3x1024 .f32) (x9 x10 : Vec Bits S1024x64 .bf16) (x11 : Vec Bits S1024x128 .bf16) :
    List (View.Piece (Elt Bits) S1x344x256 .f32) :=
  [⟨Rect.unit (s := S1x344x256) ![0, 0, 128] S1x344x128.size inb_S1x344x256_S1x344x128_0_0_128, k0_pay18 h (diff h v) x8 x11⟩,
   ⟨Rect.unit (s := S1x344x256) ![0, 0, 64] S1x344x64.size inb_S1x344x256_S1x344x64_0_0_64, k0_pay17 h (diff h v) x8 x10⟩,
   ⟨Rect.unit (s := S1x344x256) ![0, 0, 0] S1x344x64.size inb_S1x344x256_S1x344x64_0_0_0, k0_pay16 h (diff h v) x8 x9⟩]
def low (h : FVec Bits S344x1024 .f32) (v : Vec Bits S1x1024 .f32) (x8 : Vec Bits S3x1024 .f32) (x9 x10 : Vec Bits S1024x64 .bf16) (x11 : Vec Bits S1024x128 .bf16) : Vec Bits S1x344x256 .f32 :=
  View.canon (lowParts h v x8 x9 x10 x11)

theorem low_cover (w1 : Vec Bits S1x344x128 .f32) (w2 w3 : Vec Bits S1x344x64 .f32) (y : S1x344x256.Idx) :
    ∃ p ∈ ([⟨Rect.unit (s := S1x344x256) ![0, 0, 128] S1x344x128.size inb_S1x344x256_S1x344x128_0_0_128, w1⟩,
      ⟨Rect.unit (s := S1x344x256) ![0, 0, 64] S1x344x64.size inb_S1x344x256_S1x344x64_0_0_64, w2⟩,
      ⟨Rect.unit (s := S1x344x256) ![0, 0, 0] S1x344x64.size inb_S1x344x256_S1x344x64_0_0_0, w3⟩] : List (View.Piece (Elt Bits) S1x344x256 .f32)), y ∈ p.1.set := by
  have h0 : (y 0).val < 1 := (y 0).isLt
  have h1 : (y 1).val < 344 := (y 1).isLt
  have h2 : (y 2).val < 256 := (y 2).isLt
  rcases lt_or_ge (y 2).val 128 with ha | ha
  · rcases lt_or_ge (y 2).val 64 with hb | hb
    · refine ⟨⟨Rect.unit (s := S1x344x256) ![0, 0, 0] S1x344x64.size inb_S1x344x256_S1x344x64_0_0_0, w3⟩, by simp only [List.mem_cons, true_or, or_true], ?_⟩
      rw [Rect.mem_set_unit]
      intro a
      match a with
      | ⟨0, _⟩ => exact ⟨Nat.zero_le _, h0⟩
      | ⟨1, _⟩ => exact ⟨Nat.zero_le _, lt_of_lt_of_le h1 (le_of_eq (Nat.zero_add 344).symm)⟩
      | ⟨2, _⟩ => exact ⟨Nat.zero_le _, lt_of_lt_of_le hb (le_of_eq (Nat.zero_add 64).symm)⟩
    · refine ⟨⟨Rect.unit (s := S1x344x256) ![0, 0, 64] S1x344x64.size inb_S1x344x256_S1x344x64_0_0_64, w2⟩, by simp only [List.mem_cons, true_or, or_true], ?_⟩
      rw [Rect.mem_set_unit]
      intro a
      match a with
      | ⟨0, _⟩ => exact ⟨Nat.zero_le _, h0⟩
      | ⟨1, _⟩ => exact ⟨Nat.zero_le _, lt_of_lt_of_le h1 (le_of_eq (Nat.zero_add 344).symm)⟩
      | ⟨2, _⟩ => exact ⟨hb, ha⟩
  · refine ⟨⟨Rect.unit (s := S1x344x256) ![0, 0, 128] S1x344x128.size inb_S1x344x256_S1x344x128_0_0_128, w1⟩, by simp only [List.mem_cons, true_or, or_true], ?_⟩
    rw [Rect.mem_set_unit]
    intro a
    match a with
    | ⟨0, _⟩ => exact ⟨Nat.zero_le _, h0⟩
    | ⟨1, _⟩ => exact ⟨Nat.zero_le _, lt_of_lt_of_le h1 (le_of_eq (Nat.zero_add 344).symm)⟩
    | ⟨2, _⟩ => exact ⟨ha, h2⟩

variable (c : Dev nD)

set_option maxHeartbeats 8000000 in
/-- The first tile of a stream: the row before it is taken from the input. -/
theorem run_first (i : grid0.Coords) (arg2 : Memref sig .tc .vmem S1x344x1024 .f32) (harg2 : arg2.IsWhole) (arg3 : Memref sig .tc .vmem S16x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5120 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S3x1024 .f32) (harg10 : arg10.IsWhole) (arg11 : Memref sig .tc .vmem S1024x64 .bf16) (harg11 : arg11.IsWhole) (arg12 : Memref sig .tc .vmem S1024x64 .bf16) (harg12 : arg12.IsWhole) (arg13 : Memref sig .tc .vmem S1024x128 .bf16) (harg13 : arg13.IsWhole) (arg14 : Memref sig .tc .vmem S1x344x1024 .f32) (harg14 : arg14.IsWhole) (arg15 : Memref sig .tc .vmem S1x344x512 .bf16) (harg15 : arg15.IsWhole) (arg16 : Memref sig .tc .vmem S1x344x512 .f32) (harg16 : arg16.IsWhole) (arg17 : Memref sig .tc .vmem S1x344x512 .f32) (harg17 : arg17.IsWhole) (arg18 : Memref sig .tc .vmem S1x344x1536 .bf16) (harg18 : arg18.IsWhole) (arg19 : Memref sig .tc .vmem S1x344x2048 .bf16) (harg19 : arg19.IsWhole) (arg20 : Memref sig .tc .vmem S1x344x256 .f32) (harg20 : arg20.IsWhole) (arg21 : Memref sig .tc .vmem S1x344x128 .f32) (harg21 : arg21.IsWhole) (arg22 : Memref sig .tc .vmem S1x1x1536 .f32) (harg22 : arg22.IsWhole) (x0 : Vec Bits S1x344x1024 .f32) (x1 : Vec Bits S16x1024 .f32) (x2 : Vec Bits S1x1x1024 .f32) (x3 : Vec Bits S1x1024 .f32) (x4 : Vec Bits S1x1024 .f32) (x5 : Vec Bits S1024x5120 .bf16) (x6 : Vec Bits S1024x128 .bf16) (x7 : Vec Bits S1x128 .f32) (x8 : Vec Bits S3x1024 .f32) (x9 : Vec Bits S1024x64 .bf16) (x10 : Vec Bits S1024x64 .bf16) (x11 : Vec Bits S1024x128 .bf16) (xa : Buf (Elt Bits) (scC.view.loc (c : Thread nD τ))) (hc : k0_cond1 i = 1#1) (K : PUnit → sProp 𝕄) :
    iprop((arg2.view.loc c ↦[arg2.view.set]{fullShare} arg2.view.rep x0) ∗ (arg3.view.loc c ↦[arg3.view.set]{fullShare} arg3.view.rep x1) ∗ (arg4.view.loc c ↦[arg4.view.set]{fullShare} arg4.view.rep x2) ∗ (arg5.view.loc c ↦[arg5.view.set]{fullShare} arg5.view.rep x3) ∗ (arg6.view.loc c ↦[arg6.view.set]{fullShare} arg6.view.rep x4) ∗ (arg7.view.loc c ↦[arg7.view.set]{fullShare} arg7.view.rep x5) ∗ (arg8.view.loc c ↦[arg8.view.set]{fullShare} arg8.view.rep x6) ∗ (arg9.view.loc c ↦[arg9.view.set]{fullShare} arg9.view.rep x7) ∗ (arg10.view.loc c ↦[arg10.view.set]{fullShare} arg10.view.rep x8) ∗ (arg11.view.loc c ↦[arg11.view.set]{fullShare} arg11.view.rep x9) ∗ (arg12.view.loc c ↦[arg12.view.set]{fullShare} arg12.view.rep x10) ∗ (arg13.view.loc c ↦[arg13.view.set]{fullShare} arg13.view.rep x11) ∗ (∃ d, owns c arg14 fullShare d) ∗ (∃ d, owns c arg15 fullShare d) ∗ (∃ d, owns c arg16 fullShare d) ∗ (∃ d, owns c arg17 fullShare d) ∗ (∃ d, owns c arg18 fullShare d) ∗ (∃ d, owns c arg19 fullShare d) ∗ (∃ d, owns c arg20 fullShare d) ∗ (∃ d, owns c arg21 fullShare d) ∗ (∃ d, owns c arg22 fullShare d) ∗ (scC.view.loc c ↦{fullShare} xa) ∗
      (iprop((arg2.view.loc c ↦[arg2.view.set]{fullShare} arg2.view.rep x0) ∗ (arg3.view.loc c ↦[arg3.view.set]{fullShare} arg3.view.rep x1) ∗ (arg4.view.loc c ↦[arg4.view.set]{fullShare} arg4.view.rep x2) ∗ (arg5.view.loc c ↦[arg5.view.set]{fullShare} arg5.view.rep x3) ∗ (arg6.view.loc c ↦[arg6.view.set]{fullShare} arg6.view.rep x4) ∗ (arg7.view.loc c ↦[arg7.view.set]{fullShare} arg7.view.rep x5) ∗ (arg8.view.loc c ↦[arg8.view.set]{fullShare} arg8.view.rep x6) ∗ (arg9.view.loc c ↦[arg9.view.set]{fullShare} arg9.view.rep x7) ∗ (arg10.view.loc c ↦[arg10.view.set]{fullShare} arg10.view.rep x8) ∗ (arg11.view.loc c ↦[arg11.view.set]{fullShare} arg11.view.rep x9) ∗ (arg12.view.loc c ↦[arg12.view.set]{fullShare} arg12.view.rep x10) ∗ (arg13.view.loc c ↦[arg13.view.set]{fullShare} arg13.view.rep x11) ∗ owns c arg14 fullShare (k0_pay2 i x0 x1 x3 x4) ∗ owns c arg15 fullShare (k0_pay9 (tile i x0 x1 x3 x4) (wq x5)) ∗ owns c arg16 fullShare (k0_pay10 (tile i x0 x1 x3 x4) (wk x5)) ∗ owns c arg17 fullShare (k0_pay11 (tile i x0 x1 x3 x4) (wv x5)) ∗ owns c arg18 fullShare (k0_pay12 (k0_pay8 (tile i x0 x1 x3 x4)) (wr x5)) ∗ owns c arg19 fullShare (k0_pay13 (k0_pay8 (tile i x0 x1 x3 x4)) (wg x5)) ∗ owns c arg20 fullShare (low (tile i x0 x1 x3 x4) (k0_pay4 x2) x8 x9 x10 x11) ∗ owns c arg21 fullShare (k0_pay15 (k0_pay14 (k0_pay8 (tile i x0 x1 x3 x4)) x6 x7)) ∗ owns c arg22 fullShare (k0_pay5 x2 (wr x5)) ∗ (∃ xb, ⌜scC.view.read (Elt Bits) xb = carry (tile i x0 x1 x3 x4)⌝ ∗ (scC.view.loc c ↦{fullShare} xb))) -∗ K ⟨⟩))
    ⊢ wp frame (wpE (defs₀ (F := Bits)) Variants.none c none) Set.univ (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 scC (Memref.isWhole_whole _)) K := by
  unfold owns
  rw [cc0_inproj_eq_skeleton]
  unfold cc0_inproj_skel
  iintro ⟨H0, H1, H2, H3, H4, H5, H6, H7, H8, H9, H10, H11, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, HS, Hk⟩
  have hS : scC.IsWhole := Memref.isWhole_whole _
  sl_exec (disch := first
    | (guard_target = k0_cond1 _ = _; exact hc)
    | (guard_target = ¬ (k0_cond1 _ = _); exact hc))
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _; isplitr; swap
    · iexact H12
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H13]
  · iexists _; isplitr; swap
    · iexact H13
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H14]
  · iexists _; isplitr; swap
    · iexact H14
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H15]
  · iexists _; isplitr; swap
    · iexact H15
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H16]
  · iexists _; isplitr; swap
    · iexact H16
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H17]
  · iexists _; isplitr; swap
    · iexact H17
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H18]
  · iexists _; isplitr; swap
    · iexact H18
    · ipureintro; clear * -
      refine (View.read_writes_eq_canon _ _ _ (fun y => low_cover _ _ _ y)).trans ?_
      (try delta run_first.sl.r_4); (try delta run_first.sl.r_3); (try delta run_first.sl.r_2); (try delta run_first.sl.r_1); (try delta run_first.sl.r); (try delta run_first.sl.v35); (repeat rw [View.readAt_rep_full])
      delta run_first.sl.v38
      delta run_first.sl.HS_1
      rw [View.readCov_full, View.readAt_rep_full]
      rfl
  isplitl [H19]
  · iexists _; isplitr; swap
    · iexact H19
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H20]
  · iexists _; isplitr; swap
    · iexact H20
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  iexists _; isplitr; swap
  · iexact HS
  · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)

set_option maxHeartbeats 8000000 in
/-- A later tile: the row before it is the one carried. -/
theorem run_next (i : grid0.Coords) (arg2 : Memref sig .tc .vmem S1x344x1024 .f32) (harg2 : arg2.IsWhole) (arg3 : Memref sig .tc .vmem S16x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5120 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S3x1024 .f32) (harg10 : arg10.IsWhole) (arg11 : Memref sig .tc .vmem S1024x64 .bf16) (harg11 : arg11.IsWhole) (arg12 : Memref sig .tc .vmem S1024x64 .bf16) (harg12 : arg12.IsWhole) (arg13 : Memref sig .tc .vmem S1024x128 .bf16) (harg13 : arg13.IsWhole) (arg14 : Memref sig .tc .vmem S1x344x1024 .f32) (harg14 : arg14.IsWhole) (arg15 : Memref sig .tc .vmem S1x344x512 .bf16) (harg15 : arg15.IsWhole) (arg16 : Memref sig .tc .vmem S1x344x512 .f32) (harg16 : arg16.IsWhole) (arg17 : Memref sig .tc .vmem S1x344x512 .f32) (harg17 : arg17.IsWhole) (arg18 : Memref sig .tc .vmem S1x344x1536 .bf16) (harg18 : arg18.IsWhole) (arg19 : Memref sig .tc .vmem S1x344x2048 .bf16) (harg19 : arg19.IsWhole) (arg20 : Memref sig .tc .vmem S1x344x256 .f32) (harg20 : arg20.IsWhole) (arg21 : Memref sig .tc .vmem S1x344x128 .f32) (harg21 : arg21.IsWhole) (arg22 : Memref sig .tc .vmem S1x1x1536 .f32) (harg22 : arg22.IsWhole) (x0 : Vec Bits S1x344x1024 .f32) (x1 : Vec Bits S16x1024 .f32) (x2 : Vec Bits S1x1x1024 .f32) (x3 : Vec Bits S1x1024 .f32) (x4 : Vec Bits S1x1024 .f32) (x5 : Vec Bits S1024x5120 .bf16) (x6 : Vec Bits S1024x128 .bf16) (x7 : Vec Bits S1x128 .f32) (x8 : Vec Bits S3x1024 .f32) (x9 : Vec Bits S1024x64 .bf16) (x10 : Vec Bits S1024x64 .bf16) (x11 : Vec Bits S1024x128 .bf16) (d20 : Vec Bits S1x1x1536 .f32) (xa : Buf (Elt Bits) (scC.view.loc (c : Thread nD τ))) (hc : ¬ (k0_cond1 i = 1#1)) (K : PUnit → sProp 𝕄) :
    iprop((arg2.view.loc c ↦[arg2.view.set]{fullShare} arg2.view.rep x0) ∗ (arg3.view.loc c ↦[arg3.view.set]{fullShare} arg3.view.rep x1) ∗ (arg4.view.loc c ↦[arg4.view.set]{fullShare} arg4.view.rep x2) ∗ (arg5.view.loc c ↦[arg5.view.set]{fullShare} arg5.view.rep x3) ∗ (arg6.view.loc c ↦[arg6.view.set]{fullShare} arg6.view.rep x4) ∗ (arg7.view.loc c ↦[arg7.view.set]{fullShare} arg7.view.rep x5) ∗ (arg8.view.loc c ↦[arg8.view.set]{fullShare} arg8.view.rep x6) ∗ (arg9.view.loc c ↦[arg9.view.set]{fullShare} arg9.view.rep x7) ∗ (arg10.view.loc c ↦[arg10.view.set]{fullShare} arg10.view.rep x8) ∗ (arg11.view.loc c ↦[arg11.view.set]{fullShare} arg11.view.rep x9) ∗ (arg12.view.loc c ↦[arg12.view.set]{fullShare} arg12.view.rep x10) ∗ (arg13.view.loc c ↦[arg13.view.set]{fullShare} arg13.view.rep x11) ∗ (∃ d, owns c arg14 fullShare d) ∗ (∃ d, owns c arg15 fullShare d) ∗ (∃ d, owns c arg16 fullShare d) ∗ (∃ d, owns c arg17 fullShare d) ∗ (∃ d, owns c arg18 fullShare d) ∗ (∃ d, owns c arg19 fullShare d) ∗ (∃ d, owns c arg20 fullShare d) ∗ (∃ d, owns c arg21 fullShare d) ∗ owns c arg22 fullShare d20 ∗ (scC.view.loc c ↦{fullShare} xa) ∗
      (iprop((arg2.view.loc c ↦[arg2.view.set]{fullShare} arg2.view.rep x0) ∗ (arg3.view.loc c ↦[arg3.view.set]{fullShare} arg3.view.rep x1) ∗ (arg4.view.loc c ↦[arg4.view.set]{fullShare} arg4.view.rep x2) ∗ (arg5.view.loc c ↦[arg5.view.set]{fullShare} arg5.view.rep x3) ∗ (arg6.view.loc c ↦[arg6.view.set]{fullShare} arg6.view.rep x4) ∗ (arg7.view.loc c ↦[arg7.view.set]{fullShare} arg7.view.rep x5) ∗ (arg8.view.loc c ↦[arg8.view.set]{fullShare} arg8.view.rep x6) ∗ (arg9.view.loc c ↦[arg9.view.set]{fullShare} arg9.view.rep x7) ∗ (arg10.view.loc c ↦[arg10.view.set]{fullShare} arg10.view.rep x8) ∗ (arg11.view.loc c ↦[arg11.view.set]{fullShare} arg11.view.rep x9) ∗ (arg12.view.loc c ↦[arg12.view.set]{fullShare} arg12.view.rep x10) ∗ (arg13.view.loc c ↦[arg13.view.set]{fullShare} arg13.view.rep x11) ∗ owns c arg14 fullShare (k0_pay2 i x0 x1 x3 x4) ∗ owns c arg15 fullShare (k0_pay9 (tile i x0 x1 x3 x4) (wq x5)) ∗ owns c arg16 fullShare (k0_pay10 (tile i x0 x1 x3 x4) (wk x5)) ∗ owns c arg17 fullShare (k0_pay11 (tile i x0 x1 x3 x4) (wv x5)) ∗ owns c arg18 fullShare (k0_pay12 (k0_pay8 (tile i x0 x1 x3 x4)) (wr x5)) ∗ owns c arg19 fullShare (k0_pay13 (k0_pay8 (tile i x0 x1 x3 x4)) (wg x5)) ∗ owns c arg20 fullShare (low (tile i x0 x1 x3 x4) (scC.view.read (Elt Bits) xa) x8 x9 x10 x11) ∗ owns c arg21 fullShare (k0_pay15 (k0_pay14 (k0_pay8 (tile i x0 x1 x3 x4)) x6 x7)) ∗ owns c arg22 fullShare d20 ∗ (∃ xb, ⌜scC.view.read (Elt Bits) xb = carry (tile i x0 x1 x3 x4)⌝ ∗ (scC.view.loc c ↦{fullShare} xb))) -∗ K ⟨⟩))
    ⊢ wp frame (wpE (defs₀ (F := Bits)) Variants.none c none) Set.univ (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 scC (Memref.isWhole_whole _)) K := by
  unfold owns
  rw [cc0_inproj_eq_skeleton]
  unfold cc0_inproj_skel
  iintro ⟨H0, H1, H2, H3, H4, H5, H6, H7, H8, H9, H10, H11, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f20, %e20, H20⟩, HS, Hk⟩
  have hS : scC.IsWhole := Memref.isWhole_whole _
  sl_exec (disch := first
    | (guard_target = k0_cond1 _ = _; exact hc)
    | (guard_target = ¬ (k0_cond1 _ = _); exact hc))
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _; isplitr; swap
    · iexact H12
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H13]
  · iexists _; isplitr; swap
    · iexact H13
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H14]
  · iexists _; isplitr; swap
    · iexact H14
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H15]
  · iexists _; isplitr; swap
    · iexact H15
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H16]
  · iexists _; isplitr; swap
    · iexact H16
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H17]
  · iexists _; isplitr; swap
    · iexact H17
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H18]
  · iexists _; isplitr; swap
    · iexact H18
    · ipureintro; clear * -
      refine (View.read_writes_eq_canon _ _ _ (fun y => low_cover _ _ _ y)).trans ?_
      (try delta run_next.sl.r_4); (try delta run_next.sl.r_3); (try delta run_next.sl.r_2); (try delta run_next.sl.r_1); (try delta run_next.sl.r); (try delta run_next.sl.v35); (repeat rw [View.readAt_rep_full])
      rw [View.readAt_full]
      rfl
  isplitl [H19]
  · iexists _; isplitr; swap
    · iexact H19
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H20]
  · iexists _; isplitr; swap
    · iexact H20
    · ipureintro; exact e20
  iexists _; isplitr; swap
  · iexact HS
  · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)

end Cert.Kernel2.Inproj

end
-- ==== Proof.InprojBits.Frame.lean ====
module

public import proofs.«01_k».proof.Proof.InprojBits.Body
public import Idealize.ShloMosaic.Lib.Pipeline.Quiescent
public import Idealize.ShloMosaic.Lib.Pipeline.KitQuiescent
public import Idealize.ShloMosaic.Lib.Pipeline.TableIdle

@[expose] public section

set_option maxRecDepth 16384
set_option Elab.async false
set_option backward.proofsInPublic true

noncomputable section

namespace Cert.Kernel2.Inproj

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

variable (m : (ℓ : Loc nD τ sig) → Buf (Elt Bits) ℓ) (ρ : Dev nD → PrngReg)

/-! ## A step's blocks and staging buffers -/

abbrev crd (t : Fin cfg0.N) : grid0.Coords := grid0.coords t

/-- Window `w`'s block at step `t`, read off its array at launch. -/
def iblk (c : Dev nD) (w : Fin cfg0.W) (t : Fin cfg0.N) : ((cfg0.win w).xblock (cfg0.grid.coords t)).Idx → Elt Bits (cfg0.win w).elt :=
  ((cfg0.win w).blk t).view.read (Elt Bits) (m ((cfg0.win w).arr.view.loc (c : Thread nD τ)))

abbrev ms0 (t : Fin cfg0.N) : Memref sig .tc .vmem S1x344x1024 .f32 := win0_0.stage (cfg0.slots t (0 : Fin 21))
abbrev hs0 (t : Fin cfg0.N) : (ms0 t).IsWhole := hstage0_0 ((cfg0.slots t (0 : Fin 21)).cast nbuf0_0)
abbrev ms1 (t : Fin cfg0.N) : Memref sig .tc .vmem S16x1024 .f32 := win0_1.stage (cfg0.slots t (1 : Fin 21))
abbrev hs1 (t : Fin cfg0.N) : (ms1 t).IsWhole := hstage0_1 ((cfg0.slots t (1 : Fin 21)).cast nbuf0_1)
abbrev ms2 (t : Fin cfg0.N) : Memref sig .tc .vmem S1x1x1024 .f32 := win0_2.stage (cfg0.slots t (2 : Fin 21))
abbrev hs2 (t : Fin cfg0.N) : (ms2 t).IsWhole := hstage0_2 ((cfg0.slots t (2 : Fin 21)).cast nbuf0_2)
abbrev ms3 (t : Fin cfg0.N) : Memref sig .tc .vmem S1x1024 .f32 := win0_3.stage (cfg0.slots t (3 : Fin 21))
abbrev hs3 (t : Fin cfg0.N) : (ms3 t).IsWhole := hstage0_3 ((cfg0.slots t (3 : Fin 21)).cast nbuf0_3)
abbrev ms4 (t : Fin cfg0.N) : Memref sig .tc .vmem S1x1024 .f32 := win0_4.stage (cfg0.slots t (4 : Fin 21))
abbrev hs4 (t : Fin cfg0.N) : (ms4 t).IsWhole := hstage0_4 ((cfg0.slots t (4 : Fin 21)).cast nbuf0_4)
abbrev ms5 (t : Fin cfg0.N) : Memref sig .tc .vmem S1024x5120 .bf16 := win0_5.stage (cfg0.slots t (5 : Fin 21))
abbrev hs5 (t : Fin cfg0.N) : (ms5 t).IsWhole := hstage0_5 ((cfg0.slots t (5 : Fin 21)).cast nbuf0_5)
abbrev ms6 (t : Fin cfg0.N) : Memref sig .tc .vmem S1024x128 .bf16 := win0_6.stage (cfg0.slots t (6 : Fin 21))
abbrev hs6 (t : Fin cfg0.N) : (ms6 t).IsWhole := hstage0_6 ((cfg0.slots t (6 : Fin 21)).cast nbuf0_6)
abbrev ms7 (t : Fin cfg0.N) : Memref sig .tc .vmem S1x128 .f32 := win0_7.stage (cfg0.slots t (7 : Fin 21))
abbrev hs7 (t : Fin cfg0.N) : (ms7 t).IsWhole := hstage0_7 ((cfg0.slots t (7 : Fin 21)).cast nbuf0_7)
abbrev ms8 (t : Fin cfg0.N) : Memref sig .tc .vmem S3x1024 .f32 := win0_8.stage (cfg0.slots t (8 : Fin 21))
abbrev hs8 (t : Fin cfg0.N) : (ms8 t).IsWhole := hstage0_8 ((cfg0.slots t (8 : Fin 21)).cast nbuf0_8)
abbrev ms9 (t : Fin cfg0.N) : Memref sig .tc .vmem S1024x64 .bf16 := win0_9.stage (cfg0.slots t (9 : Fin 21))
abbrev hs9 (t : Fin cfg0.N) : (ms9 t).IsWhole := hstage0_9 ((cfg0.slots t (9 : Fin 21)).cast nbuf0_9)
abbrev ms10 (t : Fin cfg0.N) : Memref sig .tc .vmem S1024x64 .bf16 := win0_10.stage (cfg0.slots t (10 : Fin 21))
abbrev hs10 (t : Fin cfg0.N) : (ms10 t).IsWhole := hstage0_10 ((cfg0.slots t (10 : Fin 21)).cast nbuf0_10)
abbrev ms11 (t : Fin cfg0.N) : Memref sig .tc .vmem S1024x128 .bf16 := win0_11.stage (cfg0.slots t (11 : Fin 21))
abbrev hs11 (t : Fin cfg0.N) : (ms11 t).IsWhole := hstage0_11 ((cfg0.slots t (11 : Fin 21)).cast nbuf0_11)
abbrev ms12 (t : Fin cfg0.N) : Memref sig .tc .vmem S1x344x1024 .f32 := win0_12.stage (cfg0.slots t (12 : Fin 21))
abbrev hs12 (t : Fin cfg0.N) : (ms12 t).IsWhole := hstage0_12 ((cfg0.slots t (12 : Fin 21)).cast nbuf0_12)
abbrev ms13 (t : Fin cfg0.N) : Memref sig .tc .vmem S1x344x512 .bf16 := win0_13.stage (cfg0.slots t (13 : Fin 21))
abbrev hs13 (t : Fin cfg0.N) : (ms13 t).IsWhole := hstage0_13 ((cfg0.slots t (13 : Fin 21)).cast nbuf0_13)
abbrev ms14 (t : Fin cfg0.N) : Memref sig .tc .vmem S1x344x512 .f32 := win0_14.stage (cfg0.slots t (14 : Fin 21))
abbrev hs14 (t : Fin cfg0.N) : (ms14 t).IsWhole := hstage0_14 ((cfg0.slots t (14 : Fin 21)).cast nbuf0_14)
abbrev ms15 (t : Fin cfg0.N) : Memref sig .tc .vmem S1x344x512 .f32 := win0_15.stage (cfg0.slots t (15 : Fin 21))
abbrev hs15 (t : Fin cfg0.N) : (ms15 t).IsWhole := hstage0_15 ((cfg0.slots t (15 : Fin 21)).cast nbuf0_15)
abbrev ms16 (t : Fin cfg0.N) : Memref sig .tc .vmem S1x344x1536 .bf16 := win0_16.stage (cfg0.slots t (16 : Fin 21))
abbrev hs16 (t : Fin cfg0.N) : (ms16 t).IsWhole := hstage0_16 ((cfg0.slots t (16 : Fin 21)).cast nbuf0_16)
abbrev ms17 (t : Fin cfg0.N) : Memref sig .tc .vmem S1x344x2048 .bf16 := win0_17.stage (cfg0.slots t (17 : Fin 21))
abbrev hs17 (t : Fin cfg0.N) : (ms17 t).IsWhole := hstage0_17 ((cfg0.slots t (17 : Fin 21)).cast nbuf0_17)
abbrev ms18 (t : Fin cfg0.N) : Memref sig .tc .vmem S1x344x256 .f32 := win0_18.stage (cfg0.slots t (18 : Fin 21))
abbrev hs18 (t : Fin cfg0.N) : (ms18 t).IsWhole := hstage0_18 ((cfg0.slots t (18 : Fin 21)).cast nbuf0_18)
abbrev ms19 (t : Fin cfg0.N) : Memref sig .tc .vmem S1x344x128 .f32 := win0_19.stage (cfg0.slots t (19 : Fin 21))
abbrev hs19 (t : Fin cfg0.N) : (ms19 t).IsWhole := hstage0_19 ((cfg0.slots t (19 : Fin 21)).cast nbuf0_19)
abbrev ms20 (t : Fin cfg0.N) : Memref sig .tc .vmem S1x1x1536 .f32 := win0_20.stage (cfg0.slots t (20 : Fin 21))
abbrev hs20 (t : Fin cfg0.N) : (ms20 t).IsWhole := hstage0_20 ((cfg0.slots t (20 : Fin 21)).cast nbuf0_20)
abbrev b0 (c : Dev nD) (t : Fin cfg0.N) : Vec Bits S1x344x1024 .f32 := iblk m c (0 : Fin 21) t
abbrev b1 (c : Dev nD) (t : Fin cfg0.N) : Vec Bits S16x1024 .f32 := iblk m c (1 : Fin 21) t
abbrev b2 (c : Dev nD) (t : Fin cfg0.N) : Vec Bits S1x1x1024 .f32 := iblk m c (2 : Fin 21) t
abbrev b3 (c : Dev nD) (t : Fin cfg0.N) : Vec Bits S1x1024 .f32 := iblk m c (3 : Fin 21) t
abbrev b4 (c : Dev nD) (t : Fin cfg0.N) : Vec Bits S1x1024 .f32 := iblk m c (4 : Fin 21) t
abbrev b5 (c : Dev nD) (t : Fin cfg0.N) : Vec Bits S1024x5120 .bf16 := iblk m c (5 : Fin 21) t
abbrev b6 (c : Dev nD) (t : Fin cfg0.N) : Vec Bits S1024x128 .bf16 := iblk m c (6 : Fin 21) t
abbrev b7 (c : Dev nD) (t : Fin cfg0.N) : Vec Bits S1x128 .f32 := iblk m c (7 : Fin 21) t
abbrev b8 (c : Dev nD) (t : Fin cfg0.N) : Vec Bits S3x1024 .f32 := iblk m c (8 : Fin 21) t
abbrev b9 (c : Dev nD) (t : Fin cfg0.N) : Vec Bits S1024x64 .bf16 := iblk m c (9 : Fin 21) t
abbrev b10 (c : Dev nD) (t : Fin cfg0.N) : Vec Bits S1024x64 .bf16 := iblk m c (10 : Fin 21) t
abbrev b11 (c : Dev nD) (t : Fin cfg0.N) : Vec Bits S1024x128 .bf16 := iblk m c (11 : Fin 21) t

/-! ## The schedule -/

theorem N_lt (t : Fin cfg0.N) : t.val < 96 := lt_of_lt_of_le t.isLt (le_of_eq N_0)

theorem crd_stream (t : Fin cfg0.N) : ((crd t) 0).val = t.val / 6 := by
  have h : ∀ t : Fin grid0.N, ((grid0.coords t) 0).val = t.val / 6 := by decide +kernel
  exact h t
theorem crd_tile (t : Fin cfg0.N) : ((crd t) 1).val = t.val % 6 := by
  have h : ∀ t : Fin grid0.N, ((grid0.coords t) 1).val = t.val % 6 := by decide +kernel
  exact h t
/-- The first tile of a stream is where the row before it is taken from the input. -/
theorem cond_iff (t : Fin cfg0.N) : k0_cond1 (crd t) = 1#1 ↔ t.val % 6 = 0 := by
  have h : ∀ t : Fin grid0.N, k0_cond1 (grid0.coords t) = 1#1 ↔ t.val % 6 = 0 := by decide +kernel
  exact h t
/-- The projected row before a stream is staged from the stream's first tile on. -/
theorem fresh_20 (t : Fin cfg0.N) : cfg0.fresh (20 : Fin 21) t.val = decide (t.val % 6 = 0) := by
  have h : ∀ t : Fin grid0.N, cfg0.fresh (20 : Fin 21) t.val = decide (t.val % 6 = 0) := by decide +kernel
  exact h t

/-- A stream's tiles see one row before the stream. -/
theorem b2_congr (c : Dev nD) {t t' : Fin cfg0.N} (h : (crd t) 0 = (crd t') 0) : b2 m c t = b2 m c t' := by
  funext y
  show iblk m c (2 : Fin 21) t y = iblk m c (2 : Fin 21) t' y
  unfold iblk
  refine congrArg (m ((c : Thread nD τ).loc main_arg2) : S16x1x1024.Idx → Elt Bits .f32) (funext fun d => ?_)
  match d with
  | ⟨0, _⟩ =>
    refine Fin.ext ?_
    show (BitVec.ofNat 32 ((crd t) 0).val).toNat * 1 + 1 * (y 0).val = (BitVec.ofNat 32 ((crd t') 0).val).toNat * 1 + 1 * (y 0).val
    rw [h]
  | ⟨1, _⟩ => rfl
  | ⟨2, _⟩ => rfl
theorem b5_congr (c : Dev nD) (t t' : Fin cfg0.N) : b5 m c t = b5 m c t' := rfl

/-! ## What a step leaves -/

def tl (c : Dev nD) (t : Fin cfg0.N) : FVec Bits S344x1024 .f32 := tile (crd t) (b0 m c t) (b1 m c t) (b3 m c t) (b4 m c t)
/-- The row before a tile. -/
def rowBefore (c : Dev nD) (t : Fin cfg0.N) : Vec Bits S1x1024 .f32 :=
  if t.val % 6 = 0 then k0_pay4 (b2 m c t) else carry (tl m c ⟨t.val - 1, lt_of_le_of_lt (Nat.sub_le _ _) t.isLt⟩)

def o12 (c : Dev nD) (t : Fin cfg0.N) : Vec Bits S1x344x1024 .f32 := k0_pay2 (crd t) (b0 m c t) (b1 m c t) (b3 m c t) (b4 m c t)
def o13 (c : Dev nD) (t : Fin cfg0.N) : Vec Bits S1x344x512 .bf16 := k0_pay9 (tl m c t) (wq (b5 m c t))
def o14 (c : Dev nD) (t : Fin cfg0.N) : Vec Bits S1x344x512 .f32 := k0_pay10 (tl m c t) (wk (b5 m c t))
def o15 (c : Dev nD) (t : Fin cfg0.N) : Vec Bits S1x344x512 .f32 := k0_pay11 (tl m c t) (wv (b5 m c t))
def o16 (c : Dev nD) (t : Fin cfg0.N) : Vec Bits S1x344x1536 .bf16 := k0_pay12 (k0_pay8 (tl m c t)) (wr (b5 m c t))
def o17 (c : Dev nD) (t : Fin cfg0.N) : Vec Bits S1x344x2048 .bf16 := k0_pay13 (k0_pay8 (tl m c t)) (wg (b5 m c t))
@[irreducible] def o18 (c : Dev nD) (t : Fin cfg0.N) : Vec Bits S1x344x256 .f32 := low (tl m c t) (rowBefore m c t) (b8 m c t) (b9 m c t) (b10 m c t) (b11 m c t)
def o19 (c : Dev nD) (t : Fin cfg0.N) : Vec Bits S1x344x128 .f32 := k0_pay15 (k0_pay14 (k0_pay8 (tl m c t)) (b6 m c t) (b7 m c t))
def o20 (c : Dev nD) (t : Fin cfg0.N) : Vec Bits S1x1x1536 .f32 := k0_pay5 (b2 m c t) (wr (b5 m c t))

/-- Between steps the scratch holds the last row of the tile before. -/
def Phi (c : Dev nD) (k : Fin (cfg0.N + 1)) : sProp 𝕄 :=
  iprop(∃ b : Buf (Elt Bits) (scC.view.loc (c : Thread nD τ)),
    ⌜∀ s : Fin cfg0.N, s.val + 1 = k.val → scC.view.read (Elt Bits) b = carry (tl m c s)⌝ ∗ (scC.view.loc (c : Thread nD τ) ↦{fullShare} b))

/-- The proof data of the pipeline. -/
def dats (_ : Fin 1) (c : Dev nD) : Dat τ (Elt Bits) Unit ℕ (UR sig nD τ) ℕ cfg0 c where
  A w := m ((cfg0.win w).arr.view.loc (c : Thread nD τ))
  after w t := match w with
    | ⟨0, _⟩ => iblk m c (0 : Fin 21) t
    | ⟨1, _⟩ => iblk m c (1 : Fin 21) t
    | ⟨2, _⟩ => iblk m c (2 : Fin 21) t
    | ⟨3, _⟩ => iblk m c (3 : Fin 21) t
    | ⟨4, _⟩ => iblk m c (4 : Fin 21) t
    | ⟨5, _⟩ => iblk m c (5 : Fin 21) t
    | ⟨6, _⟩ => iblk m c (6 : Fin 21) t
    | ⟨7, _⟩ => iblk m c (7 : Fin 21) t
    | ⟨8, _⟩ => iblk m c (8 : Fin 21) t
    | ⟨9, _⟩ => iblk m c (9 : Fin 21) t
    | ⟨10, _⟩ => iblk m c (10 : Fin 21) t
    | ⟨11, _⟩ => iblk m c (11 : Fin 21) t
    | ⟨12, _⟩ => o12 m c t
    | ⟨13, _⟩ => o13 m c t
    | ⟨14, _⟩ => o14 m c t
    | ⟨15, _⟩ => o15 m c t
    | ⟨16, _⟩ => o16 m c t
    | ⟨17, _⟩ => o17 m c t
    | ⟨18, _⟩ => o18 m c t
    | ⟨19, _⟩ => o19 m c t
    | ⟨20, _⟩ => o20 m c t
    | ⟨_ + 21, h⟩ => absurd h (Nat.not_lt.2 (Nat.le_add_left _ _))
  Φ t := Phi m c t
  q _ := fullShare
  owed _ := 0

theorem after_0 (c : Dev nD) (t : Fin cfg0.N) : (dats m 0 c).after (0 : Fin 21) t = iblk m c (0 : Fin 21) t := rfl
theorem after_1 (c : Dev nD) (t : Fin cfg0.N) : (dats m 0 c).after (1 : Fin 21) t = iblk m c (1 : Fin 21) t := rfl
theorem after_2 (c : Dev nD) (t : Fin cfg0.N) : (dats m 0 c).after (2 : Fin 21) t = iblk m c (2 : Fin 21) t := rfl
theorem after_3 (c : Dev nD) (t : Fin cfg0.N) : (dats m 0 c).after (3 : Fin 21) t = iblk m c (3 : Fin 21) t := rfl
theorem after_4 (c : Dev nD) (t : Fin cfg0.N) : (dats m 0 c).after (4 : Fin 21) t = iblk m c (4 : Fin 21) t := rfl
theorem after_5 (c : Dev nD) (t : Fin cfg0.N) : (dats m 0 c).after (5 : Fin 21) t = iblk m c (5 : Fin 21) t := rfl
theorem after_6 (c : Dev nD) (t : Fin cfg0.N) : (dats m 0 c).after (6 : Fin 21) t = iblk m c (6 : Fin 21) t := rfl
theorem after_7 (c : Dev nD) (t : Fin cfg0.N) : (dats m 0 c).after (7 : Fin 21) t = iblk m c (7 : Fin 21) t := rfl
theorem after_8 (c : Dev nD) (t : Fin cfg0.N) : (dats m 0 c).after (8 : Fin 21) t = iblk m c (8 : Fin 21) t := rfl
theorem after_9 (c : Dev nD) (t : Fin cfg0.N) : (dats m 0 c).after (9 : Fin 21) t = iblk m c (9 : Fin 21) t := rfl
theorem after_10 (c : Dev nD) (t : Fin cfg0.N) : (dats m 0 c).after (10 : Fin 21) t = iblk m c (10 : Fin 21) t := rfl
theorem after_11 (c : Dev nD) (t : Fin cfg0.N) : (dats m 0 c).after (11 : Fin 21) t = iblk m c (11 : Fin 21) t := rfl
theorem after_12 (c : Dev nD) (t : Fin cfg0.N) : (dats m 0 c).after (12 : Fin 21) t = o12 m c t := rfl
theorem after_13 (c : Dev nD) (t : Fin cfg0.N) : (dats m 0 c).after (13 : Fin 21) t = o13 m c t := rfl
theorem after_14 (c : Dev nD) (t : Fin cfg0.N) : (dats m 0 c).after (14 : Fin 21) t = o14 m c t := rfl
theorem after_15 (c : Dev nD) (t : Fin cfg0.N) : (dats m 0 c).after (15 : Fin 21) t = o15 m c t := rfl
theorem after_16 (c : Dev nD) (t : Fin cfg0.N) : (dats m 0 c).after (16 : Fin 21) t = o16 m c t := rfl
theorem after_17 (c : Dev nD) (t : Fin cfg0.N) : (dats m 0 c).after (17 : Fin 21) t = o17 m c t := rfl
theorem after_18 (c : Dev nD) (t : Fin cfg0.N) : (dats m 0 c).after (18 : Fin 21) t = o18 m c t := rfl
theorem after_19 (c : Dev nD) (t : Fin cfg0.N) : (dats m 0 c).after (19 : Fin 21) t = o19 m c t := rfl
theorem after_20 (c : Dev nD) (t : Fin cfg0.N) : (dats m 0 c).after (20 : Fin 21) t = o20 m c t := rfl
theorem before_0 (c : Dev nD) (t : Fin cfg0.N) (d) : (dats m 0 c).before (0 : Fin 21) t d = iblk m c (0 : Fin 21) t :=
  ((dats m 0 c).before_in_eq_fetched (0 : Fin 21) rfl (fun _ => rfl) (fun _ _ _ => rfl)
    (fun t => by rw [after_0]; unfold Dat.blockOf iblk; rfl) t d).trans (by unfold Dat.fetched Dat.blockOf iblk; rfl)
theorem before_1 (c : Dev nD) (t : Fin cfg0.N) (d) : (dats m 0 c).before (1 : Fin 21) t d = iblk m c (1 : Fin 21) t :=
  ((dats m 0 c).before_in_eq_fetched (1 : Fin 21) rfl (fun _ => rfl) (fun _ _ _ => rfl)
    (fun t => by rw [after_1]; unfold Dat.blockOf iblk; rfl) t d).trans (by unfold Dat.fetched Dat.blockOf iblk; rfl)
theorem before_2 (c : Dev nD) (t : Fin cfg0.N) (d) : (dats m 0 c).before (2 : Fin 21) t d = iblk m c (2 : Fin 21) t :=
  ((dats m 0 c).before_in_eq_fetched (2 : Fin 21) rfl (fun _ => rfl) (fun _ _ _ => rfl)
    (fun t => by rw [after_2]; unfold Dat.blockOf iblk; rfl) t d).trans (by unfold Dat.fetched Dat.blockOf iblk; rfl)
theorem before_3 (c : Dev nD) (t : Fin cfg0.N) (d) : (dats m 0 c).before (3 : Fin 21) t d = iblk m c (3 : Fin 21) t :=
  ((dats m 0 c).before_in_eq_fetched (3 : Fin 21) rfl (fun _ => rfl) (fun _ _ _ => rfl)
    (fun t => by rw [after_3]; unfold Dat.blockOf iblk; rfl) t d).trans (by unfold Dat.fetched Dat.blockOf iblk; rfl)
theorem before_4 (c : Dev nD) (t : Fin cfg0.N) (d) : (dats m 0 c).before (4 : Fin 21) t d = iblk m c (4 : Fin 21) t :=
  ((dats m 0 c).before_in_eq_fetched (4 : Fin 21) rfl (fun _ => rfl) (fun _ _ _ => rfl)
    (fun t => by rw [after_4]; unfold Dat.blockOf iblk; rfl) t d).trans (by unfold Dat.fetched Dat.blockOf iblk; rfl)
theorem before_5 (c : Dev nD) (t : Fin cfg0.N) (d) : (dats m 0 c).before (5 : Fin 21) t d = iblk m c (5 : Fin 21) t :=
  ((dats m 0 c).before_in_eq_fetched (5 : Fin 21) rfl (fun _ => rfl) (fun _ _ _ => rfl)
    (fun t => by rw [after_5]; unfold Dat.blockOf iblk; rfl) t d).trans (by unfold Dat.fetched Dat.blockOf iblk; rfl)
theorem before_6 (c : Dev nD) (t : Fin cfg0.N) (d) : (dats m 0 c).before (6 : Fin 21) t d = iblk m c (6 : Fin 21) t :=
  ((dats m 0 c).before_in_eq_fetched (6 : Fin 21) rfl (fun _ => rfl) (fun _ _ _ => rfl)
    (fun t => by rw [after_6]; unfold Dat.blockOf iblk; rfl) t d).trans (by unfold Dat.fetched Dat.blockOf iblk; rfl)
theorem before_7 (c : Dev nD) (t : Fin cfg0.N) (d) : (dats m 0 c).before (7 : Fin 21) t d = iblk m c (7 : Fin 21) t :=
  ((dats m 0 c).before_in_eq_fetched (7 : Fin 21) rfl (fun _ => rfl) (fun _ _ _ => rfl)
    (fun t => by rw [after_7]; unfold Dat.blockOf iblk; rfl) t d).trans (by unfold Dat.fetched Dat.blockOf iblk; rfl)
theorem before_8 (c : Dev nD) (t : Fin cfg0.N) (d) : (dats m 0 c).before (8 : Fin 21) t d = iblk m c (8 : Fin 21) t :=
  ((dats m 0 c).before_in_eq_fetched (8 : Fin 21) rfl (fun _ => rfl) (fun _ _ _ => rfl)
    (fun t => by rw [after_8]; unfold Dat.blockOf iblk; rfl) t d).trans (by unfold Dat.fetched Dat.blockOf iblk; rfl)
theorem before_9 (c : Dev nD) (t : Fin cfg0.N) (d) : (dats m 0 c).before (9 : Fin 21) t d = iblk m c (9 : Fin 21) t :=
  ((dats m 0 c).before_in_eq_fetched (9 : Fin 21) rfl (fun _ => rfl) (fun _ _ _ => rfl)
    (fun t => by rw [after_9]; unfold Dat.blockOf iblk; rfl) t d).trans (by unfold Dat.fetched Dat.blockOf iblk; rfl)
theorem before_10 (c : Dev nD) (t : Fin cfg0.N) (d) : (dats m 0 c).before (10 : Fin 21) t d = iblk m c (10 : Fin 21) t :=
  ((dats m 0 c).before_in_eq_fetched (10 : Fin 21) rfl (fun _ => rfl) (fun _ _ _ => rfl)
    (fun t => by rw [after_10]; unfold Dat.blockOf iblk; rfl) t d).trans (by unfold Dat.fetched Dat.blockOf iblk; rfl)
theorem before_11 (c : Dev nD) (t : Fin cfg0.N) (d) : (dats m 0 c).before (11 : Fin 21) t d = iblk m c (11 : Fin 21) t :=
  ((dats m 0 c).before_in_eq_fetched (11 : Fin 21) rfl (fun _ => rfl) (fun _ _ _ => rfl)
    (fun t => by rw [after_11]; unfold Dat.blockOf iblk; rfl) t d).trans (by unfold Dat.fetched Dat.blockOf iblk; rfl)

/-- The projected row is the same at every tile of a stream. -/
theorem o20_prev (c : Dev nD) (t : Fin cfg0.N) (h : ¬ t.val % 6 = 0) : o20 m c t = o20 m c ⟨t.val - 1, lt_of_le_of_lt (Nat.sub_le _ _) t.isLt⟩ := by
  unfold o20
  rw [b2_congr m c (t := t) (t' := ⟨t.val - 1, lt_of_le_of_lt (Nat.sub_le _ _) t.isLt⟩) (Fin.ext (by rw [crd_stream, crd_stream]; show t.val / 6 = (t.val - 1) / 6; omega))]
  rw [b5_congr m c t ⟨t.val - 1, lt_of_le_of_lt (Nat.sub_le _ _) t.isLt⟩]

theorem idle_20 (t : Fin cfg0.N) : cfg0.idle (20 : Fin 21) (cfg0.grid.coords t) = !(k0_cond1 (crd t) == 1#1) := rfl

/-- At a later tile the projected row is held as the first tile left it. -/
theorem before_20 (c : Dev nD) (t : Fin cfg0.N) (h : ¬ t.val % 6 = 0) (d) : (dats m 0 c).before (20 : Fin 21) t d = o20 m c t := by
  have e := (dats m 0 c).before_out_traj (20 : Fin 21) rfl (fun _ _ => rfl) (fun t ht hi hf => by
    have h6 : ¬ t.val % 6 = 0 := fun h0 => by rw [fresh_20, decide_eq_true h0] at hf; exact absurd hf (by decide)
    rw [after_20, after_20]; exact o20_prev m c t h6) t.val t rfl d
  rw [fresh_20, decide_eq_false h, if_neg (by decide), after_20] at e
  rw [e]; exact (o20_prev m c t h).symm

/-- The body at step `t`, as the pipeline calls it. -/
abbrev bodyAt (t : Fin cfg0.N) : Prog (TpuEff nD τ sig (Elt Bits) Λ₀ .tc) PUnit :=
  cc0_inproj (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) scC (Memref.isWhole_whole _)

set_option maxHeartbeats 8000000 in
/-- One step: from the invariant and the staged blocks, the body runs and leaves the invariant of the next step. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before (0 : Fin 21) t d))
        ∗ (∃ d, owns (c : Thread nD τ) (ms1 t) fullShare ((dats m 0 c).before (1 : Fin 21) t d))
        ∗ (∃ d, owns (c : Thread nD τ) (ms2 t) fullShare ((dats m 0 c).before (2 : Fin 21) t d))
        ∗ (∃ d, owns (c : Thread nD τ) (ms3 t) fullShare ((dats m 0 c).before (3 : Fin 21) t d))
        ∗ (∃ d, owns (c : Thread nD τ) (ms4 t) fullShare ((dats m 0 c).before (4 : Fin 21) t d))
        ∗ (∃ d, owns (c : Thread nD τ) (ms5 t) fullShare ((dats m 0 c).before (5 : Fin 21) t d))
        ∗ (∃ d, owns (c : Thread nD τ) (ms6 t) fullShare ((dats m 0 c).before (6 : Fin 21) t d))
        ∗ (∃ d, owns (c : Thread nD τ) (ms7 t) fullShare ((dats m 0 c).before (7 : Fin 21) t d))
        ∗ (∃ d, owns (c : Thread nD τ) (ms8 t) fullShare ((dats m 0 c).before (8 : Fin 21) t d))
        ∗ (∃ d, owns (c : Thread nD τ) (ms9 t) fullShare ((dats m 0 c).before (9 : Fin 21) t d))
        ∗ (∃ d, owns (c : Thread nD τ) (ms10 t) fullShare ((dats m 0 c).before (10 : Fin 21) t d))
        ∗ (∃ d, owns (c : Thread nD τ) (ms11 t) fullShare ((dats m 0 c).before (11 : Fin 21) t d))
        ∗ (∃ d, owns (c : Thread nD τ) (ms12 t) fullShare ((dats m 0 c).before (12 : Fin 21) t d))
        ∗ (∃ d, owns (c : Thread nD τ) (ms13 t) fullShare ((dats m 0 c).before (13 : Fin 21) t d))
        ∗ (∃ d, owns (c : Thread nD τ) (ms14 t) fullShare ((dats m 0 c).before (14 : Fin 21) t d))
        ∗ (∃ d, owns (c : Thread nD τ) (ms15 t) fullShare ((dats m 0 c).before (15 : Fin 21) t d))
        ∗ (∃ d, owns (c : Thread nD τ) (ms16 t) fullShare ((dats m 0 c).before (16 : Fin 21) t d))
        ∗ (∃ d, owns (c : Thread nD τ) (ms17 t) fullShare ((dats m 0 c).before (17 : Fin 21) t d))
        ∗ (∃ d, owns (c : Thread nD τ) (ms18 t) fullShare ((dats m 0 c).before (18 : Fin 21) t d))
        ∗ (∃ d, owns (c : Thread nD τ) (ms19 t) fullShare ((dats m 0 c).before (19 : Fin 21) t d))
        ∗ (∃ d, owns (c : Thread nD τ) (ms20 t) fullShare ((dats m 0 c).before (20 : Fin 21) t d)))
      ⊢ wp frame (wpE (defs₀ (F := Bits)) Variants.none c none) Set.univ (bodyAt t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  rw [bigSep_W0]
  rewrite [idle_20]
  simp only [before_0, before_1, before_2, before_3, before_4, before_5, before_6, before_7, before_8, before_9, before_10, before_11, after_0, after_1, after_2, after_3, after_4, after_5, after_6, after_7, after_8, after_9, after_10, after_11, after_12, after_13, after_14, after_15, after_16, after_17, after_18, after_19, after_20]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  simp only [Fin.val_castSucc, Fin.val_succ]
  iintro ⟨⟨%xa, %hb, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  by_cases h6 : t.val % 6 = 0
  · have hc : k0_cond1 (crd t) = 1#1 := (cond_iff t).2 h6
    rewrite [show (!(k0_cond1 (crd t) == 1#1)) = false from by rw [hc]; rfl]
    iapply (run_first c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (b0 m c t) (b1 m c t) (b2 m c t) (b3 m c t) (b4 m c t) (b5 m c t) (b6 m c t) (b7 m c t) (b8 m c t) (b9 m c t) (b10 m c t) (b11 m c t) xa hc)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iapply rep_of_owns; iexact H10
    isplitl [H11]; · iapply rep_of_owns; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS]; · iexact HS
    iintro ⟨H0, H1, H2, H3, H4, H5, H6, H7, H8, H9, H10, H11, H12, H13, H14, H15, H16, H17, H18, H19, H20, ⟨%xb, %hx, HS⟩⟩
    isplitl [HS]
    · iexists xb; isplitr; swap
      · iexact HS
      · ipureintro; intro s hs; obtain rfl : s = t := Fin.ext (by omega); exact hx
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]; · iapply owns_of_rep; iexact H9
    isplitl [H10]; · iapply owns_of_rep; iexact H10
    isplitl [H11]; · iapply owns_of_rep; iexact H11
    isplitl [H12]; · iexact H12
    isplitl [H13]; · iexact H13
    isplitl [H14]; · iexact H14
    isplitl [H15]; · iexact H15
    isplitl [H16]; · iexact H16
    isplitl [H17]; · iexact H17
    isplitl [H18]
    · rewrite [show o18 m c t = low (tl m c t) (k0_pay4 (b2 m c t)) (b8 m c t) (b9 m c t) (b10 m c t) (b11 m c t) from by unfold o18 rowBefore; rw [if_pos h6]]; iexact H18
    isplitl [H19]; · iexact H19
    iexact H20
  · have hc : ¬ (k0_cond1 (crd t) = 1#1) := fun h => h6 ((cond_iff t).1 h)
    have hcf : (!(k0_cond1 (crd t) == 1#1)) = true := by
      rw [Bool.not_eq_true']; exact beq_eq_false_iff_ne.2 hc
    rewrite [hcf]
    have hrow : scC.view.read (Elt Bits) xa = rowBefore m c t := by
      unfold rowBefore; rw [if_neg h6]
      exact hb ⟨t.val - 1, lt_of_le_of_lt (Nat.sub_le _ _) t.isLt⟩ (by show t.val - 1 + 1 = t.val; omega)
    iapply (run_next c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (b0 m c t) (b1 m c t) (b2 m c t) (b3 m c t) (b4 m c t) (b5 m c t) (b6 m c t) (b7 m c t) (b8 m c t) (b9 m c t) (b10 m c t) (b11 m c t) ((dats m 0 c).before (20 : Fin 21) t d20) xa hc)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iapply rep_of_owns; iexact H10
    isplitl [H11]; · iapply rep_of_owns; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    isplitl [HS]; · iexact HS
    iintro ⟨H0, H1, H2, H3, H4, H5, H6, H7, H8, H9, H10, H11, H12, H13, H14, H15, H16, H17, H18, H19, H20, ⟨%xb, %hx, HS⟩⟩
    isplitl [HS]
    · iexists xb; isplitr; swap
      · iexact HS
      · ipureintro; intro s hs; obtain rfl : s = t := Fin.ext (by omega); exact hx
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]; · iapply owns_of_rep; iexact H9
    isplitl [H10]; · iapply owns_of_rep; iexact H10
    isplitl [H11]; · iapply owns_of_rep; iexact H11
    isplitl [H12]; · iexact H12
    isplitl [H13]; · iexact H13
    isplitl [H14]; · iexact H14
    isplitl [H15]; · iexact H15
    isplitl [H16]; · iexact H16
    isplitl [H17]; · iexact H17
    isplitl [H18]
    · rewrite [hrow, show o18 m c t = low (tl m c t) (rowBefore m c t) (b8 m c t) (b9 m c t) (b10 m c t) (b11 m c t) from by unfold o18; first | done | rfl]; iexact H18
    isplitl [H19]; · iexact H19
    rcases hfl : (cfg0.win (20 : Fin 21)).flush t with _ | _
    · dsimp only; iexists d20; iexact H20
    · dsimp only; rewrite [before_20 m c t h6]; iexact H20

set_option maxHeartbeats 8000000 in
theorem body_obligation (c : Dev nD) : BodyObligation (dats m 0 c) (defs₀ (F := Bits)) Variants.none () Set.univ := fun t => by
  rw [bigSep_W0]; exact sound_body m c t

/-! ## The launch -/

theorem share_eq (c : Dev nD) (w : Fin cfg0.W) : (dats m 0 c).share w = fullShare := by unfold Dat.share; split <;> rfl

theorem phi_intro (c : Dev nD) : iprop(BI.emp ∗ Pipeline.scopedRest spec0 c) ⊢ (dats m 0 c).Φ 0 := by
  rw [scopedRest0_eq, show (dats m 0 c).Φ 0 = Phi m c 0 from rfl]
  unfold Phi
  iintro ⟨-, ⟨%b0, HS0⟩⟩
  iexists b0; isplitr; swap
  · iexact HS0
  · ipureintro; intro s hs; exact absurd hs (Nat.succ_ne_zero _)

theorem phi_exit (c : Dev nD) : (dats m 0 c).Φ (Fin.last cfg0.N) ⊢ iprop(BI.emp ∗ Pipeline.scopedRest spec0 c) := by
  rw [scopedRest0_eq, show (dats m 0 c).Φ (Fin.last cfg0.N) = Phi m c (Fin.last _) from rfl]
  unfold Phi
  iintro ⟨%b0, -, HS0⟩
  isplitr; · iempintro
  iexists b0; iexact HS0

/-- What a run leaves: every array at what the pipeline's data say. -/
def QC : PUnit × MemSt nD τ sig (Elt Bits) → Prop := fun r =>
  ∀ c : Dev nD, ∀ w : Fin cfg0.W, r.2.mem ((cfg0.win w).arr.view.loc (c : Thread nD τ)) = (dats m 0 c).arrAt w cfg0.N

set_option backward.isDefEq.respectTransparency.types false in
set_option maxHeartbeats 4000000 in
/-- Every weakly fair execution ends with the arrays as computed and every counter at zero. -/
theorem run_main_quiescent :
    θ_run (defs (F := Bits)) (onTc (τ := τ) (main (F := Bits))) ⟨m, fun _ => 0, ρ⟩ (fun r => QC m r ∧ r.2.sem = fun _ => 0) :=
  Pipeline.θ_run_region_noSem_kit_quiescent cfgs (dats m) () (0 : Fin 1) launch0 EP defs₀ Variants.none m ρ main
    (hbody := fun c => (body_obligation m c).loose) (hshare := share_eq m) (howed := fun _ _ => rfl)
    (u₀ := initOf (Pipeline.cells cfgs launch0.cellOf_inj) (Pipeline.launchToks cfgs launch0.cellOf_inj)) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := phi_intro m)
    (hout := phi_exit m)
    (QY := fun _ _ => True)
    (hY := fun c s' => by
      iintro ⟨-, -, HSI⟩; imodintro
      isplitr; · ipureintro; trivial
      iexact HSI)
    (hQ := fun _ h hz => ⟨fun c => (h c).1, hz⟩)

/-- The arguments of a memory, all as they were in another. -/
abbrev Same (r : MemSt nD τ sig (Elt Bits)) : Prop := ∀ c : Dev nD,
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)
  ∧ r.mem ((c.tc : Thread nD τ).loc main_arg8) = m ((c.tc : Thread nD τ).loc main_arg8)
  ∧ r.mem ((c.tc : Thread nD τ).loc main_arg9) = m ((c.tc : Thread nD τ).loc main_arg9)
  ∧ r.mem ((c.tc : Thread nD τ).loc main_arg10) = m ((c.tc : Thread nD τ).loc main_arg10)
  ∧ r.mem ((c.tc : Thread nD τ).loc main_arg11) = m ((c.tc : Thread nD τ).loc main_arg11)

theorem same_of_QC (r : PUnit × MemSt nD τ sig (Elt Bits)) (h : QC m r) : Same m r.2 := fun c =>
  ⟨(h c (0 : Fin 21)).trans ((dats m 0 c).arrAt_in (0 : Fin 21) rfl _),
    (h c (1 : Fin 21)).trans ((dats m 0 c).arrAt_in (1 : Fin 21) rfl _),
    (h c (2 : Fin 21)).trans ((dats m 0 c).arrAt_in (2 : Fin 21) rfl _),
    (h c (3 : Fin 21)).trans ((dats m 0 c).arrAt_in (3 : Fin 21) rfl _),
    (h c (4 : Fin 21)).trans ((dats m 0 c).arrAt_in (4 : Fin 21) rfl _),
    (h c (5 : Fin 21)).trans ((dats m 0 c).arrAt_in (5 : Fin 21) rfl _),
    (h c (6 : Fin 21)).trans ((dats m 0 c).arrAt_in (6 : Fin 21) rfl _),
    (h c (7 : Fin 21)).trans ((dats m 0 c).arrAt_in (7 : Fin 21) rfl _),
    (h c (8 : Fin 21)).trans ((dats m 0 c).arrAt_in (8 : Fin 21) rfl _),
    (h c (9 : Fin 21)).trans ((dats m 0 c).arrAt_in (9 : Fin 21) rfl _),
    (h c (10 : Fin 21)).trans ((dats m 0 c).arrAt_in (10 : Fin 21) rfl _),
    (h c (11 : Fin 21)).trans ((dats m 0 c).arrAt_in (11 : Fin 21) rfl _)⟩

/-- The frame: the arguments end unchanged and every counter reads zero. -/
theorem frame_at :
    θ_run (defs (F := Bits)) (onTc (τ := τ) (main (F := Bits))) ⟨m, fun _ => 0, ρ⟩ (fun r => Same m r.2 ∧ r.2.sem = fun _ => 0) :=
  (θ_run defs _ _).mono (fun r h => ⟨same_of_QC m r h.1, h.2⟩) (run_main_quiescent m ρ)

end Cert.Kernel2.Inproj

end
-- ==== Proof.InprojIdeal.Body.lean ====
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.FrameBody
public import Idealize.ShloMosaic.Lib.Writes
public import Idealize.ShloMosaic.Lib.VecWindow
public import Idealize.ShloMosaic.Lib.Ring
public import Idealize.ShloMosaic.PureOps.Ideal
public import Idealize.ShloMosaic.PureOps.BitExact

@[expose] public section

set_option maxRecDepth 16384
set_option Elab.async false
set_option backward.proofsInPublic true

/-! The body of the projection call run once: what each output window and the carried row hold
    after it, from the blocks the inputs hold before it. -/

noncomputable section

namespace Cert.Kernel2Ideal.Inproj

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The carried row's scratch. -/
abbrev scC : Memref sig .tc .vmem S1x1024 .f32 := Memref.whole cc0_scratch0

/-! ## The columns of the projection's weights -/

def wq (w : Vec Ideal S1024x5120 .bf16) : Vec Ideal S1024x512 .bf16 := fun y => w ((Rect.unit (s := S1024x5120) ![0, 0] S1024x512.size inb_S1024x5120_S1024x512_0_0).toLoadRect.idx y)
def wk (w : Vec Ideal S1024x5120 .bf16) : Vec Ideal S1024x512 .bf16 := fun y => w ((Rect.unit (s := S1024x5120) ![0, 512] S1024x512.size inb_S1024x5120_S1024x512_0_512).toLoadRect.idx y)
def wv (w : Vec Ideal S1024x5120 .bf16) : Vec Ideal S1024x512 .bf16 := fun y => w ((Rect.unit (s := S1024x5120) ![0, 1024] S1024x512.size inb_S1024x5120_S1024x512_0_1024).toLoadRect.idx y)
def wr (w : Vec Ideal S1024x5120 .bf16) : Vec Ideal S1024x1536 .bf16 := fun y => w ((Rect.unit (s := S1024x5120) ![0, 1536] S1024x1536.size inb_S1024x5120_S1024x1536_0_1536).toLoadRect.idx y)
def wg (w : Vec Ideal S1024x5120 .bf16) : Vec Ideal S1024x2048 .bf16 := fun y => w ((Rect.unit (s := S1024x5120) ![0, 3072] S1024x2048.size inb_S1024x5120_S1024x2048_0_3072).toLoadRect.idx y)

/-! ## What a step leaves -/

/-- The normalised tile. -/
def tile (i : grid0.Coords) (x0 : Vec Ideal S1x344x1024 .f32) (x1 : Vec Ideal S16x1024 .f32) (x3 x4 : Vec Ideal S1x1024 .f32) : FVec Ideal S344x1024 .f32 := k0_pay1 i x0 x1 x3 x4
/-- The row carried to the next tile. -/
def carry (h : FVec Ideal S344x1024 .f32) : Vec Ideal S1x1024 .f32 := k0_pay6 h
/-- The shifted difference. -/
def diff (h : FVec Ideal S344x1024 .f32) (v : Vec Ideal S1x1024 .f32) : FVec Ideal S344x1024 .f32 := k0_pay7 h (iota .tc S344x1024 32 [0] iota_S344x1024_d0_w32) v
/-- The three low rank projections, as they are stored side by side. -/
def lowParts (h : FVec Ideal S344x1024 .f32) (v : Vec Ideal S1x1024 .f32) (x8 : Vec Ideal S3x1024 .f32) (x9 x10 : Vec Ideal S1024x64 .bf16) (x11 : Vec Ideal S1024x128 .bf16) :
    List (View.Piece (Elt Ideal) S1x344x256 .f32) :=
  [⟨Rect.unit (s := S1x344x256) ![0, 0, 128] S1x344x128.size inb_S1x344x256_S1x344x128_0_0_128, k0_pay18 h (diff h v) x8 x11⟩,
   ⟨Rect.unit (s := S1x344x256) ![0, 0, 64] S1x344x64.size inb_S1x344x256_S1x344x64_0_0_64, k0_pay17 h (diff h v) x8 x10⟩,
   ⟨Rect.unit (s := S1x344x256) ![0, 0, 0] S1x344x64.size inb_S1x344x256_S1x344x64_0_0_0, k0_pay16 h (diff h v) x8 x9⟩]
def low (h : FVec Ideal S344x1024 .f32) (v : Vec Ideal S1x1024 .f32) (x8 : Vec Ideal S3x1024 .f32) (x9 x10 : Vec Ideal S1024x64 .bf16) (x11 : Vec Ideal S1024x128 .bf16) : Vec Ideal S1x344x256 .f32 :=
  View.canon (lowParts h v x8 x9 x10 x11)

theorem low_cover (w1 : Vec Ideal S1x344x128 .f32) (w2 w3 : Vec Ideal S1x344x64 .f32) (y : S1x344x256.Idx) :
    ∃ p ∈ ([⟨Rect.unit (s := S1x344x256) ![0, 0, 128] S1x344x128.size inb_S1x344x256_S1x344x128_0_0_128, w1⟩,
      ⟨Rect.unit (s := S1x344x256) ![0, 0, 64] S1x344x64.size inb_S1x344x256_S1x344x64_0_0_64, w2⟩,
      ⟨Rect.unit (s := S1x344x256) ![0, 0, 0] S1x344x64.size inb_S1x344x256_S1x344x64_0_0_0, w3⟩] : List (View.Piece (Elt Ideal) S1x344x256 .f32)), y ∈ p.1.set := by
  have h0 : (y 0).val < 1 := (y 0).isLt
  have h1 : (y 1).val < 344 := (y 1).isLt
  have h2 : (y 2).val < 256 := (y 2).isLt
  rcases lt_or_ge (y 2).val 128 with ha | ha
  · rcases lt_or_ge (y 2).val 64 with hb | hb
    · refine ⟨⟨Rect.unit (s := S1x344x256) ![0, 0, 0] S1x344x64.size inb_S1x344x256_S1x344x64_0_0_0, w3⟩, by simp only [List.mem_cons, true_or, or_true], ?_⟩
      rw [Rect.mem_set_unit]
      intro a
      match a with
      | ⟨0, _⟩ => exact ⟨Nat.zero_le _, h0⟩
      | ⟨1, _⟩ => exact ⟨Nat.zero_le _, lt_of_lt_of_le h1 (le_of_eq (Nat.zero_add 344).symm)⟩
      | ⟨2, _⟩ => exact ⟨Nat.zero_le _, lt_of_lt_of_le hb (le_of_eq (Nat.zero_add 64).symm)⟩
    · refine ⟨⟨Rect.unit (s := S1x344x256) ![0, 0, 64] S1x344x64.size inb_S1x344x256_S1x344x64_0_0_64, w2⟩, by simp only [List.mem_cons, true_or, or_true], ?_⟩
      rw [Rect.mem_set_unit]
      intro a
      match a with
      | ⟨0, _⟩ => exact ⟨Nat.zero_le _, h0⟩
      | ⟨1, _⟩ => exact ⟨Nat.zero_le _, lt_of_lt_of_le h1 (le_of_eq (Nat.zero_add 344).symm)⟩
      | ⟨2, _⟩ => exact ⟨hb, ha⟩
  · refine ⟨⟨Rect.unit (s := S1x344x256) ![0, 0, 128] S1x344x128.size inb_S1x344x256_S1x344x128_0_0_128, w1⟩, by simp only [List.mem_cons, true_or, or_true], ?_⟩
    rw [Rect.mem_set_unit]
    intro a
    match a with
    | ⟨0, _⟩ => exact ⟨Nat.zero_le _, h0⟩
    | ⟨1, _⟩ => exact ⟨Nat.zero_le _, lt_of_lt_of_le h1 (le_of_eq (Nat.zero_add 344).symm)⟩
    | ⟨2, _⟩ => exact ⟨ha, h2⟩

variable (c : Dev nD)

set_option maxHeartbeats 8000000 in
/-- The first tile of a stream: the row before it is taken from the input. -/
theorem run_first (i : grid0.Coords) (arg2 : Memref sig .tc .vmem S1x344x1024 .f32) (harg2 : arg2.IsWhole) (arg3 : Memref sig .tc .vmem S16x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5120 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S3x1024 .f32) (harg10 : arg10.IsWhole) (arg11 : Memref sig .tc .vmem S1024x64 .bf16) (harg11 : arg11.IsWhole) (arg12 : Memref sig .tc .vmem S1024x64 .bf16) (harg12 : arg12.IsWhole) (arg13 : Memref sig .tc .vmem S1024x128 .bf16) (harg13 : arg13.IsWhole) (arg14 : Memref sig .tc .vmem S1x344x1024 .f32) (harg14 : arg14.IsWhole) (arg15 : Memref sig .tc .vmem S1x344x512 .bf16) (harg15 : arg15.IsWhole) (arg16 : Memref sig .tc .vmem S1x344x512 .f32) (harg16 : arg16.IsWhole) (arg17 : Memref sig .tc .vmem S1x344x512 .f32) (harg17 : arg17.IsWhole) (arg18 : Memref sig .tc .vmem S1x344x1536 .bf16) (harg18 : arg18.IsWhole) (arg19 : Memref sig .tc .vmem S1x344x2048 .bf16) (harg19 : arg19.IsWhole) (arg20 : Memref sig .tc .vmem S1x344x256 .f32) (harg20 : arg20.IsWhole) (arg21 : Memref sig .tc .vmem S1x344x128 .f32) (harg21 : arg21.IsWhole) (arg22 : Memref sig .tc .vmem S1x1x1536 .f32) (harg22 : arg22.IsWhole) (x0 : Vec Ideal S1x344x1024 .f32) (x1 : Vec Ideal S16x1024 .f32) (x2 : Vec Ideal S1x1x1024 .f32) (x3 : Vec Ideal S1x1024 .f32) (x4 : Vec Ideal S1x1024 .f32) (x5 : Vec Ideal S1024x5120 .bf16) (x6 : Vec Ideal S1024x128 .bf16) (x7 : Vec Ideal S1x128 .f32) (x8 : Vec Ideal S3x1024 .f32) (x9 : Vec Ideal S1024x64 .bf16) (x10 : Vec Ideal S1024x64 .bf16) (x11 : Vec Ideal S1024x128 .bf16) (xa : Buf (Elt Ideal) (scC.view.loc (c : Thread nD τ))) (hc : k0_cond1 i = 1#1) (K : PUnit → sProp 𝕄) :
    iprop((arg2.view.loc c ↦[arg2.view.set]{fullShare} arg2.view.rep x0) ∗ (arg3.view.loc c ↦[arg3.view.set]{fullShare} arg3.view.rep x1) ∗ (arg4.view.loc c ↦[arg4.view.set]{fullShare} arg4.view.rep x2) ∗ (arg5.view.loc c ↦[arg5.view.set]{fullShare} arg5.view.rep x3) ∗ (arg6.view.loc c ↦[arg6.view.set]{fullShare} arg6.view.rep x4) ∗ (arg7.view.loc c ↦[arg7.view.set]{fullShare} arg7.view.rep x5) ∗ (arg8.view.loc c ↦[arg8.view.set]{fullShare} arg8.view.rep x6) ∗ (arg9.view.loc c ↦[arg9.view.set]{fullShare} arg9.view.rep x7) ∗ (arg10.view.loc c ↦[arg10.view.set]{fullShare} arg10.view.rep x8) ∗ (arg11.view.loc c ↦[arg11.view.set]{fullShare} arg11.view.rep x9) ∗ (arg12.view.loc c ↦[arg12.view.set]{fullShare} arg12.view.rep x10) ∗ (arg13.view.loc c ↦[arg13.view.set]{fullShare} arg13.view.rep x11) ∗ (∃ d, owns c arg14 fullShare d) ∗ (∃ d, owns c arg15 fullShare d) ∗ (∃ d, owns c arg16 fullShare d) ∗ (∃ d, owns c arg17 fullShare d) ∗ (∃ d, owns c arg18 fullShare d) ∗ (∃ d, owns c arg19 fullShare d) ∗ (∃ d, owns c arg20 fullShare d) ∗ (∃ d, owns c arg21 fullShare d) ∗ (∃ d, owns c arg22 fullShare d) ∗ (scC.view.loc c ↦{fullShare} xa) ∗
      (iprop((arg2.view.loc c ↦[arg2.view.set]{fullShare} arg2.view.rep x0) ∗ (arg3.view.loc c ↦[arg3.view.set]{fullShare} arg3.view.rep x1) ∗ (arg4.view.loc c ↦[arg4.view.set]{fullShare} arg4.view.rep x2) ∗ (arg5.view.loc c ↦[arg5.view.set]{fullShare} arg5.view.rep x3) ∗ (arg6.view.loc c ↦[arg6.view.set]{fullShare} arg6.view.rep x4) ∗ (arg7.view.loc c ↦[arg7.view.set]{fullShare} arg7.view.rep x5) ∗ (arg8.view.loc c ↦[arg8.view.set]{fullShare} arg8.view.rep x6) ∗ (arg9.view.loc c ↦[arg9.view.set]{fullShare} arg9.view.rep x7) ∗ (arg10.view.loc c ↦[arg10.view.set]{fullShare} arg10.view.rep x8) ∗ (arg11.view.loc c ↦[arg11.view.set]{fullShare} arg11.view.rep x9) ∗ (arg12.view.loc c ↦[arg12.view.set]{fullShare} arg12.view.rep x10) ∗ (arg13.view.loc c ↦[arg13.view.set]{fullShare} arg13.view.rep x11) ∗ owns c arg14 fullShare (k0_pay2 i x0 x1 x3 x4) ∗ owns c arg15 fullShare (k0_pay9 (tile i x0 x1 x3 x4) (wq x5)) ∗ owns c arg16 fullShare (k0_pay10 (tile i x0 x1 x3 x4) (wk x5)) ∗ owns c arg17 fullShare (k0_pay11 (tile i x0 x1 x3 x4) (wv x5)) ∗ owns c arg18 fullShare (k0_pay12 (k0_pay8 (tile i x0 x1 x3 x4)) (wr x5)) ∗ owns c arg19 fullShare (k0_pay13 (k0_pay8 (tile i x0 x1 x3 x4)) (wg x5)) ∗ owns c arg20 fullShare (low (tile i x0 x1 x3 x4) (k0_pay4 x2) x8 x9 x10 x11) ∗ owns c arg21 fullShare (k0_pay15 (k0_pay14 (k0_pay8 (tile i x0 x1 x3 x4)) x6 x7)) ∗ owns c arg22 fullShare (k0_pay5 x2 (wr x5)) ∗ (∃ xb, ⌜scC.view.read (Elt Ideal) xb = carry (tile i x0 x1 x3 x4)⌝ ∗ (scC.view.loc c ↦{fullShare} xb))) -∗ K ⟨⟩))
    ⊢ wp frame (wpE (defs₀ (F := Ideal)) Variants.none c none) Set.univ (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 scC (Memref.isWhole_whole _)) K := by
  unfold owns
  rw [cc0_inproj_eq_skeleton]
  unfold cc0_inproj_skel
  iintro ⟨H0, H1, H2, H3, H4, H5, H6, H7, H8, H9, H10, H11, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, HS, Hk⟩
  have hS : scC.IsWhole := Memref.isWhole_whole _
  sl_exec (disch := first
    | (guard_target = k0_cond1 _ = _; exact hc)
    | (guard_target = ¬ (k0_cond1 _ = _); exact hc))
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _; isplitr; swap
    · iexact H12
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H13]
  · iexists _; isplitr; swap
    · iexact H13
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H14]
  · iexists _; isplitr; swap
    · iexact H14
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H15]
  · iexists _; isplitr; swap
    · iexact H15
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H16]
  · iexists _; isplitr; swap
    · iexact H16
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H17]
  · iexists _; isplitr; swap
    · iexact H17
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H18]
  · iexists _; isplitr; swap
    · iexact H18
    · ipureintro; clear * -
      refine (View.read_writes_eq_canon _ _ _ (fun y => low_cover _ _ _ y)).trans ?_
      (try delta run_first.sl.r_4); (try delta run_first.sl.r_3); (try delta run_first.sl.r_2); (try delta run_first.sl.r_1); (try delta run_first.sl.r); (try delta run_first.sl.v35); (repeat rw [View.readAt_rep_full])
      delta run_first.sl.v38
      delta run_first.sl.HS_1
      rw [View.readCov_full, View.readAt_rep_full]
      rfl
  isplitl [H19]
  · iexists _; isplitr; swap
    · iexact H19
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  isplitl [H20]
  · iexists _; isplitr; swap
    · iexact H20
    · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)
  iexists _; isplitr; swap
  · iexact HS
  · ipureintro; refine (View.read_writes_full _ _ _ _ _).trans ?_; clear * -; (try delta run_first.sl.r_4); (try delta run_first.sl.r_3); (try delta run_first.sl.r_2); (try delta run_first.sl.r_1); (try delta run_first.sl.r); (try delta run_first.sl.v35); (repeat rw [View.readAt_rep_full]); first | done | ((try rw [View.readAt_rep]); with_reducible rfl) | ((try rw [View.readAt_rep]); unfold tile; rfl) | ((try rw [View.readAt_rep]); unfold wr; rfl)

set_option maxHeartbeats 8000000 in
/-- A later tile: the row before it is the one carried. -/
theorem run_next (i : grid0.Coords) (arg2 : Memref sig .tc .vmem S1x344x1024 .f32) (harg2 : arg2.IsWhole) (arg3 : Memref sig .tc .vmem S16x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5120 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S3x1024 .f32) (harg10 : arg10.IsWhole) (arg11 : Memref sig .tc .vmem S1024x64 .bf16) (harg11 : arg11.IsWhole) (arg12 : Memref sig .tc .vmem S1024x64 .bf16) (harg12 : arg12.IsWhole) (arg13 : Memref sig .tc .vmem S1024x128 .bf16) (harg13 : arg13.IsWhole) (arg14 : Memref sig .tc .vmem S1x344x1024 .f32) (harg14 : arg14.IsWhole) (arg15 : Memref sig .tc .vmem S1x344x512 .bf16) (harg15 : arg15.IsWhole) (arg16 : Memref sig .tc .vmem S1x344x512 .f32) (harg16 : arg16.IsWhole) (arg17 : Memref sig .tc .vmem S1x344x512 .f32) (harg17 : arg17.IsWhole) (arg18 : Memref sig .tc .vmem S1x344x1536 .bf16) (harg18 : arg18.IsWhole) (arg19 : Memref sig .tc .vmem S1x344x2048 .bf16) (harg19 : arg19.IsWhole) (arg20 : Memref sig .tc .vmem S1x344x256 .f32) (harg20 : arg20.IsWhole) (arg21 : Memref sig .tc .vmem S1x344x128 .f32) (harg21 : arg21.IsWhole) (arg22 : Memref sig .tc .vmem S1x1x1536 .f32) (harg22 : arg22.IsWhole) (x0 : Vec Ideal S1x344x1024 .f32) (x1 : Vec Ideal S16x1024 .f32) (x2 : Vec Ideal S1x1x1024 .f32) (x3 : Vec Ideal S1x1024 .f32) (x4 : Vec Ideal S1x1024 .f32) (x5 : Vec Ideal S1024x5120 .bf16) (x6 : Vec Ideal S1024x128 .bf16) (x7 : Vec Ideal S1x128 .f32) (x8 : Vec Ideal S3x1024 .f32) (x9 : Vec Ideal S1024x64 .bf16) (x10 : Vec Ideal S1024x64 .bf16) (x11 : Vec Ideal S1024x128 .bf16) (d20 : Vec Ideal S1x1x1536 .f32) (xa : Buf (Elt Ideal) (scC.view.loc (c : Thread nD τ))) (hc : ¬ (k0_cond1 i = 1#1)) (K : PUnit → sProp 𝕄) :
    iprop((arg2.view.loc c ↦[arg2.view.set]{fullShare} arg2.view.rep x0) ∗ (arg3.view.loc c ↦[arg3.view.set]{fullShare} arg3.view.rep x1) ∗ (arg4.view.loc c ↦[arg4.view.set]{fullShare} arg4.view.rep x2) ∗ (arg5.view.loc c ↦[arg5.view.set]{fullShare} arg5.view.rep x3) ∗ (arg6.view.loc c ↦[arg6.view.set]{fullShare} arg6.view.rep x4) ∗ (arg7.view.loc c ↦[arg7.view.set]{fullShare} arg7.view.rep x5) ∗ (arg8.view.loc c ↦[arg8.view.set]{fullShare} arg8.view.rep x6) ∗ (arg9.view.loc c ↦[arg9.view.set]{fullShare} arg9.view.rep x7) ∗ (arg10.view.loc c ↦[arg10.view.set]{fullShare} arg10.view.rep x8) ∗ (arg11.view.loc c ↦[arg11.view.set]{fullShare} arg11.view.rep x9) ∗ (arg12.view.loc c ↦[arg12.view.set]{fullShare} arg12.view.rep x10) ∗ (arg13.view.loc c ↦[arg13.view.set]{fullShare} arg13.view.rep x11) ∗ (∃ d, owns c arg14 fullShare d) ∗ (∃ d, owns c arg15 fullShare d) ∗ (∃ d, owns c arg16 fullShare d) ∗ (∃ d, owns c arg17 fullShare d) ∗ (∃ d, owns c arg18 fullShare d) ∗ (∃ d, owns c arg19 fullShare d) ∗ (∃ d, owns c arg20 fullShare d) ∗ (∃ d, owns c arg21 fullShare d) ∗ owns c arg22 fullShare d20 ∗ (scC.view.loc c ↦{fullShare} xa) ∗
      (iprop((arg2.view.loc c ↦[arg2.view.set]{fullShare} arg2.view.rep x0) ∗ (arg3.view.loc c ↦[arg3.view.set]{fullShare} arg3.view.rep x1) ∗ (arg4.view.loc c ↦[arg4.view.set]{fullShare} arg4.view.rep x2) ∗ (arg5.view.loc c ↦[arg5.view.set]{fullShare} arg5.view.rep x3) ∗ (arg6.view.loc c ↦[arg6.view.set]{fullShare} arg6.view.rep x4) ∗ (arg7.view.loc c ↦[arg7.view.set]{fullShare} arg7.view.rep x5) ∗ (arg8.view.loc c ↦[arg8.view.set]{fullShare} arg8.view.rep x6) ∗ (arg9.view.loc c ↦[arg9.view.set]{fullShare} arg9.view.rep x7) ∗ (arg10.view.loc c ↦[arg10.view.set]{fullShare} arg10.view.rep x8) ∗ (arg11.view.loc c ↦[arg11.view.set]{fullShare} arg11.view.rep x9) ∗ (arg12.view.loc c ↦[arg12.view.set]{fullShare} arg12.view.rep x10) ∗ (arg13.view.loc c ↦[arg13.view.set]{fullShare} arg13.view.rep x11) ∗ owns c arg14 fullShare (k0_pay2 i x0 x1 x3 x4) ∗ owns c arg15 fullShare (k0_pay9 (tile i x0 x1 x3 x4) (wq x5)) ∗ owns c arg16 fullShare (k0_pay10 (tile i x0 x1 x3 x4) (wk x5)) ∗ owns c arg17 fullShare (k0_pay11 (tile i x0 x1 x3 x4) (wv x5)) ∗ owns c arg18 fullShare (k0_pay12 (k0_pay8 (tile i x0 x1 x3 x4)) (wr x5)) ∗ owns c arg19 fullShare (k0_pay13 (k0_pay8 (tile i x0 x1 x3 x4)) (wg x5)) ∗ owns c arg20 fullShare (low (tile i x0 x1 x3 x4) (scC.view.read (Elt Ideal) xa) x8 x9 x10 x11) ∗ owns c arg21 fullShare (k0_pay15 (k0_pay14 (k0_pay8 (tile i x0 x1 x3 x4)) x6 x7)) ∗ owns c arg22 fullShare d20 ∗ (∃ xb, ⌜scC.view.read (Elt Ideal) xb = carry (tile i x0 x1 x3 x4)⌝ ∗ (scC.view.loc c ↦{fullShare} xb))) -∗ K ⟨⟩))
    ⊢ wp frame (wpE (defs₀ (F := Ideal)) Variants.none c none) Set.univ (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 scC (Memref.isWhole_whole _)) K := by
  unfold owns
  rw [cc0_inproj_eq_skeleton]
  unfold cc0_inproj_skel
  iintro ⟨H0, H1, H2, H3, H4, H5, H6, H7, H8, H9, H10, H11, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f20, %e20, H20⟩, HS, Hk⟩
  have hS : scC.IsWhole := Memref.isWhole_whole _
  sl_exec (disch := first
    | (guard_target = k0_cond1 _ = _; exact hc)
    | (guard_target = ¬ (k0_cond1 _ = _); exact hc))
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _; isplitr; swap
    · iexact H12
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H13]
  · iexists _; isplitr; swap
    · iexact H13
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H14]
  · iexists _; isplitr; swap
    · iexact H14
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H15]
  · iexists _; isplitr; swap
    · iexact H15
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H16]
  · iexists _; isplitr; swap
    · iexact H16
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H17]
  · iexists _; isplitr; swap
    · iexact H17
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H18]
  · iexists _; isplitr; swap
    · iexact H18
    · ipureintro; clear * -
      refine (View.read_writes_eq_canon _ _ _ (fun y => low_cover _ _ _ y)).trans ?_
      (try delta run_next.sl.r_4); (try delta run_next.sl.r_3); (try delta run_next.sl.r_2); (try delta run_next.sl.r_1); (try delta run_next.sl.r); (try delta run_next.sl.v35); (repeat rw [View.readAt_rep_full])
      rw [View.readAt_full]
      rfl
  isplitl [H19]
  · iexists _; isplitr; swap
    · iexact H19
    · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)
  isplitl [H20]
  · iexists _; isplitr; swap
    · iexact H20
    · ipureintro; exact e20
  iexists _; isplitr; swap
  · iexact HS
  · ipureintro; refine (View.read_writes_full _ _ _ _ _).trans ?_; clear * -; (try delta run_next.sl.r_4); (try delta run_next.sl.r_3); (try delta run_next.sl.r_2); (try delta run_next.sl.r_1); (try delta run_next.sl.r); (try delta run_next.sl.v35); (repeat rw [View.readAt_rep_full]); first | done | ((try rw [View.readAt_rep]); with_reducible rfl) | ((try rw [View.readAt_rep]); unfold tile; rfl) | ((try rw [View.readAt_rep]); unfold wr; rfl)

end Cert.Kernel2Ideal.Inproj

end
-- ==== Proof.InprojIdeal.Frame.lean ====
module

public import proofs.«01_k».proof.Proof.InprojIdeal.Body
public import Idealize.ShloMosaic.Lib.Pipeline.Quiescent
public import Idealize.ShloMosaic.Lib.Pipeline.KitQuiescent
public import Idealize.ShloMosaic.Lib.Pipeline.TableIdle

@[expose] public section

set_option maxRecDepth 16384
set_option Elab.async false
set_option backward.proofsInPublic true

noncomputable section

namespace Cert.Kernel2Ideal.Inproj

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (m : (ℓ : Loc nD τ sig) → Buf (Elt Ideal) ℓ) (ρ : Dev nD → PrngReg)

/-! ## A step's blocks and staging buffers -/

abbrev crd (t : Fin cfg0.N) : grid0.Coords := grid0.coords t

/-- Window `w`'s block at step `t`, read off its array at launch. -/
def iblk (c : Dev nD) (w : Fin cfg0.W) (t : Fin cfg0.N) : ((cfg0.win w).xblock (cfg0.grid.coords t)).Idx → Elt Ideal (cfg0.win w).elt :=
  ((cfg0.win w).blk t).view.read (Elt Ideal) (m ((cfg0.win w).arr.view.loc (c : Thread nD τ)))

abbrev ms0 (t : Fin cfg0.N) : Memref sig .tc .vmem S1x344x1024 .f32 := win0_0.stage (cfg0.slots t (0 : Fin 21))
abbrev hs0 (t : Fin cfg0.N) : (ms0 t).IsWhole := hstage0_0 ((cfg0.slots t (0 : Fin 21)).cast nbuf0_0)
abbrev ms1 (t : Fin cfg0.N) : Memref sig .tc .vmem S16x1024 .f32 := win0_1.stage (cfg0.slots t (1 : Fin 21))
abbrev hs1 (t : Fin cfg0.N) : (ms1 t).IsWhole := hstage0_1 ((cfg0.slots t (1 : Fin 21)).cast nbuf0_1)
abbrev ms2 (t : Fin cfg0.N) : Memref sig .tc .vmem S1x1x1024 .f32 := win0_2.stage (cfg0.slots t (2 : Fin 21))
abbrev hs2 (t : Fin cfg0.N) : (ms2 t).IsWhole := hstage0_2 ((cfg0.slots t (2 : Fin 21)).cast nbuf0_2)
abbrev ms3 (t : Fin cfg0.N) : Memref sig .tc .vmem S1x1024 .f32 := win0_3.stage (cfg0.slots t (3 : Fin 21))
abbrev hs3 (t : Fin cfg0.N) : (ms3 t).IsWhole := hstage0_3 ((cfg0.slots t (3 : Fin 21)).cast nbuf0_3)
abbrev ms4 (t : Fin cfg0.N) : Memref sig .tc .vmem S1x1024 .f32 := win0_4.stage (cfg0.slots t (4 : Fin 21))
abbrev hs4 (t : Fin cfg0.N) : (ms4 t).IsWhole := hstage0_4 ((cfg0.slots t (4 : Fin 21)).cast nbuf0_4)
abbrev ms5 (t : Fin cfg0.N) : Memref sig .tc .vmem S1024x5120 .bf16 := win0_5.stage (cfg0.slots t (5 : Fin 21))
abbrev hs5 (t : Fin cfg0.N) : (ms5 t).IsWhole := hstage0_5 ((cfg0.slots t (5 : Fin 21)).cast nbuf0_5)
abbrev ms6 (t : Fin cfg0.N) : Memref sig .tc .vmem S1024x128 .bf16 := win0_6.stage (cfg0.slots t (6 : Fin 21))
abbrev hs6 (t : Fin cfg0.N) : (ms6 t).IsWhole := hstage0_6 ((cfg0.slots t (6 : Fin 21)).cast nbuf0_6)
abbrev ms7 (t : Fin cfg0.N) : Memref sig .tc .vmem S1x128 .f32 := win0_7.stage (cfg0.slots t (7 : Fin 21))
abbrev hs7 (t : Fin cfg0.N) : (ms7 t).IsWhole := hstage0_7 ((cfg0.slots t (7 : Fin 21)).cast nbuf0_7)
abbrev ms8 (t : Fin cfg0.N) : Memref sig .tc .vmem S3x1024 .f32 := win0_8.stage (cfg0.slots t (8 : Fin 21))
abbrev hs8 (t : Fin cfg0.N) : (ms8 t).IsWhole := hstage0_8 ((cfg0.slots t (8 : Fin 21)).cast nbuf0_8)
abbrev ms9 (t : Fin cfg0.N) : Memref sig .tc .vmem S1024x64 .bf16 := win0_9.stage (cfg0.slots t (9 : Fin 21))
abbrev hs9 (t : Fin cfg0.N) : (ms9 t).IsWhole := hstage0_9 ((cfg0.slots t (9 : Fin 21)).cast nbuf0_9)
abbrev ms10 (t : Fin cfg0.N) : Memref sig .tc .vmem S1024x64 .bf16 := win0_10.stage (cfg0.slots t (10 : Fin 21))
abbrev hs10 (t : Fin cfg0.N) : (ms10 t).IsWhole := hstage0_10 ((cfg0.slots t (10 : Fin 21)).cast nbuf0_10)
abbrev ms11 (t : Fin cfg0.N) : Memref sig .tc .vmem S1024x128 .bf16 := win0_11.stage (cfg0.slots t (11 : Fin 21))
abbrev hs11 (t : Fin cfg0.N) : (ms11 t).IsWhole := hstage0_11 ((cfg0.slots t (11 : Fin 21)).cast nbuf0_11)
abbrev ms12 (t : Fin cfg0.N) : Memref sig .tc .vmem S1x344x1024 .f32 := win0_12.stage (cfg0.slots t (12 : Fin 21))
abbrev hs12 (t : Fin cfg0.N) : (ms12 t).IsWhole := hstage0_12 ((cfg0.slots t (12 : Fin 21)).cast nbuf0_12)
abbrev ms13 (t : Fin cfg0.N) : Memref sig .tc .vmem S1x344x512 .bf16 := win0_13.stage (cfg0.slots t (13 : Fin 21))
abbrev hs13 (t : Fin cfg0.N) : (ms13 t).IsWhole := hstage0_13 ((cfg0.slots t (13 : Fin 21)).cast nbuf0_13)
abbrev ms14 (t : Fin cfg0.N) : Memref sig .tc .vmem S1x344x512 .f32 := win0_14.stage (cfg0.slots t (14 : Fin 21))
abbrev hs14 (t : Fin cfg0.N) : (ms14 t).IsWhole := hstage0_14 ((cfg0.slots t (14 : Fin 21)).cast nbuf0_14)
abbrev ms15 (t : Fin cfg0.N) : Memref sig .tc .vmem S1x344x512 .f32 := win0_15.stage (cfg0.slots t (15 : Fin 21))
abbrev hs15 (t : Fin cfg0.N) : (ms15 t).IsWhole := hstage0_15 ((cfg0.slots t (15 : Fin 21)).cast nbuf0_15)
abbrev ms16 (t : Fin cfg0.N) : Memref sig .tc .vmem S1x344x1536 .bf16 := win0_16.stage (cfg0.slots t (16 : Fin 21))
abbrev hs16 (t : Fin cfg0.N) : (ms16 t).IsWhole := hstage0_16 ((cfg0.slots t (16 : Fin 21)).cast nbuf0_16)
abbrev ms17 (t : Fin cfg0.N) : Memref sig .tc .vmem S1x344x2048 .bf16 := win0_17.stage (cfg0.slots t (17 : Fin 21))
abbrev hs17 (t : Fin cfg0.N) : (ms17 t).IsWhole := hstage0_17 ((cfg0.slots t (17 : Fin 21)).cast nbuf0_17)
abbrev ms18 (t : Fin cfg0.N) : Memref sig .tc .vmem S1x344x256 .f32 := win0_18.stage (cfg0.slots t (18 : Fin 21))
abbrev hs18 (t : Fin cfg0.N) : (ms18 t).IsWhole := hstage0_18 ((cfg0.slots t (18 : Fin 21)).cast nbuf0_18)
abbrev ms19 (t : Fin cfg0.N) : Memref sig .tc .vmem S1x344x128 .f32 := win0_19.stage (cfg0.slots t (19 : Fin 21))
abbrev hs19 (t : Fin cfg0.N) : (ms19 t).IsWhole := hstage0_19 ((cfg0.slots t (19 : Fin 21)).cast nbuf0_19)
abbrev ms20 (t : Fin cfg0.N) : Memref sig .tc .vmem S1x1x1536 .f32 := win0_20.stage (cfg0.slots t (20 : Fin 21))
abbrev hs20 (t : Fin cfg0.N) : (ms20 t).IsWhole := hstage0_20 ((cfg0.slots t (20 : Fin 21)).cast nbuf0_20)
abbrev b0 (c : Dev nD) (t : Fin cfg0.N) : Vec Ideal S1x344x1024 .f32 := iblk m c (0 : Fin 21) t
abbrev b1 (c : Dev nD) (t : Fin cfg0.N) : Vec Ideal S16x1024 .f32 := iblk m c (1 : Fin 21) t
abbrev b2 (c : Dev nD) (t : Fin cfg0.N) : Vec Ideal S1x1x1024 .f32 := iblk m c (2 : Fin 21) t
abbrev b3 (c : Dev nD) (t : Fin cfg0.N) : Vec Ideal S1x1024 .f32 := iblk m c (3 : Fin 21) t
abbrev b4 (c : Dev nD) (t : Fin cfg0.N) : Vec Ideal S1x1024 .f32 := iblk m c (4 : Fin 21) t
abbrev b5 (c : Dev nD) (t : Fin cfg0.N) : Vec Ideal S1024x5120 .bf16 := iblk m c (5 : Fin 21) t
abbrev b6 (c : Dev nD) (t : Fin cfg0.N) : Vec Ideal S1024x128 .bf16 := iblk m c (6 : Fin 21) t
abbrev b7 (c : Dev nD) (t : Fin cfg0.N) : Vec Ideal S1x128 .f32 := iblk m c (7 : Fin 21) t
abbrev b8 (c : Dev nD) (t : Fin cfg0.N) : Vec Ideal S3x1024 .f32 := iblk m c (8 : Fin 21) t
abbrev b9 (c : Dev nD) (t : Fin cfg0.N) : Vec Ideal S1024x64 .bf16 := iblk m c (9 : Fin 21) t
abbrev b10 (c : Dev nD) (t : Fin cfg0.N) : Vec Ideal S1024x64 .bf16 := iblk m c (10 : Fin 21) t
abbrev b11 (c : Dev nD) (t : Fin cfg0.N) : Vec Ideal S1024x128 .bf16 := iblk m c (11 : Fin 21) t

/-! ## The schedule -/

theorem N_lt (t : Fin cfg0.N) : t.val < 96 := lt_of_lt_of_le t.isLt (le_of_eq N_0)

theorem crd_stream (t : Fin cfg0.N) : ((crd t) 0).val = t.val / 6 := by
  have h : ∀ t : Fin grid0.N, ((grid0.coords t) 0).val = t.val / 6 := by decide +kernel
  exact h t
theorem crd_tile (t : Fin cfg0.N) : ((crd t) 1).val = t.val % 6 := by
  have h : ∀ t : Fin grid0.N, ((grid0.coords t) 1).val = t.val % 6 := by decide +kernel
  exact h t
/-- The first tile of a stream is where the row before it is taken from the input. -/
theorem cond_iff (t : Fin cfg0.N) : k0_cond1 (crd t) = 1#1 ↔ t.val % 6 = 0 := by
  have h : ∀ t : Fin grid0.N, k0_cond1 (grid0.coords t) = 1#1 ↔ t.val % 6 = 0 := by decide +kernel
  exact h t
/-- The projected row before a stream is staged from the stream's first tile on. -/
theorem fresh_20 (t : Fin cfg0.N) : cfg0.fresh (20 : Fin 21) t.val = decide (t.val % 6 = 0) := by
  have h : ∀ t : Fin grid0.N, cfg0.fresh (20 : Fin 21) t.val = decide (t.val % 6 = 0) := by decide +kernel
  exact h t

/-- A stream's tiles see one row before the stream. -/
theorem b2_congr (c : Dev nD) {t t' : Fin cfg0.N} (h : (crd t) 0 = (crd t') 0) : b2 m c t = b2 m c t' := by
  funext y
  show iblk m c (2 : Fin 21) t y = iblk m c (2 : Fin 21) t' y
  unfold iblk
  refine congrArg (m ((c : Thread nD τ).loc main_arg2) : S16x1x1024.Idx → Elt Ideal .f32) (funext fun d => ?_)
  match d with
  | ⟨0, _⟩ =>
    refine Fin.ext ?_
    show (BitVec.ofNat 32 ((crd t) 0).val).toNat * 1 + 1 * (y 0).val = (BitVec.ofNat 32 ((crd t') 0).val).toNat * 1 + 1 * (y 0).val
    rw [h]
  | ⟨1, _⟩ => rfl
  | ⟨2, _⟩ => rfl
theorem b5_congr (c : Dev nD) (t t' : Fin cfg0.N) : b5 m c t = b5 m c t' := rfl

/-! ## What a step leaves -/

def tl (c : Dev nD) (t : Fin cfg0.N) : FVec Ideal S344x1024 .f32 := tile (crd t) (b0 m c t) (b1 m c t) (b3 m c t) (b4 m c t)
/-- The row before a tile. -/
def rowBefore (c : Dev nD) (t : Fin cfg0.N) : Vec Ideal S1x1024 .f32 :=
  if t.val % 6 = 0 then k0_pay4 (b2 m c t) else carry (tl m c ⟨t.val - 1, lt_of_le_of_lt (Nat.sub_le _ _) t.isLt⟩)

def o12 (c : Dev nD) (t : Fin cfg0.N) : Vec Ideal S1x344x1024 .f32 := k0_pay2 (crd t) (b0 m c t) (b1 m c t) (b3 m c t) (b4 m c t)
def o13 (c : Dev nD) (t : Fin cfg0.N) : Vec Ideal S1x344x512 .bf16 := k0_pay9 (tl m c t) (wq (b5 m c t))
def o14 (c : Dev nD) (t : Fin cfg0.N) : Vec Ideal S1x344x512 .f32 := k0_pay10 (tl m c t) (wk (b5 m c t))
def o15 (c : Dev nD) (t : Fin cfg0.N) : Vec Ideal S1x344x512 .f32 := k0_pay11 (tl m c t) (wv (b5 m c t))
def o16 (c : Dev nD) (t : Fin cfg0.N) : Vec Ideal S1x344x1536 .bf16 := k0_pay12 (k0_pay8 (tl m c t)) (wr (b5 m c t))
def o17 (c : Dev nD) (t : Fin cfg0.N) : Vec Ideal S1x344x2048 .bf16 := k0_pay13 (k0_pay8 (tl m c t)) (wg (b5 m c t))
@[irreducible] def o18 (c : Dev nD) (t : Fin cfg0.N) : Vec Ideal S1x344x256 .f32 := low (tl m c t) (rowBefore m c t) (b8 m c t) (b9 m c t) (b10 m c t) (b11 m c t)
def o19 (c : Dev nD) (t : Fin cfg0.N) : Vec Ideal S1x344x128 .f32 := k0_pay15 (k0_pay14 (k0_pay8 (tl m c t)) (b6 m c t) (b7 m c t))
def o20 (c : Dev nD) (t : Fin cfg0.N) : Vec Ideal S1x1x1536 .f32 := k0_pay5 (b2 m c t) (wr (b5 m c t))

/-- Between steps the scratch holds the last row of the tile before. -/
def Phi (c : Dev nD) (k : Fin (cfg0.N + 1)) : sProp 𝕄 :=
  iprop(∃ b : Buf (Elt Ideal) (scC.view.loc (c : Thread nD τ)),
    ⌜∀ s : Fin cfg0.N, s.val + 1 = k.val → scC.view.read (Elt Ideal) b = carry (tl m c s)⌝ ∗ (scC.view.loc (c : Thread nD τ) ↦{fullShare} b))

/-- The proof data of the pipeline. -/
def dats (_ : Fin 1) (c : Dev nD) : Dat τ (Elt Ideal) Unit ℕ (UR sig nD τ) ℕ cfg0 c where
  A w := m ((cfg0.win w).arr.view.loc (c : Thread nD τ))
  after w t := match w with
    | ⟨0, _⟩ => iblk m c (0 : Fin 21) t
    | ⟨1, _⟩ => iblk m c (1 : Fin 21) t
    | ⟨2, _⟩ => iblk m c (2 : Fin 21) t
    | ⟨3, _⟩ => iblk m c (3 : Fin 21) t
    | ⟨4, _⟩ => iblk m c (4 : Fin 21) t
    | ⟨5, _⟩ => iblk m c (5 : Fin 21) t
    | ⟨6, _⟩ => iblk m c (6 : Fin 21) t
    | ⟨7, _⟩ => iblk m c (7 : Fin 21) t
    | ⟨8, _⟩ => iblk m c (8 : Fin 21) t
    | ⟨9, _⟩ => iblk m c (9 : Fin 21) t
    | ⟨10, _⟩ => iblk m c (10 : Fin 21) t
    | ⟨11, _⟩ => iblk m c (11 : Fin 21) t
    | ⟨12, _⟩ => o12 m c t
    | ⟨13, _⟩ => o13 m c t
    | ⟨14, _⟩ => o14 m c t
    | ⟨15, _⟩ => o15 m c t
    | ⟨16, _⟩ => o16 m c t
    | ⟨17, _⟩ => o17 m c t
    | ⟨18, _⟩ => o18 m c t
    | ⟨19, _⟩ => o19 m c t
    | ⟨20, _⟩ => o20 m c t
    | ⟨_ + 21, h⟩ => absurd h (Nat.not_lt.2 (Nat.le_add_left _ _))
  Φ t := Phi m c t
  q _ := fullShare
  owed _ := 0

theorem after_0 (c : Dev nD) (t : Fin cfg0.N) : (dats m 0 c).after (0 : Fin 21) t = iblk m c (0 : Fin 21) t := rfl
theorem after_1 (c : Dev nD) (t : Fin cfg0.N) : (dats m 0 c).after (1 : Fin 21) t = iblk m c (1 : Fin 21) t := rfl
theorem after_2 (c : Dev nD) (t : Fin cfg0.N) : (dats m 0 c).after (2 : Fin 21) t = iblk m c (2 : Fin 21) t := rfl
theorem after_3 (c : Dev nD) (t : Fin cfg0.N) : (dats m 0 c).after (3 : Fin 21) t = iblk m c (3 : Fin 21) t := rfl
theorem after_4 (c : Dev nD) (t : Fin cfg0.N) : (dats m 0 c).after (4 : Fin 21) t = iblk m c (4 : Fin 21) t := rfl
theorem after_5 (c : Dev nD) (t : Fin cfg0.N) : (dats m 0 c).after (5 : Fin 21) t = iblk m c (5 : Fin 21) t := rfl
theorem after_6 (c : Dev nD) (t : Fin cfg0.N) : (dats m 0 c).after (6 : Fin 21) t = iblk m c (6 : Fin 21) t := rfl
theorem after_7 (c : Dev nD) (t : Fin cfg0.N) : (dats m 0 c).after (7 : Fin 21) t = iblk m c (7 : Fin 21) t := rfl
theorem after_8 (c : Dev nD) (t : Fin cfg0.N) : (dats m 0 c).after (8 : Fin 21) t = iblk m c (8 : Fin 21) t := rfl
theorem after_9 (c : Dev nD) (t : Fin cfg0.N) : (dats m 0 c).after (9 : Fin 21) t = iblk m c (9 : Fin 21) t := rfl
theorem after_10 (c : Dev nD) (t : Fin cfg0.N) : (dats m 0 c).after (10 : Fin 21) t = iblk m c (10 : Fin 21) t := rfl
theorem after_11 (c : Dev nD) (t : Fin cfg0.N) : (dats m 0 c).after (11 : Fin 21) t = iblk m c (11 : Fin 21) t := rfl
theorem after_12 (c : Dev nD) (t : Fin cfg0.N) : (dats m 0 c).after (12 : Fin 21) t = o12 m c t := rfl
theorem after_13 (c : Dev nD) (t : Fin cfg0.N) : (dats m 0 c).after (13 : Fin 21) t = o13 m c t := rfl
theorem after_14 (c : Dev nD) (t : Fin cfg0.N) : (dats m 0 c).after (14 : Fin 21) t = o14 m c t := rfl
theorem after_15 (c : Dev nD) (t : Fin cfg0.N) : (dats m 0 c).after (15 : Fin 21) t = o15 m c t := rfl
theorem after_16 (c : Dev nD) (t : Fin cfg0.N) : (dats m 0 c).after (16 : Fin 21) t = o16 m c t := rfl
theorem after_17 (c : Dev nD) (t : Fin cfg0.N) : (dats m 0 c).after (17 : Fin 21) t = o17 m c t := rfl
theorem after_18 (c : Dev nD) (t : Fin cfg0.N) : (dats m 0 c).after (18 : Fin 21) t = o18 m c t := rfl
theorem after_19 (c : Dev nD) (t : Fin cfg0.N) : (dats m 0 c).after (19 : Fin 21) t = o19 m c t := rfl
theorem after_20 (c : Dev nD) (t : Fin cfg0.N) : (dats m 0 c).after (20 : Fin 21) t = o20 m c t := rfl
theorem before_0 (c : Dev nD) (t : Fin cfg0.N) (d) : (dats m 0 c).before (0 : Fin 21) t d = iblk m c (0 : Fin 21) t :=
  ((dats m 0 c).before_in_eq_fetched (0 : Fin 21) rfl (fun _ => rfl) (fun _ _ _ => rfl)
    (fun t => by rw [after_0]; unfold Dat.blockOf iblk; rfl) t d).trans (by unfold Dat.fetched Dat.blockOf iblk; rfl)
theorem before_1 (c : Dev nD) (t : Fin cfg0.N) (d) : (dats m 0 c).before (1 : Fin 21) t d = iblk m c (1 : Fin 21) t :=
  ((dats m 0 c).before_in_eq_fetched (1 : Fin 21) rfl (fun _ => rfl) (fun _ _ _ => rfl)
    (fun t => by rw [after_1]; unfold Dat.blockOf iblk; rfl) t d).trans (by unfold Dat.fetched Dat.blockOf iblk; rfl)
theorem before_2 (c : Dev nD) (t : Fin cfg0.N) (d) : (dats m 0 c).before (2 : Fin 21) t d = iblk m c (2 : Fin 21) t :=
  ((dats m 0 c).before_in_eq_fetched (2 : Fin 21) rfl (fun _ => rfl) (fun _ _ _ => rfl)
    (fun t => by rw [after_2]; unfold Dat.blockOf iblk; rfl) t d).trans (by unfold Dat.fetched Dat.blockOf iblk; rfl)
theorem before_3 (c : Dev nD) (t : Fin cfg0.N) (d) : (dats m 0 c).before (3 : Fin 21) t d = iblk m c (3 : Fin 21) t :=
  ((dats m 0 c).before_in_eq_fetched (3 : Fin 21) rfl (fun _ => rfl) (fun _ _ _ => rfl)
    (fun t => by rw [after_3]; unfold Dat.blockOf iblk; rfl) t d).trans (by unfold Dat.fetched Dat.blockOf iblk; rfl)
theorem before_4 (c : Dev nD) (t : Fin cfg0.N) (d) : (dats m 0 c).before (4 : Fin 21) t d = iblk m c (4 : Fin 21) t :=
  ((dats m 0 c).before_in_eq_fetched (4 : Fin 21) rfl (fun _ => rfl) (fun _ _ _ => rfl)
    (fun t => by rw [after_4]; unfold Dat.blockOf iblk; rfl) t d).trans (by unfold Dat.fetched Dat.blockOf iblk; rfl)
theorem before_5 (c : Dev nD) (t : Fin cfg0.N) (d) : (dats m 0 c).before (5 : Fin 21) t d = iblk m c (5 : Fin 21) t :=
  ((dats m 0 c).before_in_eq_fetched (5 : Fin 21) rfl (fun _ => rfl) (fun _ _ _ => rfl)
    (fun t => by rw [after_5]; unfold Dat.blockOf iblk; rfl) t d).trans (by unfold Dat.fetched Dat.blockOf iblk; rfl)
theorem before_6 (c : Dev nD) (t : Fin cfg0.N) (d) : (dats m 0 c).before (6 : Fin 21) t d = iblk m c (6 : Fin 21) t :=
  ((dats m 0 c).before_in_eq_fetched (6 : Fin 21) rfl (fun _ => rfl) (fun _ _ _ => rfl)
    (fun t => by rw [after_6]; unfold Dat.blockOf iblk; rfl) t d).trans (by unfold Dat.fetched Dat.blockOf iblk; rfl)
theorem before_7 (c : Dev nD) (t : Fin cfg0.N) (d) : (dats m 0 c).before (7 : Fin 21) t d = iblk m c (7 : Fin 21) t :=
  ((dats m 0 c).before_in_eq_fetched (7 : Fin 21) rfl (fun _ => rfl) (fun _ _ _ => rfl)
    (fun t => by rw [after_7]; unfold Dat.blockOf iblk; rfl) t d).trans (by unfold Dat.fetched Dat.blockOf iblk; rfl)
theorem before_8 (c : Dev nD) (t : Fin cfg0.N) (d) : (dats m 0 c).before (8 : Fin 21) t d = iblk m c (8 : Fin 21) t :=
  ((dats m 0 c).before_in_eq_fetched (8 : Fin 21) rfl (fun _ => rfl) (fun _ _ _ => rfl)
    (fun t => by rw [after_8]; unfold Dat.blockOf iblk; rfl) t d).trans (by unfold Dat.fetched Dat.blockOf iblk; rfl)
theorem before_9 (c : Dev nD) (t : Fin cfg0.N) (d) : (dats m 0 c).before (9 : Fin 21) t d = iblk m c (9 : Fin 21) t :=
  ((dats m 0 c).before_in_eq_fetched (9 : Fin 21) rfl (fun _ => rfl) (fun _ _ _ => rfl)
    (fun t => by rw [after_9]; unfold Dat.blockOf iblk; rfl) t d).trans (by unfold Dat.fetched Dat.blockOf iblk; rfl)
theorem before_10 (c : Dev nD) (t : Fin cfg0.N) (d) : (dats m 0 c).before (10 : Fin 21) t d = iblk m c (10 : Fin 21) t :=
  ((dats m 0 c).before_in_eq_fetched (10 : Fin 21) rfl (fun _ => rfl) (fun _ _ _ => rfl)
    (fun t => by rw [after_10]; unfold Dat.blockOf iblk; rfl) t d).trans (by unfold Dat.fetched Dat.blockOf iblk; rfl)
theorem before_11 (c : Dev nD) (t : Fin cfg0.N) (d) : (dats m 0 c).before (11 : Fin 21) t d = iblk m c (11 : Fin 21) t :=
  ((dats m 0 c).before_in_eq_fetched (11 : Fin 21) rfl (fun _ => rfl) (fun _ _ _ => rfl)
    (fun t => by rw [after_11]; unfold Dat.blockOf iblk; rfl) t d).trans (by unfold Dat.fetched Dat.blockOf iblk; rfl)

/-- The projected row is the same at every tile of a stream. -/
theorem o20_prev (c : Dev nD) (t : Fin cfg0.N) (h : ¬ t.val % 6 = 0) : o20 m c t = o20 m c ⟨t.val - 1, lt_of_le_of_lt (Nat.sub_le _ _) t.isLt⟩ := by
  unfold o20
  rw [b2_congr m c (t := t) (t' := ⟨t.val - 1, lt_of_le_of_lt (Nat.sub_le _ _) t.isLt⟩) (Fin.ext (by rw [crd_stream, crd_stream]; show t.val / 6 = (t.val - 1) / 6; omega))]
  rw [b5_congr m c t ⟨t.val - 1, lt_of_le_of_lt (Nat.sub_le _ _) t.isLt⟩]

theorem idle_20 (t : Fin cfg0.N) : cfg0.idle (20 : Fin 21) (cfg0.grid.coords t) = !(k0_cond1 (crd t) == 1#1) := rfl

/-- At a later tile the projected row is held as the first tile left it. -/
theorem before_20 (c : Dev nD) (t : Fin cfg0.N) (h : ¬ t.val % 6 = 0) (d) : (dats m 0 c).before (20 : Fin 21) t d = o20 m c t := by
  have e := (dats m 0 c).before_out_traj (20 : Fin 21) rfl (fun _ _ => rfl) (fun t ht hi hf => by
    have h6 : ¬ t.val % 6 = 0 := fun h0 => by rw [fresh_20, decide_eq_true h0] at hf; exact absurd hf (by decide)
    rw [after_20, after_20]; exact o20_prev m c t h6) t.val t rfl d
  rw [fresh_20, decide_eq_false h, if_neg (by decide), after_20] at e
  rw [e]; exact (o20_prev m c t h).symm

/-- The body at step `t`, as the pipeline calls it. -/
abbrev bodyAt (t : Fin cfg0.N) : Prog (TpuEff nD τ sig (Elt Ideal) Λ₀ .tc) PUnit :=
  cc0_inproj (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) scC (Memref.isWhole_whole _)

set_option maxHeartbeats 8000000 in
/-- One step: from the invariant and the staged blocks, the body runs and leaves the invariant of the next step. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before (0 : Fin 21) t d))
        ∗ (∃ d, owns (c : Thread nD τ) (ms1 t) fullShare ((dats m 0 c).before (1 : Fin 21) t d))
        ∗ (∃ d, owns (c : Thread nD τ) (ms2 t) fullShare ((dats m 0 c).before (2 : Fin 21) t d))
        ∗ (∃ d, owns (c : Thread nD τ) (ms3 t) fullShare ((dats m 0 c).before (3 : Fin 21) t d))
        ∗ (∃ d, owns (c : Thread nD τ) (ms4 t) fullShare ((dats m 0 c).before (4 : Fin 21) t d))
        ∗ (∃ d, owns (c : Thread nD τ) (ms5 t) fullShare ((dats m 0 c).before (5 : Fin 21) t d))
        ∗ (∃ d, owns (c : Thread nD τ) (ms6 t) fullShare ((dats m 0 c).before (6 : Fin 21) t d))
        ∗ (∃ d, owns (c : Thread nD τ) (ms7 t) fullShare ((dats m 0 c).before (7 : Fin 21) t d))
        ∗ (∃ d, owns (c : Thread nD τ) (ms8 t) fullShare ((dats m 0 c).before (8 : Fin 21) t d))
        ∗ (∃ d, owns (c : Thread nD τ) (ms9 t) fullShare ((dats m 0 c).before (9 : Fin 21) t d))
        ∗ (∃ d, owns (c : Thread nD τ) (ms10 t) fullShare ((dats m 0 c).before (10 : Fin 21) t d))
        ∗ (∃ d, owns (c : Thread nD τ) (ms11 t) fullShare ((dats m 0 c).before (11 : Fin 21) t d))
        ∗ (∃ d, owns (c : Thread nD τ) (ms12 t) fullShare ((dats m 0 c).before (12 : Fin 21) t d))
        ∗ (∃ d, owns (c : Thread nD τ) (ms13 t) fullShare ((dats m 0 c).before (13 : Fin 21) t d))
        ∗ (∃ d, owns (c : Thread nD τ) (ms14 t) fullShare ((dats m 0 c).before (14 : Fin 21) t d))
        ∗ (∃ d, owns (c : Thread nD τ) (ms15 t) fullShare ((dats m 0 c).before (15 : Fin 21) t d))
        ∗ (∃ d, owns (c : Thread nD τ) (ms16 t) fullShare ((dats m 0 c).before (16 : Fin 21) t d))
        ∗ (∃ d, owns (c : Thread nD τ) (ms17 t) fullShare ((dats m 0 c).before (17 : Fin 21) t d))
        ∗ (∃ d, owns (c : Thread nD τ) (ms18 t) fullShare ((dats m 0 c).before (18 : Fin 21) t d))
        ∗ (∃ d, owns (c : Thread nD τ) (ms19 t) fullShare ((dats m 0 c).before (19 : Fin 21) t d))
        ∗ (∃ d, owns (c : Thread nD τ) (ms20 t) fullShare ((dats m 0 c).before (20 : Fin 21) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  rw [bigSep_W0]
  rewrite [idle_20]
  simp only [before_0, before_1, before_2, before_3, before_4, before_5, before_6, before_7, before_8, before_9, before_10, before_11, after_0, after_1, after_2, after_3, after_4, after_5, after_6, after_7, after_8, after_9, after_10, after_11, after_12, after_13, after_14, after_15, after_16, after_17, after_18, after_19, after_20]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  simp only [Fin.val_castSucc, Fin.val_succ]
  iintro ⟨⟨%xa, %hb, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  by_cases h6 : t.val % 6 = 0
  · have hc : k0_cond1 (crd t) = 1#1 := (cond_iff t).2 h6
    rewrite [show (!(k0_cond1 (crd t) == 1#1)) = false from by rw [hc]; rfl]
    iapply (run_first c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (b0 m c t) (b1 m c t) (b2 m c t) (b3 m c t) (b4 m c t) (b5 m c t) (b6 m c t) (b7 m c t) (b8 m c t) (b9 m c t) (b10 m c t) (b11 m c t) xa hc)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iapply rep_of_owns; iexact H10
    isplitl [H11]; · iapply rep_of_owns; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS]; · iexact HS
    iintro ⟨H0, H1, H2, H3, H4, H5, H6, H7, H8, H9, H10, H11, H12, H13, H14, H15, H16, H17, H18, H19, H20, ⟨%xb, %hx, HS⟩⟩
    isplitl [HS]
    · iexists xb; isplitr; swap
      · iexact HS
      · ipureintro; intro s hs; obtain rfl : s = t := Fin.ext (by omega); exact hx
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]; · iapply owns_of_rep; iexact H9
    isplitl [H10]; · iapply owns_of_rep; iexact H10
    isplitl [H11]; · iapply owns_of_rep; iexact H11
    isplitl [H12]; · iexact H12
    isplitl [H13]; · iexact H13
    isplitl [H14]; · iexact H14
    isplitl [H15]; · iexact H15
    isplitl [H16]; · iexact H16
    isplitl [H17]; · iexact H17
    isplitl [H18]
    · rewrite [show o18 m c t = low (tl m c t) (k0_pay4 (b2 m c t)) (b8 m c t) (b9 m c t) (b10 m c t) (b11 m c t) from by unfold o18 rowBefore; rw [if_pos h6]]; iexact H18
    isplitl [H19]; · iexact H19
    iexact H20
  · have hc : ¬ (k0_cond1 (crd t) = 1#1) := fun h => h6 ((cond_iff t).1 h)
    have hcf : (!(k0_cond1 (crd t) == 1#1)) = true := by
      rw [Bool.not_eq_true']; exact beq_eq_false_iff_ne.2 hc
    rewrite [hcf]
    have hrow : scC.view.read (Elt Ideal) xa = rowBefore m c t := by
      unfold rowBefore; rw [if_neg h6]
      exact hb ⟨t.val - 1, lt_of_le_of_lt (Nat.sub_le _ _) t.isLt⟩ (by show t.val - 1 + 1 = t.val; omega)
    iapply (run_next c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (b0 m c t) (b1 m c t) (b2 m c t) (b3 m c t) (b4 m c t) (b5 m c t) (b6 m c t) (b7 m c t) (b8 m c t) (b9 m c t) (b10 m c t) (b11 m c t) ((dats m 0 c).before (20 : Fin 21) t d20) xa hc)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iapply rep_of_owns; iexact H10
    isplitl [H11]; · iapply rep_of_owns; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    isplitl [HS]; · iexact HS
    iintro ⟨H0, H1, H2, H3, H4, H5, H6, H7, H8, H9, H10, H11, H12, H13, H14, H15, H16, H17, H18, H19, H20, ⟨%xb, %hx, HS⟩⟩
    isplitl [HS]
    · iexists xb; isplitr; swap
      · iexact HS
      · ipureintro; intro s hs; obtain rfl : s = t := Fin.ext (by omega); exact hx
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]; · iapply owns_of_rep; iexact H9
    isplitl [H10]; · iapply owns_of_rep; iexact H10
    isplitl [H11]; · iapply owns_of_rep; iexact H11
    isplitl [H12]; · iexact H12
    isplitl [H13]; · iexact H13
    isplitl [H14]; · iexact H14
    isplitl [H15]; · iexact H15
    isplitl [H16]; · iexact H16
    isplitl [H17]; · iexact H17
    isplitl [H18]
    · rewrite [hrow, show o18 m c t = low (tl m c t) (rowBefore m c t) (b8 m c t) (b9 m c t) (b10 m c t) (b11 m c t) from by unfold o18; first | done | rfl]; iexact H18
    isplitl [H19]; · iexact H19
    rcases hfl : (cfg0.win (20 : Fin 21)).flush t with _ | _
    · dsimp only; iexists d20; iexact H20
    · dsimp only; rewrite [before_20 m c t h6]; iexact H20

set_option maxHeartbeats 8000000 in
theorem body_obligation (c : Dev nD) : BodyObligation (dats m 0 c) (defs₀ (F := Ideal)) Variants.none () Set.univ := fun t => by
  rw [bigSep_W0]; exact sound_body m c t

/-! ## The launch -/

theorem share_eq (c : Dev nD) (w : Fin cfg0.W) : (dats m 0 c).share w = fullShare := by unfold Dat.share; split <;> rfl

theorem phi_intro (c : Dev nD) : iprop(BI.emp ∗ Pipeline.scopedRest spec0 c) ⊢ (dats m 0 c).Φ 0 := by
  rw [scopedRest0_eq, show (dats m 0 c).Φ 0 = Phi m c 0 from rfl]
  unfold Phi
  iintro ⟨-, ⟨%b0, HS0⟩⟩
  iexists b0; isplitr; swap
  · iexact HS0
  · ipureintro; intro s hs; exact absurd hs (Nat.succ_ne_zero _)

theorem phi_exit (c : Dev nD) : (dats m 0 c).Φ (Fin.last cfg0.N) ⊢ iprop(BI.emp ∗ Pipeline.scopedRest spec0 c) := by
  rw [scopedRest0_eq, show (dats m 0 c).Φ (Fin.last cfg0.N) = Phi m c (Fin.last _) from rfl]
  unfold Phi
  iintro ⟨%b0, -, HS0⟩
  isplitr; · iempintro
  iexists b0; iexact HS0

/-- What a run leaves: every array at what the pipeline's data say. -/
def QC : PUnit × MemSt nD τ sig (Elt Ideal) → Prop := fun r =>
  ∀ c : Dev nD, ∀ w : Fin cfg0.W, r.2.mem ((cfg0.win w).arr.view.loc (c : Thread nD τ)) = (dats m 0 c).arrAt w cfg0.N

set_option backward.isDefEq.respectTransparency.types false in
set_option maxHeartbeats 4000000 in
/-- Every weakly fair execution ends with the arrays as computed and every counter at zero. -/
theorem run_main_quiescent :
    θ_run (defs (F := Ideal)) (onTc (τ := τ) (main (F := Ideal))) ⟨m, fun _ => 0, ρ⟩ (fun r => QC m r ∧ r.2.sem = fun _ => 0) :=
  Pipeline.θ_run_region_noSem_kit_quiescent cfgs (dats m) () (0 : Fin 1) launch0 EP defs₀ Variants.none m ρ main
    (hbody := fun c => (body_obligation m c).loose) (hshare := share_eq m) (howed := fun _ _ => rfl)
    (u₀ := initOf (Pipeline.cells cfgs launch0.cellOf_inj) (Pipeline.launchToks cfgs launch0.cellOf_inj)) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := phi_intro m)
    (hout := phi_exit m)
    (QY := fun _ _ => True)
    (hY := fun c s' => by
      iintro ⟨-, -, HSI⟩; imodintro
      isplitr; · ipureintro; trivial
      iexact HSI)
    (hQ := fun _ h hz => ⟨fun c => (h c).1, hz⟩)

/-- The arguments of a memory, all as they were in another. -/
abbrev Same (r : MemSt nD τ sig (Elt Ideal)) : Prop := ∀ c : Dev nD,
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)
  ∧ r.mem ((c.tc : Thread nD τ).loc main_arg8) = m ((c.tc : Thread nD τ).loc main_arg8)
  ∧ r.mem ((c.tc : Thread nD τ).loc main_arg9) = m ((c.tc : Thread nD τ).loc main_arg9)
  ∧ r.mem ((c.tc : Thread nD τ).loc main_arg10) = m ((c.tc : Thread nD τ).loc main_arg10)
  ∧ r.mem ((c.tc : Thread nD τ).loc main_arg11) = m ((c.tc : Thread nD τ).loc main_arg11)

theorem same_of_QC (r : PUnit × MemSt nD τ sig (Elt Ideal)) (h : QC m r) : Same m r.2 := fun c =>
  ⟨(h c (0 : Fin 21)).trans ((dats m 0 c).arrAt_in (0 : Fin 21) rfl _),
    (h c (1 : Fin 21)).trans ((dats m 0 c).arrAt_in (1 : Fin 21) rfl _),
    (h c (2 : Fin 21)).trans ((dats m 0 c).arrAt_in (2 : Fin 21) rfl _),
    (h c (3 : Fin 21)).trans ((dats m 0 c).arrAt_in (3 : Fin 21) rfl _),
    (h c (4 : Fin 21)).trans ((dats m 0 c).arrAt_in (4 : Fin 21) rfl _),
    (h c (5 : Fin 21)).trans ((dats m 0 c).arrAt_in (5 : Fin 21) rfl _),
    (h c (6 : Fin 21)).trans ((dats m 0 c).arrAt_in (6 : Fin 21) rfl _),
    (h c (7 : Fin 21)).trans ((dats m 0 c).arrAt_in (7 : Fin 21) rfl _),
    (h c (8 : Fin 21)).trans ((dats m 0 c).arrAt_in (8 : Fin 21) rfl _),
    (h c (9 : Fin 21)).trans ((dats m 0 c).arrAt_in (9 : Fin 21) rfl _),
    (h c (10 : Fin 21)).trans ((dats m 0 c).arrAt_in (10 : Fin 21) rfl _),
    (h c (11 : Fin 21)).trans ((dats m 0 c).arrAt_in (11 : Fin 21) rfl _)⟩

/-- The frame: the arguments end unchanged and every counter reads zero. -/
theorem frame_at :
    θ_run (defs (F := Ideal)) (onTc (τ := τ) (main (F := Ideal))) ⟨m, fun _ => 0, ρ⟩ (fun r => Same m r.2 ∧ r.2.sem = fun _ => 0) :=
  (θ_run defs _ _).mono (fun r h => ⟨same_of_QC m r h.1, h.2⟩) (run_main_quiescent m ρ)

end Cert.Kernel2Ideal.Inproj

end
-- ==== Proof.Spec2.lean ====
module

public import Idealize.ShloMosaic.Lib.Pointwise

@[expose] public section

/-! The projection, element by element: what both programs compute. -/

noncomputable section

namespace Cert.Spec2

open Idealize.ShloMosaic

/-- The mean of a row. -/
def mean (u : Fin 1024 → EReal) : EReal := Ideal.div (∑ j, u j) (Ideal.ofBits FTy.f32 0x44800000#32)

/-- The normalised row. -/
def norm (u g b : Fin 1024 → EReal) (j : Fin 1024) : EReal :=
  (u j - mean u) * Ideal.rsqrt (Ideal.div (∑ k, (u k - mean u) * (u k - mean u)) (Ideal.ofBits FTy.f32 0x44800000#32) + Ideal.ofBits FTy.f32 0x3727C5AC#32) * g j + b j

/-- A column of a product. -/
def proj (h w : Fin 1024 → EReal) : EReal := ∑ j, h j * w j

/-- The output gate. -/
def gate (z : EReal) : EReal := Ideal.div 1 (1 + Ideal.exp (-z))

/-- The log of the forget gate. -/
def logf (z : EReal) : EReal := -(max (-z) 0 + Ideal.log1p (Ideal.exp (-(max (-z) (- -z)))))

/-- A row of the sequence: the prefix, then the stream's own rows. -/
def row (p : (⟨2, ![16, 1024]⟩ : Shape).Idx → EReal) (x : (⟨3, ![16, 2048, 1024]⟩ : Shape).Idx → EReal) (b : Fin 16) (r : Fin 2064) (j : Fin 1024) : EReal :=
  if h : r.val < 16 then p (ix2 ⟨r.val, h⟩ j) else x (ix3 b ⟨r.val - 16, by omega⟩ j)

/-- A normalised row of the sequence. -/
def hOf (p : (⟨2, ![16, 1024]⟩ : Shape).Idx → EReal) (x : (⟨3, ![16, 2048, 1024]⟩ : Shape).Idx → EReal) (g b : (⟨2, ![1, 1024]⟩ : Shape).Idx → EReal)
    (s : Fin 16) (r : Fin 2064) : Fin 1024 → EReal :=
  norm (row p x s r) (fun j => g (ix2 0 j)) (fun j => b (ix2 0 j))

/-- A column of the projection's weights. -/
def col {n : Nat} (off : Nat) (hn : off + n ≤ 5120) (w : (⟨2, ![1024, 5120]⟩ : Shape).Idx → EReal) (o : Fin n) : Fin 1024 → EReal :=
  fun j => w (ix2 j ⟨off + o.val, by omega⟩)

variable (p : (⟨2, ![16, 1024]⟩ : Shape).Idx → EReal) (x : (⟨3, ![16, 2048, 1024]⟩ : Shape).Idx → EReal) (g b : (⟨2, ![1, 1024]⟩ : Shape).Idx → EReal)

/-- The normalised sequence. -/
def outH : (⟨3, ![16, 2064, 1024]⟩ : Shape).Idx → EReal := fun y => hOf p x g b (y 0) (y 1) (y 2)

/-- A projection of it. -/
def outP (n off : Nat) (hn : off + n ≤ 5120) (w : (⟨2, ![1024, 5120]⟩ : Shape).Idx → EReal) : (⟨3, ![16, 2064, n]⟩ : Shape).Idx → EReal :=
  fun y => proj (hOf p x g b (y 0) (y 1)) (col off hn w (y 2 : Fin n))

/-- The output gates. -/
def outG (n off : Nat) (hn : off + n ≤ 5120) (w : (⟨2, ![1024, 5120]⟩ : Shape).Idx → EReal) : (⟨3, ![16, 2064, n]⟩ : Shape).Idx → EReal :=
  fun y => gate (proj (hOf p x g b (y 0) (y 1)) (col off hn w (y 2 : Fin n)))

/-- The logs of the forget gates. -/
def outF (w : (⟨2, ![1024, 128]⟩ : Shape).Idx → EReal) (bf : (⟨2, ![1, 128]⟩ : Shape).Idx → EReal) : (⟨3, ![16, 2064, 128]⟩ : Shape).Idx → EReal :=
  fun y => logf (proj (hOf p x g b (y 0) (y 1)) (fun j => w (ix2 j (y 2 : Fin 128))) + bf (ix2 0 (y 2 : Fin 128)))

/-- The row before a row of the normalised sequence: the stream's previous row before the first. -/
def before (q : (⟨3, ![16, 1, 1024]⟩ : Shape).Idx → EReal) (s : Fin 16) (r : Fin 2064) (j : Fin 1024) : EReal :=
  if r.val = 0 then q (ix3 s 0 j) else hOf p x g b s ⟨r.val - 1, by omega⟩ j

/-- A row mixed with the row before it. -/
def mixed (q : (⟨3, ![16, 1, 1024]⟩ : Shape).Idx → EReal) (mu : (⟨2, ![3, 1024]⟩ : Shape).Idx → EReal) (k : Fin 3) (s : Fin 16) (r : Fin 2064) (j : Fin 1024) : EReal :=
  hOf p x g b s r j + (before p x g b q s r j - hOf p x g b s r j) * mu (ix2 k j)

/-- The three low rank products, side by side. -/
def outL (q : (⟨3, ![16, 1, 1024]⟩ : Shape).Idx → EReal) (mu : (⟨2, ![3, 1024]⟩ : Shape).Idx → EReal)
    (w1 a1 : (⟨2, ![1024, 64]⟩ : Shape).Idx → EReal) (g1 : (⟨2, ![1024, 128]⟩ : Shape).Idx → EReal) : (⟨3, ![16, 2064, 256]⟩ : Shape).Idx → EReal :=
  fun y =>
    if h : (y 2).val < 64 then proj (mixed p x g b q mu 0 (y 0) (y 1)) (fun j => w1 (ix2 j ⟨(y 2).val, h⟩))
    else if h' : (y 2).val < 128 then proj (mixed p x g b q mu 1 (y 0) (y 1)) (fun j => a1 (ix2 j ⟨(y 2).val - 64, by omega⟩))
    else proj (mixed p x g b q mu 2 (y 0) (y 1)) (fun j => g1 (ix2 j ⟨(y 2).val - 128, by have h : (y 2).val < 256 := (y 2).isLt; omega⟩))

/-- The projection of the row before a stream. -/
def outR (q : (⟨3, ![16, 1, 1024]⟩ : Shape).Idx → EReal) (w : (⟨2, ![1024, 5120]⟩ : Shape).Idx → EReal) : (⟨3, ![16, 1, 1536]⟩ : Shape).Idx → EReal :=
  fun y => proj (fun j => q (ix3 (y 0) 0 j)) (col 1536 (by decide) w (y 2 : Fin 1536))

end Cert.Spec2
-- ==== Proof.InprojIdeal.Block.lean ====
module

public import proofs.«01_k».proof.Proof.Gen.Kernel2Ideal.Skeleton
public import proofs.«01_k».proof.Proof.Spec2

@[expose] public section

set_option maxRecDepth 16384

/-! What a step writes, element by element. -/

noncomputable section

namespace Cert.Kernel2Ideal.Inproj

open Cert.Kernel2Ideal Cert.Kernel2Ideal.Gen
open Idealize.ShloMosaic
open Idealize.ShloMosaic.TcCoe

theorem pay9_apply (h : FVec Ideal S344x1024 .f32) (w : Vec Ideal S1024x512 .bf16) (z : Fin 1) (r : Fin 344) (o : Fin 512) :
    k0_pay9 (F := Ideal) h w (ix3 z r o) = Spec2.proj (fun j => h (ix2 r j)) (fun j => w (ix2 j o)) := by
  pointwise [k0_pay9, k0_pay8, dot_S344x1024_S1024x512_S344x512_1_0_0_1_n_n]
  simp only [Spec2.proj]

theorem pay10_apply (h : FVec Ideal S344x1024 .f32) (w : Vec Ideal S1024x512 .bf16) (z : Fin 1) (r : Fin 344) (o : Fin 512) :
    k0_pay10 (F := Ideal) h w (ix3 z r o) = Spec2.proj (fun j => h (ix2 r j)) (fun j => w (ix2 j o)) := by
  pointwise [k0_pay10, k0_pay8, dot_S344x1024_S1024x512_S344x512_1_0_0_1_n_n]
  simp only [Spec2.proj]

theorem pay11_apply (h : FVec Ideal S344x1024 .f32) (w : Vec Ideal S1024x512 .bf16) (z : Fin 1) (r : Fin 344) (o : Fin 512) :
    k0_pay11 (F := Ideal) h w (ix3 z r o) = Spec2.proj (fun j => h (ix2 r j)) (fun j => w (ix2 j o)) := by
  pointwise [k0_pay11, k0_pay8, dot_S344x1024_S1024x512_S344x512_1_0_0_1_n_n]
  simp only [Spec2.proj]

theorem pay12_apply (h : FVec Ideal S344x1024 .f32) (w : Vec Ideal S1024x1536 .bf16) (z : Fin 1) (r : Fin 344) (o : Fin 1536) :
    k0_pay12 (F := Ideal) (k0_pay8 h) w (ix3 z r o) = Spec2.proj (fun j => h (ix2 r j)) (fun j => w (ix2 j o)) := by
  pointwise [k0_pay12, k0_pay8, dot_S344x1024_S1024x1536_S344x1536_1_0_0_1_n_n]
  simp only [Spec2.proj]

theorem pay13_apply (h : FVec Ideal S344x1024 .f32) (w : Vec Ideal S1024x2048 .bf16) (z : Fin 1) (r : Fin 344) (o : Fin 2048) :
    k0_pay13 (F := Ideal) (k0_pay8 h) w (ix3 z r o) = Spec2.gate (Spec2.proj (fun j => h (ix2 r j)) (fun j => w (ix2 j o))) := by
  pointwise [k0_pay13, k0_pay8, dot_S344x1024_S1024x2048_S344x2048_1_0_0_1_n_n]
  simp only [Spec2.proj, Spec2.gate, zero_sub]

theorem pay15_apply (h : FVec Ideal S344x1024 .f32) (w : Vec Ideal S1024x128 .bf16) (b : Vec Ideal S1x128 .f32) (z : Fin 1) (r : Fin 344) (o : Fin 128) :
    k0_pay15 (F := Ideal) (k0_pay14 (k0_pay8 h) w b) (ix3 z r o) = Spec2.logf (Spec2.proj (fun j => h (ix2 r j)) (fun j => w (ix2 j o)) + b (ix2 0 o)) := by
  pointwise [k0_pay15, k0_pay14, k0_pay8, dot_S344x1024_S1024x128_S344x128_1_0_0_1_n_n]
  simp only [Spec2.proj, Spec2.logf, zero_sub]
  rfl

/-- The normalisation of a tile. -/
def lnOf (v6 : FVec Ideal S344x1024 .f32) (v7 v8 : Vec Ideal S1x1024 .f32) : FVec Ideal S344x1024 .f32 :=
  have v9 : FVec Ideal S344 .f32 := multiReduction .add [1] S344 v6 0x00000000#32 reduces_S344x1024_S344 (.inl rfl) rfl
  have v10 : FVec Ideal S344x1 .f32 := shapeCast S344x1 v9 shapeCasts_S344_S344x1
  have v11 : FVec Ideal S344x1 .f32 := broadcast S344x1 (Scalar.ofBits .f32 0x44800000#32)
  have v12 : FVec Ideal S344x1 .f32 := divf v10 v11
  have v13 : FVec Ideal S344x1024 .f32 := broadcastTo S344x1024 v12 broadcasts_S344x1_S344x1024
  have v14 : FVec Ideal S344x1024 .f32 := subf v6 v13
  have v15 : FVec Ideal S344x1024 .f32 := mulf v14 v14
  have v16 : FVec Ideal S344 .f32 := multiReduction .add [1] S344 v15 0x00000000#32 reduces_S344x1024_S344 (.inl rfl) rfl
  have v17 : FVec Ideal S344x1 .f32 := shapeCast S344x1 v16 shapeCasts_S344_S344x1
  have v18 : FVec Ideal S344x1 .f32 := broadcast S344x1 (Scalar.ofBits .f32 0x44800000#32)
  have v19 : FVec Ideal S344x1 .f32 := divf v17 v18
  have v20 : FVec Ideal S344x1 .f32 := broadcast S344x1 (Scalar.ofBits .f32 0x3727C5AC#32)
  have v21 : FVec Ideal S344x1 .f32 := addf v19 v20
  have v22 : FVec Ideal S344x1 .f32 := rsqrt v21
  have v23 : FVec Ideal S344x1024 .f32 := broadcastTo S344x1024 v22 broadcasts_S344x1_S344x1024
  have v24 : FVec Ideal S344x1024 .f32 := mulf v14 v23
  have v25 : FVec Ideal S344x1024 .f32 := broadcastTo S344x1024 v7 broadcasts_S1x1024_S344x1024
  have v26 : FVec Ideal S344x1024 .f32 := mulf v24 v25
  have v27 : FVec Ideal S344x1024 .f32 := broadcastTo S344x1024 v8 broadcasts_S1x1024_S344x1024
  addf v26 v27

/-- A stream's first tile: the prefix and the first rows. -/
def headTile (v0 : Vec Ideal S1x344x1024 .f32) (v3 : Vec Ideal S16x1024 .f32) : FVec Ideal S344x1024 .f32 :=
  concatenate S344x1024 0 [⟨S16x1024, v3⟩, ⟨S328x1024, extractStridedSlice S328x1024 ![0, 0] (shapeCast S344x1024 v0 shapeCasts_S1x344x1024_S344x1024) slices_S344x1024_o0_0_S328x1024⟩] concatenates_S16x1024_S328x1024_S344x1024_d0

theorem pay1_head (i : grid0.Coords) (h : (i 1).val = 0) (v0 : Vec Ideal S1x344x1024 .f32) (v3 : Vec Ideal S16x1024 .f32) (v7 v8 : Vec Ideal S1x1024 .f32) :
    k0_pay1 (F := Ideal) i v0 v3 v7 v8 = lnOf (headTile v0 v3) v7 v8 := by
  have e : Scalar.cmpi .eq (BitVec.ofNat 32 (i 1).val) 0#32 = 1#1 := by rw [h]; rfl
  show lnOf (Scalar.select (Scalar.cmpi .eq (BitVec.ofNat 32 (i 1).val) 0#32) (headTile v0 v3) (shapeCast S344x1024 v0 shapeCasts_S1x344x1024_S344x1024)) v7 v8 = _
  rw [e]; rfl

theorem pay1_next (i : grid0.Coords) (h : (i 1).val ≠ 0) (hl : (i 1).val < 6) (v0 : Vec Ideal S1x344x1024 .f32) (v3 : Vec Ideal S16x1024 .f32) (v7 v8 : Vec Ideal S1x1024 .f32) :
    k0_pay1 (F := Ideal) i v0 v3 v7 v8 = lnOf (shapeCast S344x1024 v0 shapeCasts_S1x344x1024_S344x1024) v7 v8 := by
  have e : Scalar.cmpi .eq (BitVec.ofNat 32 (i 1).val) 0#32 = 0#1 := by
    generalize (i 1).val = n at h hl
    interval_cases n <;> first | exact absurd rfl h | rfl
  show lnOf (Scalar.select (Scalar.cmpi .eq (BitVec.ofNat 32 (i 1).val) 0#32) (headTile v0 v3) (shapeCast S344x1024 v0 shapeCasts_S1x344x1024_S344x1024)) v7 v8 = _
  rw [e]; rfl

theorem lnOf_apply (u : FVec Ideal S344x1024 .f32) (g b : Vec Ideal S1x1024 .f32) (r : Fin 344) (o : Fin 1024) :
    lnOf u g b (ix2 r o) = Spec2.norm (fun j => u (ix2 r j)) (fun j => g (ix2 0 j)) (fun j => b (ix2 0 j)) o := by
  pointwise [lnOf]
  simp only [Spec2.norm, Spec2.mean]

theorem cast_apply (v0 : Vec Ideal S1x344x1024 .f32) (r : Fin 344) (o : Fin 1024) :
    shapeCast S344x1024 v0 shapeCasts_S1x344x1024_S344x1024 (ix2 r o) = v0 (ix3 0 r o) := by
  pointwise

theorem head_apply (v0 : Vec Ideal S1x344x1024 .f32) (v3 : Vec Ideal S16x1024 .f32) (r : Fin 344) (o : Fin 1024) :
    headTile v0 v3 (ix2 r o) = if h : r.val < 16 then v3 (ix2 ⟨r.val, h⟩ o) else v0 (ix3 0 ⟨r.val - 16, by omega⟩ o) := by
  unfold headTile
  pointwise

theorem pay2_apply (i : grid0.Coords) (v0 : Vec Ideal S1x344x1024 .f32) (v3 : Vec Ideal S16x1024 .f32) (v7 v8 : Vec Ideal S1x1024 .f32) (z : Fin 1) (r : Fin 344) (o : Fin 1024) :
    k0_pay2 (F := Ideal) i v0 v3 v7 v8 (ix3 z r o) = k0_pay1 i v0 v3 v7 v8 (ix2 r o) := by
  unfold k0_pay2
  generalize k0_pay1 (F := Ideal) i v0 v3 v7 v8 = u
  pointwise

theorem pay16_apply (h d : FVec Ideal S344x1024 .f32) (mu : Vec Ideal S3x1024 .f32) (w : Vec Ideal S1024x64 .bf16) (z : Fin 1) (r : Fin 344) (o : Fin 64) :
    k0_pay16 (F := Ideal) h d mu w (ix3 z r o) = Spec2.proj (fun j => h (ix2 r j) + d (ix2 r j) * mu (ix2 0 j)) (fun j => w (ix2 j o)) := by
  pointwise [k0_pay16, dot_S344x1024_S1024x64_S344x64_1_0_0_1_n_n]
  simp only [Spec2.proj]

theorem pay17_apply (h d : FVec Ideal S344x1024 .f32) (mu : Vec Ideal S3x1024 .f32) (w : Vec Ideal S1024x64 .bf16) (z : Fin 1) (r : Fin 344) (o : Fin 64) :
    k0_pay17 (F := Ideal) h d mu w (ix3 z r o) = Spec2.proj (fun j => h (ix2 r j) + d (ix2 r j) * mu (ix2 1 j)) (fun j => w (ix2 j o)) := by
  pointwise [k0_pay17, dot_S344x1024_S1024x64_S344x64_1_0_0_1_n_n]
  simp only [Spec2.proj]

theorem pay18_apply (h d : FVec Ideal S344x1024 .f32) (mu : Vec Ideal S3x1024 .f32) (w : Vec Ideal S1024x128 .bf16) (z : Fin 1) (r : Fin 344) (o : Fin 128) :
    k0_pay18 (F := Ideal) h d mu w (ix3 z r o) = Spec2.proj (fun j => h (ix2 r j) + d (ix2 r j) * mu (ix2 2 j)) (fun j => w (ix2 j o)) := by
  pointwise [k0_pay18, dot_S344x1024_S1024x128_S344x128_1_0_0_1_n_n]
  simp only [Spec2.proj]

theorem pay5_apply (q : Vec Ideal S1x1x1024 .f32) (w : Vec Ideal S1024x1536 .bf16) (z z' : Fin 1) (o : Fin 1536) :
    k0_pay5 (F := Ideal) q w (ix3 z z' o) = Spec2.proj (fun j => q (ix3 0 0 j)) (fun j => w (ix2 j o)) := by
  pointwise [k0_pay5, k0_pay3, dot_S8x1024_S1024x1536_S8x1536_1_0_0_1_n_n]
  simp only [Spec2.proj]

theorem pay4_apply (q : Vec Ideal S1x1x1024 .f32) (z : Fin 1) (o : Fin 1024) : k0_pay4 (F := Ideal) q (ix2 z o) = q (ix3 0 0 o) := by
  pointwise [k0_pay4, k0_pay3]

theorem pay6_apply (h : FVec Ideal S344x1024 .f32) (z : Fin 1) (o : Fin 1024) : k0_pay6 (F := Ideal) h (ix2 z o) = h (ix2 343 o) := by
  pointwise [k0_pay6]

theorem pay7_apply (h : FVec Ideal S344x1024 .f32) (v : Vec Ideal S1x1024 .f32) (r : Fin 344) (o : Fin 1024) :
    k0_pay7 (F := Ideal) h (iota .tc S344x1024 32 [0] iota_S344x1024_d0_w32) v (ix2 r o)
      = (if r.val = 0 then v (ix2 0 o) else h (ix2 ⟨r.val - 1, by omega⟩ o)) - h (ix2 r o) := by
  pointwise [k0_pay7]
  refine congrArg (fun x => x - h (ix2 r o)) ?_
  by_cases hr : r.val = 0
  · have e : IntOp.cmpi .eq (BitVec.ofNat 32 r.val) 0#32 = 1#1 := by rw [hr]; rfl
    rw [if_pos hr, e]
    rfl
  · have hne : BitVec.ofNat 32 r.val ≠ 0#32 := fun h0 => by
      have h1 := congrArg BitVec.toNat h0
      rw [BitVec.toNat_ofNat] at h1
      have h2 : r.val % 2 ^ 32 = 0 := h1
      omega
    have e : IntOp.cmpi .eq (BitVec.ofNat 32 r.val) 0#32 = 0#1 := by
      show BitVec.ofBool (BitVec.ofNat 32 r.val == 0#32) = 0#1
      rw [beq_eq_false_iff_ne.mpr hne]
      rfl
    rw [if_neg hr, e]
    exact congrArg (fun q => h (ix2 q o)) (Fin.ext (by show (r.val + 344 - 1) % 344 = r.val - 1; omega))

end Cert.Kernel2Ideal.Inproj
-- ==== Proof.InprojIdeal.Out.lean ====
module

public import proofs.«01_k».proof.Proof.InprojIdeal.Frame
public import proofs.«01_k».proof.Proof.InprojIdeal.Block
public import Idealize.ShloMosaic.Lib.Pipeline.ValueKit.Geometry
public import Idealize.ShloMosaic.Lib.Pipeline.Covers

@[expose] public section

set_option maxRecDepth 16384

/-! The arrays that the projection's launch leaves. -/

noncomputable section

namespace Cert.Kernel2Ideal.Inproj

open Cert.Kernel2Ideal Cert.Kernel2Ideal.Gen
open Idealize.ShloMosaic
open Idealize.ShloMosaic.TcCoe
open Idealize.SL.Sem

variable (m : (ℓ : Loc nD τ sig) → Buf (Elt Ideal) ℓ)

/-- A step's stream. -/
def stream (t : Fin cfg0.N) : Fin 16 := ⟨t.val / 6, by have := N_lt t; omega⟩
/-- A step's rows. -/
def rowAt (t : Fin cfg0.N) (r : Fin 344) : Fin 2064 := ⟨344 * (t.val % 6) + r.val, by omega⟩

theorem off_0 (t : Fin cfg0.N) : cc0_transform_0 (crd t) (1 : Fin 3) = 344 * (t.val % 6) - 16 := by
  have h : ∀ t : Fin grid0.N, cc0_transform_0 (grid0.coords t) (1 : Fin 3) = 344 * (t.val % 6) - 16 := by decide +kernel
  exact h t

theorem stream_nat (t : Fin cfg0.N) : (BitVec.ofNat 32 ((crd t) 0).val).toNat = t.val / 6 := by
  have := N_lt t
  rw [crd_stream, BitVec.toNat_ofNat]; omega

theorem tile_nat (t : Fin cfg0.N) : (BitVec.ofNat 32 ((crd t) 1).val).toNat = t.val % 6 := by
  have := N_lt t
  rw [crd_tile, BitVec.toNat_ofNat]; omega

theorem b0_apply (c : Dev nD) (t : Fin cfg0.N) (r : Fin 344) (j : Fin 1024) :
    b0 m c t (ix3 0 r j) = (m ((c : Thread nD τ).loc main_arg0) : S16x2048x1024.Idx → EReal) (ix3 (stream t) ⟨344 * (t.val % 6) - 16 + r.val, by omega⟩ j) := by
  show iblk m c (0 : Fin 21) t (ix3 0 r j) = _
  unfold iblk
  refine congrArg (m ((c : Thread nD τ).loc main_arg0) : S16x2048x1024.Idx → EReal) (funext fun d => ?_)
  match d with
  | ⟨0, _⟩ =>
    refine Fin.ext ?_
    show (BitVec.ofNat 32 ((crd t) 0).val).toNat + 1 * 0 = t.val / 6
    rw [stream_nat]; omega
  | ⟨1, _⟩ =>
    refine Fin.ext ?_
    show cc0_transform_0 (crd t) (1 : Fin 3) + 1 * r.val = 344 * (t.val % 6) - 16 + r.val
    rw [off_0]; omega
  | ⟨2, _⟩ => exact Fin.ext (by show 0 + 1 * j.val = j.val; omega)

theorem b1_apply (c : Dev nD) (t : Fin cfg0.N) (y : S16x1024.Idx) : b1 m c t y = (m ((c : Thread nD τ).loc main_arg1) : S16x1024.Idx → EReal) y := by
  show iblk m c (1 : Fin 21) t y = _
  unfold iblk
  refine congrArg (m ((c : Thread nD τ).loc main_arg1) : S16x1024.Idx → EReal) (funext fun d => ?_)
  match d with
  | ⟨0, _⟩ => exact Fin.ext (by show 0 * 16 + 1 * (y 0).val = (y 0).val; omega)
  | ⟨1, _⟩ => exact Fin.ext (by show 0 * 1024 + 1 * (y 1).val = (y 1).val; omega)

theorem b3_apply (c : Dev nD) (t : Fin cfg0.N) (y : S1x1024.Idx) : b3 m c t y = (m ((c : Thread nD τ).loc main_arg3) : S1x1024.Idx → EReal) y := by
  show iblk m c (3 : Fin 21) t y = _
  unfold iblk
  refine congrArg (m ((c : Thread nD τ).loc main_arg3) : S1x1024.Idx → EReal) (funext fun d => ?_)
  match d with
  | ⟨0, _⟩ => exact Fin.ext (by show 0 * 1 + 1 * (y 0).val = (y 0).val; omega)
  | ⟨1, _⟩ => exact Fin.ext (by show 0 * 1024 + 1 * (y 1).val = (y 1).val; omega)

theorem b4_apply (c : Dev nD) (t : Fin cfg0.N) (y : S1x1024.Idx) : b4 m c t y = (m ((c : Thread nD τ).loc main_arg4) : S1x1024.Idx → EReal) y := by
  show iblk m c (4 : Fin 21) t y = _
  unfold iblk
  refine congrArg (m ((c : Thread nD τ).loc main_arg4) : S1x1024.Idx → EReal) (funext fun d => ?_)
  match d with
  | ⟨0, _⟩ => exact Fin.ext (by show 0 * 1 + 1 * (y 0).val = (y 0).val; omega)
  | ⟨1, _⟩ => exact Fin.ext (by show 0 * 1024 + 1 * (y 1).val = (y 1).val; omega)

theorem b5_apply (c : Dev nD) (t : Fin cfg0.N) (y : S1024x5120.Idx) : b5 m c t y = (m ((c : Thread nD τ).loc main_arg5) : S1024x5120.Idx → EReal) y := by
  show iblk m c (5 : Fin 21) t y = _
  unfold iblk
  refine congrArg (m ((c : Thread nD τ).loc main_arg5) : S1024x5120.Idx → EReal) (funext fun d => ?_)
  match d with
  | ⟨0, _⟩ => exact Fin.ext (by show 0 * 1024 + 1 * (y 0).val = (y 0).val; omega)
  | ⟨1, _⟩ => exact Fin.ext (by show 0 * 5120 + 1 * (y 1).val = (y 1).val; omega)

theorem b6_apply (c : Dev nD) (t : Fin cfg0.N) (y : S1024x128.Idx) : b6 m c t y = (m ((c : Thread nD τ).loc main_arg6) : S1024x128.Idx → EReal) y := by
  show iblk m c (6 : Fin 21) t y = _
  unfold iblk
  refine congrArg (m ((c : Thread nD τ).loc main_arg6) : S1024x128.Idx → EReal) (funext fun d => ?_)
  match d with
  | ⟨0, _⟩ => exact Fin.ext (by show 0 * 1024 + 1 * (y 0).val = (y 0).val; omega)
  | ⟨1, _⟩ => exact Fin.ext (by show 0 * 128 + 1 * (y 1).val = (y 1).val; omega)

theorem b7_apply (c : Dev nD) (t : Fin cfg0.N) (y : S1x128.Idx) : b7 m c t y = (m ((c : Thread nD τ).loc main_arg7) : S1x128.Idx → EReal) y := by
  show iblk m c (7 : Fin 21) t y = _
  unfold iblk
  refine congrArg (m ((c : Thread nD τ).loc main_arg7) : S1x128.Idx → EReal) (funext fun d => ?_)
  match d with
  | ⟨0, _⟩ => exact Fin.ext (by show 0 * 1 + 1 * (y 0).val = (y 0).val; omega)
  | ⟨1, _⟩ => exact Fin.ext (by show 0 * 128 + 1 * (y 1).val = (y 1).val; omega)

theorem wq_apply (w : Vec Ideal S1024x5120 .bf16) (j : Fin 1024) (o : Fin 512) :
    wq w (ix2 j o) = w (ix2 j ⟨0 + o.val, by omega⟩) := by
  unfold wq
  refine congrArg w (funext fun d => ?_)
  match d with
  | ⟨0, _⟩ => exact Fin.ext (by show 0 + 1 * j.val = j.val; omega)
  | ⟨1, _⟩ => exact Fin.ext (by show 0 + 1 * o.val = 0 + o.val; omega)

theorem wk_apply (w : Vec Ideal S1024x5120 .bf16) (j : Fin 1024) (o : Fin 512) :
    wk w (ix2 j o) = w (ix2 j ⟨512 + o.val, by omega⟩) := by
  unfold wk
  refine congrArg w (funext fun d => ?_)
  match d with
  | ⟨0, _⟩ => exact Fin.ext (by show 0 + 1 * j.val = j.val; omega)
  | ⟨1, _⟩ => exact Fin.ext (by show 512 + 1 * o.val = 512 + o.val; omega)

theorem wv_apply (w : Vec Ideal S1024x5120 .bf16) (j : Fin 1024) (o : Fin 512) :
    wv w (ix2 j o) = w (ix2 j ⟨1024 + o.val, by omega⟩) := by
  unfold wv
  refine congrArg w (funext fun d => ?_)
  match d with
  | ⟨0, _⟩ => exact Fin.ext (by show 0 + 1 * j.val = j.val; omega)
  | ⟨1, _⟩ => exact Fin.ext (by show 1024 + 1 * o.val = 1024 + o.val; omega)

theorem wr_apply (w : Vec Ideal S1024x5120 .bf16) (j : Fin 1024) (o : Fin 1536) :
    wr w (ix2 j o) = w (ix2 j ⟨1536 + o.val, by omega⟩) := by
  unfold wr
  refine congrArg w (funext fun d => ?_)
  match d with
  | ⟨0, _⟩ => exact Fin.ext (by show 0 + 1 * j.val = j.val; omega)
  | ⟨1, _⟩ => exact Fin.ext (by show 1536 + 1 * o.val = 1536 + o.val; omega)

theorem wg_apply (w : Vec Ideal S1024x5120 .bf16) (j : Fin 1024) (o : Fin 2048) :
    wg w (ix2 j o) = w (ix2 j ⟨3072 + o.val, by omega⟩) := by
  unfold wg
  refine congrArg w (funext fun d => ?_)
  match d with
  | ⟨0, _⟩ => exact Fin.ext (by show 0 + 1 * j.val = j.val; omega)
  | ⟨1, _⟩ => exact Fin.ext (by show 3072 + 1 * o.val = 3072 + o.val; omega)

/-- A tile's rows are the normalised rows of the sequence. -/
theorem tl_apply (c : Dev nD) (t : Fin cfg0.N) (r : Fin 344) (o : Fin 1024) :
    tl m c t (ix2 r o) = Spec2.hOf (m ((c : Thread nD τ).loc main_arg1)) (m ((c : Thread nD τ).loc main_arg0)) (m ((c : Thread nD τ).loc main_arg3)) (m ((c : Thread nD τ).loc main_arg4)) (stream t) (rowAt t r) o := by
  have hg : (fun j => b3 m c t (ix2 0 j)) = fun j => (m ((c : Thread nD τ).loc main_arg3) : S1x1024.Idx → EReal) (ix2 0 j) := funext fun j => b3_apply m c t _
  have hb : (fun j => b4 m c t (ix2 0 j)) = fun j => (m ((c : Thread nD τ).loc main_arg4) : S1x1024.Idx → EReal) (ix2 0 j) := funext fun j => b4_apply m c t _
  unfold tl tile Spec2.hOf
  by_cases h6 : t.val % 6 = 0
  · rw [pay1_head (crd t) ((crd_tile t).trans h6), lnOf_apply, hg, hb]
    refine congrArg (fun u => Spec2.norm u _ _ o) (funext fun j => ?_)
    rw [head_apply]
    unfold Spec2.row
    by_cases hr : r.val < 16
    · rw [dif_pos hr, dif_pos (show (rowAt t r).val < 16 by show 344 * (t.val % 6) + r.val < 16; omega), b1_apply]
      exact congrArg (fun q => (m ((c : Thread nD τ).loc main_arg1) : S16x1024.Idx → EReal) (ix2 q j)) (Fin.ext (by show r.val = 344 * (t.val % 6) + r.val; omega))
    · rw [dif_neg hr, dif_neg (show ¬ (rowAt t r).val < 16 by show ¬ (344 * (t.val % 6) + r.val < 16); omega), b0_apply]
      exact congrArg (fun q => (m ((c : Thread nD τ).loc main_arg0) : S16x2048x1024.Idx → EReal) (ix3 (stream t) q j)) (Fin.ext (by show 344 * (t.val % 6) - 16 + (r.val - 16) = 344 * (t.val % 6) + r.val - 16; omega))
  · rw [pay1_next (crd t) (by rw [crd_tile]; exact h6) (by rw [crd_tile]; omega), lnOf_apply, hg, hb]
    refine congrArg (fun u => Spec2.norm u _ _ o) (funext fun j => ?_)
    rw [cast_apply]
    unfold Spec2.row
    rw [dif_neg (show ¬ (rowAt t r).val < 16 by show ¬ (344 * (t.val % 6) + r.val < 16); omega), b0_apply]
    exact congrArg (fun q => (m ((c : Thread nD τ).loc main_arg0) : S16x2048x1024.Idx → EReal) (ix3 (stream t) q j)) (Fin.ext (by show 344 * (t.val % 6) - 16 + r.val = 344 * (t.val % 6) + r.val - 16; omega))

theorem tl_row (c : Dev nD) (t : Fin cfg0.N) (r : Fin 344) :
    (fun j => tl m c t (ix2 r j)) = Spec2.hOf (m ((c : Thread nD τ).loc main_arg1)) (m ((c : Thread nD τ).loc main_arg0)) (m ((c : Thread nD τ).loc main_arg3)) (m ((c : Thread nD τ).loc main_arg4)) (stream t) (rowAt t r) := funext fun j => tl_apply m c t r j

theorem covers12 : (cfg0.win (12 : Fin 21)).Covers :=
  (cfg0.win (12 : Fin 21)).covers_of_indexMap_surj rfl (fun d => match d with | ⟨0, _⟩ => (by decide : 0 < 1) | ⟨1, _⟩ => (by decide : 0 < 344) | ⟨2, _⟩ => (by decide : 0 < 1024)) fun β => by
    have nb0 : (cfg0.win (12 : Fin 21)).nblk (0 : Fin 3) = 16 := by show (16 + 1 - 1) / 1 = 16; rfl
    have nb1 : (cfg0.win (12 : Fin 21)).nblk (1 : Fin 3) = 6 := by show (2064 + 344 - 1) / 344 = 6; rfl
    have nb2 : (cfg0.win (12 : Fin 21)).nblk (2 : Fin 3) = 1 := by show (1024 + 1024 - 1) / 1024 = 1; rfl
    have h0 : (β (0 : Fin 3)).val < 16 := lt_of_lt_of_eq (β (0 : Fin 3)).isLt nb0
    have h1 : (β (1 : Fin 3)).val < 6 := lt_of_lt_of_eq (β (1 : Fin 3)).isLt nb1
    have h2 : (β (2 : Fin 3)).val < 1 := lt_of_lt_of_eq (β (2 : Fin 3)).isLt nb2
    have hN : 6 * (β (0 : Fin 3)).val + (β (1 : Fin 3)).val < cfg0.N := by rw [show cfg0.N = 96 from N_0]; omega
    refine ⟨crd ⟨6 * (β (0 : Fin 3)).val + (β (1 : Fin 3)).val, hN⟩, fun d => ?_⟩
    match d with
    | ⟨0, _⟩ => exact (stream_nat ⟨_, hN⟩).trans (by show (6 * (β (0 : Fin 3)).val + (β (1 : Fin 3)).val) / 6 = (β (0 : Fin 3)).val; omega)
    | ⟨1, _⟩ => exact (tile_nat ⟨_, hN⟩).trans (by show (6 * (β (0 : Fin 3)).val + (β (1 : Fin 3)).val) % 6 = (β (1 : Fin 3)).val; omega)
    | ⟨2, _⟩ => show 0 = (β (2 : Fin 3)).val; omega

theorem arr_12 (c : Dev nD) : (dats m 0 c).arrAt (12 : Fin 21) cfg0.N = (Spec2.outH (m ((c : Thread nD τ).loc main_arg1)) (m ((c : Thread nD τ).loc main_arg0)) (m ((c : Thread nD τ).loc main_arg3)) (m ((c : Thread nD τ).loc main_arg4)) : S16x2064x1024.Idx → EReal) := by
  refine (dats m 0 c).arrAt_eq_of_covers (12 : Fin 21) _ covers12 fun t hf y => ?_
  obtain ⟨z, r, o, rfl⟩ : ∃ (z : Fin 1) (r : Fin 344) (o : Fin 1024), y = ix3 z r o :=
    ⟨y 0, y 1, y 2, by funext d; match d with | ⟨0, _⟩ => rfl | ⟨1, _⟩ => rfl | ⟨2, _⟩ => rfl⟩
  have hi : ((cfg0.win (12 : Fin 21)).blk t).view.emb (ix3 z r o) = (ix3 (stream t) (rowAt t r) o : S16x2064x1024.Idx) := by
    funext d
    match d with
    | ⟨0, _⟩ =>
      refine Fin.ext ?_
      show (BitVec.ofNat 32 ((crd t) 0).val).toNat * 1 + 1 * z.val = t.val / 6
      rw [stream_nat]; omega
    | ⟨1, _⟩ =>
      refine Fin.ext ?_
      show (BitVec.ofNat 32 ((crd t) 1).val).toNat * 344 + 1 * r.val = 344 * (t.val % 6) + r.val
      rw [tile_nat]; omega
    | ⟨2, _⟩ => exact Fin.ext (by show 0 * 1024 + 1 * o.val = o.val; omega)
  rw [hi]
  show o12 m c t (ix3 z r o) = Spec2.outH (m ((c : Thread nD τ).loc main_arg1)) (m ((c : Thread nD τ).loc main_arg0)) (m ((c : Thread nD τ).loc main_arg3)) (m ((c : Thread nD τ).loc main_arg4)) (ix3 (stream t) (rowAt t r) o)
  unfold o12
  rw [pay2_apply]
  exact tl_apply m c t r o

theorem covers13 : (cfg0.win (13 : Fin 21)).Covers :=
  (cfg0.win (13 : Fin 21)).covers_of_indexMap_surj rfl (fun d => match d with | ⟨0, _⟩ => (by decide : 0 < 1) | ⟨1, _⟩ => (by decide : 0 < 344) | ⟨2, _⟩ => (by decide : 0 < 512)) fun β => by
    have nb0 : (cfg0.win (13 : Fin 21)).nblk (0 : Fin 3) = 16 := by show (16 + 1 - 1) / 1 = 16; rfl
    have nb1 : (cfg0.win (13 : Fin 21)).nblk (1 : Fin 3) = 6 := by show (2064 + 344 - 1) / 344 = 6; rfl
    have nb2 : (cfg0.win (13 : Fin 21)).nblk (2 : Fin 3) = 1 := by show (512 + 512 - 1) / 512 = 1; rfl
    have h0 : (β (0 : Fin 3)).val < 16 := lt_of_lt_of_eq (β (0 : Fin 3)).isLt nb0
    have h1 : (β (1 : Fin 3)).val < 6 := lt_of_lt_of_eq (β (1 : Fin 3)).isLt nb1
    have h2 : (β (2 : Fin 3)).val < 1 := lt_of_lt_of_eq (β (2 : Fin 3)).isLt nb2
    have hN : 6 * (β (0 : Fin 3)).val + (β (1 : Fin 3)).val < cfg0.N := by rw [show cfg0.N = 96 from N_0]; omega
    refine ⟨crd ⟨6 * (β (0 : Fin 3)).val + (β (1 : Fin 3)).val, hN⟩, fun d => ?_⟩
    match d with
    | ⟨0, _⟩ => exact (stream_nat ⟨_, hN⟩).trans (by show (6 * (β (0 : Fin 3)).val + (β (1 : Fin 3)).val) / 6 = (β (0 : Fin 3)).val; omega)
    | ⟨1, _⟩ => exact (tile_nat ⟨_, hN⟩).trans (by show (6 * (β (0 : Fin 3)).val + (β (1 : Fin 3)).val) % 6 = (β (1 : Fin 3)).val; omega)
    | ⟨2, _⟩ => show 0 = (β (2 : Fin 3)).val; omega

theorem arr_13 (c : Dev nD) : (dats m 0 c).arrAt (13 : Fin 21) cfg0.N = (Spec2.outP (m ((c : Thread nD τ).loc main_arg1)) (m ((c : Thread nD τ).loc main_arg0)) (m ((c : Thread nD τ).loc main_arg3)) (m ((c : Thread nD τ).loc main_arg4)) 512 0 (by decide) (m ((c : Thread nD τ).loc main_arg5)) : S16x2064x512.Idx → EReal) := by
  refine (dats m 0 c).arrAt_eq_of_covers (13 : Fin 21) _ covers13 fun t hf y => ?_
  obtain ⟨z, r, o, rfl⟩ : ∃ (z : Fin 1) (r : Fin 344) (o : Fin 512), y = ix3 z r o :=
    ⟨y 0, y 1, y 2, by funext d; match d with | ⟨0, _⟩ => rfl | ⟨1, _⟩ => rfl | ⟨2, _⟩ => rfl⟩
  have hi : ((cfg0.win (13 : Fin 21)).blk t).view.emb (ix3 z r o) = (ix3 (stream t) (rowAt t r) o : S16x2064x512.Idx) := by
    funext d
    match d with
    | ⟨0, _⟩ =>
      refine Fin.ext ?_
      show (BitVec.ofNat 32 ((crd t) 0).val).toNat * 1 + 1 * z.val = t.val / 6
      rw [stream_nat]; omega
    | ⟨1, _⟩ =>
      refine Fin.ext ?_
      show (BitVec.ofNat 32 ((crd t) 1).val).toNat * 344 + 1 * r.val = 344 * (t.val % 6) + r.val
      rw [tile_nat]; omega
    | ⟨2, _⟩ => exact Fin.ext (by show 0 * 512 + 1 * o.val = o.val; omega)
  rw [hi]
  show o13 m c t (ix3 z r o) = Spec2.outP (m ((c : Thread nD τ).loc main_arg1)) (m ((c : Thread nD τ).loc main_arg0)) (m ((c : Thread nD τ).loc main_arg3)) (m ((c : Thread nD τ).loc main_arg4)) 512 0 (by decide) (m ((c : Thread nD τ).loc main_arg5)) (ix3 (stream t) (rowAt t r) o)
  unfold o13
  have hw : (fun j => wq (b5 m c t) (ix2 j o)) = Spec2.col 0 (by decide) (m ((c : Thread nD τ).loc main_arg5)) o := funext fun j => by
    rw [wq_apply, b5_apply]; rfl
  rw [pay9_apply, tl_row, hw]
  rfl

theorem covers14 : (cfg0.win (14 : Fin 21)).Covers :=
  (cfg0.win (14 : Fin 21)).covers_of_indexMap_surj rfl (fun d => match d with | ⟨0, _⟩ => (by decide : 0 < 1) | ⟨1, _⟩ => (by decide : 0 < 344) | ⟨2, _⟩ => (by decide : 0 < 512)) fun β => by
    have nb0 : (cfg0.win (14 : Fin 21)).nblk (0 : Fin 3) = 16 := by show (16 + 1 - 1) / 1 = 16; rfl
    have nb1 : (cfg0.win (14 : Fin 21)).nblk (1 : Fin 3) = 6 := by show (2064 + 344 - 1) / 344 = 6; rfl
    have nb2 : (cfg0.win (14 : Fin 21)).nblk (2 : Fin 3) = 1 := by show (512 + 512 - 1) / 512 = 1; rfl
    have h0 : (β (0 : Fin 3)).val < 16 := lt_of_lt_of_eq (β (0 : Fin 3)).isLt nb0
    have h1 : (β (1 : Fin 3)).val < 6 := lt_of_lt_of_eq (β (1 : Fin 3)).isLt nb1
    have h2 : (β (2 : Fin 3)).val < 1 := lt_of_lt_of_eq (β (2 : Fin 3)).isLt nb2
    have hN : 6 * (β (0 : Fin 3)).val + (β (1 : Fin 3)).val < cfg0.N := by rw [show cfg0.N = 96 from N_0]; omega
    refine ⟨crd ⟨6 * (β (0 : Fin 3)).val + (β (1 : Fin 3)).val, hN⟩, fun d => ?_⟩
    match d with
    | ⟨0, _⟩ => exact (stream_nat ⟨_, hN⟩).trans (by show (6 * (β (0 : Fin 3)).val + (β (1 : Fin 3)).val) / 6 = (β (0 : Fin 3)).val; omega)
    | ⟨1, _⟩ => exact (tile_nat ⟨_, hN⟩).trans (by show (6 * (β (0 : Fin 3)).val + (β (1 : Fin 3)).val) % 6 = (β (1 : Fin 3)).val; omega)
    | ⟨2, _⟩ => show 0 = (β (2 : Fin 3)).val; omega

theorem arr_14 (c : Dev nD) : (dats m 0 c).arrAt (14 : Fin 21) cfg0.N = (Spec2.outP (m ((c : Thread nD τ).loc main_arg1)) (m ((c : Thread nD τ).loc main_arg0)) (m ((c : Thread nD τ).loc main_arg3)) (m ((c : Thread nD τ).loc main_arg4)) 512 512 (by decide) (m ((c : Thread nD τ).loc main_arg5)) : S16x2064x512.Idx → EReal) := by
  refine (dats m 0 c).arrAt_eq_of_covers (14 : Fin 21) _ covers14 fun t hf y => ?_
  obtain ⟨z, r, o, rfl⟩ : ∃ (z : Fin 1) (r : Fin 344) (o : Fin 512), y = ix3 z r o :=
    ⟨y 0, y 1, y 2, by funext d; match d with | ⟨0, _⟩ => rfl | ⟨1, _⟩ => rfl | ⟨2, _⟩ => rfl⟩
  have hi : ((cfg0.win (14 : Fin 21)).blk t).view.emb (ix3 z r o) = (ix3 (stream t) (rowAt t r) o : S16x2064x512.Idx) := by
    funext d
    match d with
    | ⟨0, _⟩ =>
      refine Fin.ext ?_
      show (BitVec.ofNat 32 ((crd t) 0).val).toNat * 1 + 1 * z.val = t.val / 6
      rw [stream_nat]; omega
    | ⟨1, _⟩ =>
      refine Fin.ext ?_
      show (BitVec.ofNat 32 ((crd t) 1).val).toNat * 344 + 1 * r.val = 344 * (t.val % 6) + r.val
      rw [tile_nat]; omega
    | ⟨2, _⟩ => exact Fin.ext (by show 0 * 512 + 1 * o.val = o.val; omega)
  rw [hi]
  show o14 m c t (ix3 z r o) = Spec2.outP (m ((c : Thread nD τ).loc main_arg1)) (m ((c : Thread nD τ).loc main_arg0)) (m ((c : Thread nD τ).loc main_arg3)) (m ((c : Thread nD τ).loc main_arg4)) 512 512 (by decide) (m ((c : Thread nD τ).loc main_arg5)) (ix3 (stream t) (rowAt t r) o)
  unfold o14
  have hw : (fun j => wk (b5 m c t) (ix2 j o)) = Spec2.col 512 (by decide) (m ((c : Thread nD τ).loc main_arg5)) o := funext fun j => by
    rw [wk_apply, b5_apply]; rfl
  rw [pay10_apply, tl_row, hw]
  rfl

theorem covers15 : (cfg0.win (15 : Fin 21)).Covers :=
  (cfg0.win (15 : Fin 21)).covers_of_indexMap_surj rfl (fun d => match d with | ⟨0, _⟩ => (by decide : 0 < 1) | ⟨1, _⟩ => (by decide : 0 < 344) | ⟨2, _⟩ => (by decide : 0 < 512)) fun β => by
    have nb0 : (cfg0.win (15 : Fin 21)).nblk (0 : Fin 3) = 16 := by show (16 + 1 - 1) / 1 = 16; rfl
    have nb1 : (cfg0.win (15 : Fin 21)).nblk (1 : Fin 3) = 6 := by show (2064 + 344 - 1) / 344 = 6; rfl
    have nb2 : (cfg0.win (15 : Fin 21)).nblk (2 : Fin 3) = 1 := by show (512 + 512 - 1) / 512 = 1; rfl
    have h0 : (β (0 : Fin 3)).val < 16 := lt_of_lt_of_eq (β (0 : Fin 3)).isLt nb0
    have h1 : (β (1 : Fin 3)).val < 6 := lt_of_lt_of_eq (β (1 : Fin 3)).isLt nb1
    have h2 : (β (2 : Fin 3)).val < 1 := lt_of_lt_of_eq (β (2 : Fin 3)).isLt nb2
    have hN : 6 * (β (0 : Fin 3)).val + (β (1 : Fin 3)).val < cfg0.N := by rw [show cfg0.N = 96 from N_0]; omega
    refine ⟨crd ⟨6 * (β (0 : Fin 3)).val + (β (1 : Fin 3)).val, hN⟩, fun d => ?_⟩
    match d with
    | ⟨0, _⟩ => exact (stream_nat ⟨_, hN⟩).trans (by show (6 * (β (0 : Fin 3)).val + (β (1 : Fin 3)).val) / 6 = (β (0 : Fin 3)).val; omega)
    | ⟨1, _⟩ => exact (tile_nat ⟨_, hN⟩).trans (by show (6 * (β (0 : Fin 3)).val + (β (1 : Fin 3)).val) % 6 = (β (1 : Fin 3)).val; omega)
    | ⟨2, _⟩ => show 0 = (β (2 : Fin 3)).val; omega

theorem arr_15 (c : Dev nD) : (dats m 0 c).arrAt (15 : Fin 21) cfg0.N = (Spec2.outP (m ((c : Thread nD τ).loc main_arg1)) (m ((c : Thread nD τ).loc main_arg0)) (m ((c : Thread nD τ).loc main_arg3)) (m ((c : Thread nD τ).loc main_arg4)) 512 1024 (by decide) (m ((c : Thread nD τ).loc main_arg5)) : S16x2064x512.Idx → EReal) := by
  refine (dats m 0 c).arrAt_eq_of_covers (15 : Fin 21) _ covers15 fun t hf y => ?_
  obtain ⟨z, r, o, rfl⟩ : ∃ (z : Fin 1) (r : Fin 344) (o : Fin 512), y = ix3 z r o :=
    ⟨y 0, y 1, y 2, by funext d; match d with | ⟨0, _⟩ => rfl | ⟨1, _⟩ => rfl | ⟨2, _⟩ => rfl⟩
  have hi : ((cfg0.win (15 : Fin 21)).blk t).view.emb (ix3 z r o) = (ix3 (stream t) (rowAt t r) o : S16x2064x512.Idx) := by
    funext d
    match d with
    | ⟨0, _⟩ =>
      refine Fin.ext ?_
      show (BitVec.ofNat 32 ((crd t) 0).val).toNat * 1 + 1 * z.val = t.val / 6
      rw [stream_nat]; omega
    | ⟨1, _⟩ =>
      refine Fin.ext ?_
      show (BitVec.ofNat 32 ((crd t) 1).val).toNat * 344 + 1 * r.val = 344 * (t.val % 6) + r.val
      rw [tile_nat]; omega
    | ⟨2, _⟩ => exact Fin.ext (by show 0 * 512 + 1 * o.val = o.val; omega)
  rw [hi]
  show o15 m c t (ix3 z r o) = Spec2.outP (m ((c : Thread nD τ).loc main_arg1)) (m ((c : Thread nD τ).loc main_arg0)) (m ((c : Thread nD τ).loc main_arg3)) (m ((c : Thread nD τ).loc main_arg4)) 512 1024 (by decide) (m ((c : Thread nD τ).loc main_arg5)) (ix3 (stream t) (rowAt t r) o)
  unfold o15
  have hw : (fun j => wv (b5 m c t) (ix2 j o)) = Spec2.col 1024 (by decide) (m ((c : Thread nD τ).loc main_arg5)) o := funext fun j => by
    rw [wv_apply, b5_apply]; rfl
  rw [pay11_apply, tl_row, hw]
  rfl

theorem covers16 : (cfg0.win (16 : Fin 21)).Covers :=
  (cfg0.win (16 : Fin 21)).covers_of_indexMap_surj rfl (fun d => match d with | ⟨0, _⟩ => (by decide : 0 < 1) | ⟨1, _⟩ => (by decide : 0 < 344) | ⟨2, _⟩ => (by decide : 0 < 1536)) fun β => by
    have nb0 : (cfg0.win (16 : Fin 21)).nblk (0 : Fin 3) = 16 := by show (16 + 1 - 1) / 1 = 16; rfl
    have nb1 : (cfg0.win (16 : Fin 21)).nblk (1 : Fin 3) = 6 := by show (2064 + 344 - 1) / 344 = 6; rfl
    have nb2 : (cfg0.win (16 : Fin 21)).nblk (2 : Fin 3) = 1 := by show (1536 + 1536 - 1) / 1536 = 1; rfl
    have h0 : (β (0 : Fin 3)).val < 16 := lt_of_lt_of_eq (β (0 : Fin 3)).isLt nb0
    have h1 : (β (1 : Fin 3)).val < 6 := lt_of_lt_of_eq (β (1 : Fin 3)).isLt nb1
    have h2 : (β (2 : Fin 3)).val < 1 := lt_of_lt_of_eq (β (2 : Fin 3)).isLt nb2
    have hN : 6 * (β (0 : Fin 3)).val + (β (1 : Fin 3)).val < cfg0.N := by rw [show cfg0.N = 96 from N_0]; omega
    refine ⟨crd ⟨6 * (β (0 : Fin 3)).val + (β (1 : Fin 3)).val, hN⟩, fun d => ?_⟩
    match d with
    | ⟨0, _⟩ => exact (stream_nat ⟨_, hN⟩).trans (by show (6 * (β (0 : Fin 3)).val + (β (1 : Fin 3)).val) / 6 = (β (0 : Fin 3)).val; omega)
    | ⟨1, _⟩ => exact (tile_nat ⟨_, hN⟩).trans (by show (6 * (β (0 : Fin 3)).val + (β (1 : Fin 3)).val) % 6 = (β (1 : Fin 3)).val; omega)
    | ⟨2, _⟩ => show 0 = (β (2 : Fin 3)).val; omega

theorem arr_16 (c : Dev nD) : (dats m 0 c).arrAt (16 : Fin 21) cfg0.N = (Spec2.outP (m ((c : Thread nD τ).loc main_arg1)) (m ((c : Thread nD τ).loc main_arg0)) (m ((c : Thread nD τ).loc main_arg3)) (m ((c : Thread nD τ).loc main_arg4)) 1536 1536 (by decide) (m ((c : Thread nD τ).loc main_arg5)) : S16x2064x1536.Idx → EReal) := by
  refine (dats m 0 c).arrAt_eq_of_covers (16 : Fin 21) _ covers16 fun t hf y => ?_
  obtain ⟨z, r, o, rfl⟩ : ∃ (z : Fin 1) (r : Fin 344) (o : Fin 1536), y = ix3 z r o :=
    ⟨y 0, y 1, y 2, by funext d; match d with | ⟨0, _⟩ => rfl | ⟨1, _⟩ => rfl | ⟨2, _⟩ => rfl⟩
  have hi : ((cfg0.win (16 : Fin 21)).blk t).view.emb (ix3 z r o) = (ix3 (stream t) (rowAt t r) o : S16x2064x1536.Idx) := by
    funext d
    match d with
    | ⟨0, _⟩ =>
      refine Fin.ext ?_
      show (BitVec.ofNat 32 ((crd t) 0).val).toNat * 1 + 1 * z.val = t.val / 6
      rw [stream_nat]; omega
    | ⟨1, _⟩ =>
      refine Fin.ext ?_
      show (BitVec.ofNat 32 ((crd t) 1).val).toNat * 344 + 1 * r.val = 344 * (t.val % 6) + r.val
      rw [tile_nat]; omega
    | ⟨2, _⟩ => exact Fin.ext (by show 0 * 1536 + 1 * o.val = o.val; omega)
  rw [hi]
  show o16 m c t (ix3 z r o) = Spec2.outP (m ((c : Thread nD τ).loc main_arg1)) (m ((c : Thread nD τ).loc main_arg0)) (m ((c : Thread nD τ).loc main_arg3)) (m ((c : Thread nD τ).loc main_arg4)) 1536 1536 (by decide) (m ((c : Thread nD τ).loc main_arg5)) (ix3 (stream t) (rowAt t r) o)
  unfold o16
  have hw : (fun j => wr (b5 m c t) (ix2 j o)) = Spec2.col 1536 (by decide) (m ((c : Thread nD τ).loc main_arg5)) o := funext fun j => by
    rw [wr_apply, b5_apply]; rfl
  rw [pay12_apply, tl_row, hw]
  rfl

theorem covers17 : (cfg0.win (17 : Fin 21)).Covers :=
  (cfg0.win (17 : Fin 21)).covers_of_indexMap_surj rfl (fun d => match d with | ⟨0, _⟩ => (by decide : 0 < 1) | ⟨1, _⟩ => (by decide : 0 < 344) | ⟨2, _⟩ => (by decide : 0 < 2048)) fun β => by
    have nb0 : (cfg0.win (17 : Fin 21)).nblk (0 : Fin 3) = 16 := by show (16 + 1 - 1) / 1 = 16; rfl
    have nb1 : (cfg0.win (17 : Fin 21)).nblk (1 : Fin 3) = 6 := by show (2064 + 344 - 1) / 344 = 6; rfl
    have nb2 : (cfg0.win (17 : Fin 21)).nblk (2 : Fin 3) = 1 := by show (2048 + 2048 - 1) / 2048 = 1; rfl
    have h0 : (β (0 : Fin 3)).val < 16 := lt_of_lt_of_eq (β (0 : Fin 3)).isLt nb0
    have h1 : (β (1 : Fin 3)).val < 6 := lt_of_lt_of_eq (β (1 : Fin 3)).isLt nb1
    have h2 : (β (2 : Fin 3)).val < 1 := lt_of_lt_of_eq (β (2 : Fin 3)).isLt nb2
    have hN : 6 * (β (0 : Fin 3)).val + (β (1 : Fin 3)).val < cfg0.N := by rw [show cfg0.N = 96 from N_0]; omega
    refine ⟨crd ⟨6 * (β (0 : Fin 3)).val + (β (1 : Fin 3)).val, hN⟩, fun d => ?_⟩
    match d with
    | ⟨0, _⟩ => exact (stream_nat ⟨_, hN⟩).trans (by show (6 * (β (0 : Fin 3)).val + (β (1 : Fin 3)).val) / 6 = (β (0 : Fin 3)).val; omega)
    | ⟨1, _⟩ => exact (tile_nat ⟨_, hN⟩).trans (by show (6 * (β (0 : Fin 3)).val + (β (1 : Fin 3)).val) % 6 = (β (1 : Fin 3)).val; omega)
    | ⟨2, _⟩ => show 0 = (β (2 : Fin 3)).val; omega

theorem arr_17 (c : Dev nD) : (dats m 0 c).arrAt (17 : Fin 21) cfg0.N = (Spec2.outG (m ((c : Thread nD τ).loc main_arg1)) (m ((c : Thread nD τ).loc main_arg0)) (m ((c : Thread nD τ).loc main_arg3)) (m ((c : Thread nD τ).loc main_arg4)) 2048 3072 (by decide) (m ((c : Thread nD τ).loc main_arg5)) : S16x2064x2048.Idx → EReal) := by
  refine (dats m 0 c).arrAt_eq_of_covers (17 : Fin 21) _ covers17 fun t hf y => ?_
  obtain ⟨z, r, o, rfl⟩ : ∃ (z : Fin 1) (r : Fin 344) (o : Fin 2048), y = ix3 z r o :=
    ⟨y 0, y 1, y 2, by funext d; match d with | ⟨0, _⟩ => rfl | ⟨1, _⟩ => rfl | ⟨2, _⟩ => rfl⟩
  have hi : ((cfg0.win (17 : Fin 21)).blk t).view.emb (ix3 z r o) = (ix3 (stream t) (rowAt t r) o : S16x2064x2048.Idx) := by
    funext d
    match d with
    | ⟨0, _⟩ =>
      refine Fin.ext ?_
      show (BitVec.ofNat 32 ((crd t) 0).val).toNat * 1 + 1 * z.val = t.val / 6
      rw [stream_nat]; omega
    | ⟨1, _⟩ =>
      refine Fin.ext ?_
      show (BitVec.ofNat 32 ((crd t) 1).val).toNat * 344 + 1 * r.val = 344 * (t.val % 6) + r.val
      rw [tile_nat]; omega
    | ⟨2, _⟩ => exact Fin.ext (by show 0 * 2048 + 1 * o.val = o.val; omega)
  rw [hi]
  show o17 m c t (ix3 z r o) = Spec2.outG (m ((c : Thread nD τ).loc main_arg1)) (m ((c : Thread nD τ).loc main_arg0)) (m ((c : Thread nD τ).loc main_arg3)) (m ((c : Thread nD τ).loc main_arg4)) 2048 3072 (by decide) (m ((c : Thread nD τ).loc main_arg5)) (ix3 (stream t) (rowAt t r) o)
  unfold o17
  have hw : (fun j => wg (b5 m c t) (ix2 j o)) = Spec2.col 3072 (by decide) (m ((c : Thread nD τ).loc main_arg5)) o := funext fun j => by
    rw [wg_apply, b5_apply]; rfl
  rw [pay13_apply, tl_row, hw]
  rfl

theorem covers19 : (cfg0.win (19 : Fin 21)).Covers :=
  (cfg0.win (19 : Fin 21)).covers_of_indexMap_surj rfl (fun d => match d with | ⟨0, _⟩ => (by decide : 0 < 1) | ⟨1, _⟩ => (by decide : 0 < 344) | ⟨2, _⟩ => (by decide : 0 < 128)) fun β => by
    have nb0 : (cfg0.win (19 : Fin 21)).nblk (0 : Fin 3) = 16 := by show (16 + 1 - 1) / 1 = 16; rfl
    have nb1 : (cfg0.win (19 : Fin 21)).nblk (1 : Fin 3) = 6 := by show (2064 + 344 - 1) / 344 = 6; rfl
    have nb2 : (cfg0.win (19 : Fin 21)).nblk (2 : Fin 3) = 1 := by show (128 + 128 - 1) / 128 = 1; rfl
    have h0 : (β (0 : Fin 3)).val < 16 := lt_of_lt_of_eq (β (0 : Fin 3)).isLt nb0
    have h1 : (β (1 : Fin 3)).val < 6 := lt_of_lt_of_eq (β (1 : Fin 3)).isLt nb1
    have h2 : (β (2 : Fin 3)).val < 1 := lt_of_lt_of_eq (β (2 : Fin 3)).isLt nb2
    have hN : 6 * (β (0 : Fin 3)).val + (β (1 : Fin 3)).val < cfg0.N := by rw [show cfg0.N = 96 from N_0]; omega
    refine ⟨crd ⟨6 * (β (0 : Fin 3)).val + (β (1 : Fin 3)).val, hN⟩, fun d => ?_⟩
    match d with
    | ⟨0, _⟩ => exact (stream_nat ⟨_, hN⟩).trans (by show (6 * (β (0 : Fin 3)).val + (β (1 : Fin 3)).val) / 6 = (β (0 : Fin 3)).val; omega)
    | ⟨1, _⟩ => exact (tile_nat ⟨_, hN⟩).trans (by show (6 * (β (0 : Fin 3)).val + (β (1 : Fin 3)).val) % 6 = (β (1 : Fin 3)).val; omega)
    | ⟨2, _⟩ => show 0 = (β (2 : Fin 3)).val; omega

theorem arr_19 (c : Dev nD) : (dats m 0 c).arrAt (19 : Fin 21) cfg0.N = (Spec2.outF (m ((c : Thread nD τ).loc main_arg1)) (m ((c : Thread nD τ).loc main_arg0)) (m ((c : Thread nD τ).loc main_arg3)) (m ((c : Thread nD τ).loc main_arg4)) (m ((c : Thread nD τ).loc main_arg6)) (m ((c : Thread nD τ).loc main_arg7)) : S16x2064x128.Idx → EReal) := by
  refine (dats m 0 c).arrAt_eq_of_covers (19 : Fin 21) _ covers19 fun t hf y => ?_
  obtain ⟨z, r, o, rfl⟩ : ∃ (z : Fin 1) (r : Fin 344) (o : Fin 128), y = ix3 z r o :=
    ⟨y 0, y 1, y 2, by funext d; match d with | ⟨0, _⟩ => rfl | ⟨1, _⟩ => rfl | ⟨2, _⟩ => rfl⟩
  have hi : ((cfg0.win (19 : Fin 21)).blk t).view.emb (ix3 z r o) = (ix3 (stream t) (rowAt t r) o : S16x2064x128.Idx) := by
    funext d
    match d with
    | ⟨0, _⟩ =>
      refine Fin.ext ?_
      show (BitVec.ofNat 32 ((crd t) 0).val).toNat * 1 + 1 * z.val = t.val / 6
      rw [stream_nat]; omega
    | ⟨1, _⟩ =>
      refine Fin.ext ?_
      show (BitVec.ofNat 32 ((crd t) 1).val).toNat * 344 + 1 * r.val = 344 * (t.val % 6) + r.val
      rw [tile_nat]; omega
    | ⟨2, _⟩ => exact Fin.ext (by show 0 * 128 + 1 * o.val = o.val; omega)
  rw [hi]
  show o19 m c t (ix3 z r o) = Spec2.outF (m ((c : Thread nD τ).loc main_arg1)) (m ((c : Thread nD τ).loc main_arg0)) (m ((c : Thread nD τ).loc main_arg3)) (m ((c : Thread nD τ).loc main_arg4)) (m ((c : Thread nD τ).loc main_arg6)) (m ((c : Thread nD τ).loc main_arg7)) (ix3 (stream t) (rowAt t r) o)
  unfold o19
  have hw : (fun j => b6 m c t (ix2 j o)) = fun j => (m ((c : Thread nD τ).loc main_arg6) : S1024x128.Idx → EReal) (ix2 j o) := funext fun j => b6_apply m c t _
  rw [pay15_apply, tl_row, hw, b7_apply]
  rfl

end Cert.Kernel2Ideal.Inproj
-- ==== Proof.InprojIdeal.Shift.lean ====
module

public import proofs.«01_k».proof.Proof.InprojIdeal.Out
public import Idealize.ShloMosaic.Lib.Pipeline.ValueKit.Geometry
public import Idealize.ShloMosaic.Lib.Pipeline.Covers

@[expose] public section

set_option maxRecDepth 16384

/-! The shifted rows' products, the projection of the row before a stream, and the launch's results. -/

noncomputable section

namespace Cert.Kernel2Ideal.Inproj

open Cert.Kernel2Ideal Cert.Kernel2Ideal.Gen
open Idealize.ShloMosaic
open Idealize.ShloMosaic.TcCoe
open Idealize.SL.Sem

variable (m : (ℓ : Loc nD τ sig) → Buf (Elt Ideal) ℓ)

theorem b8_apply (c : Dev nD) (t : Fin cfg0.N) (y : S3x1024.Idx) : b8 m c t y = (m ((c : Thread nD τ).loc main_arg8) : S3x1024.Idx → EReal) y := by
  show iblk m c (8 : Fin 21) t y = _
  unfold iblk
  refine congrArg (m ((c : Thread nD τ).loc main_arg8) : S3x1024.Idx → EReal) (funext fun d => ?_)
  match d with
  | ⟨0, _⟩ => exact Fin.ext (by show 0 * 3 + 1 * (y 0).val = (y 0).val; omega)
  | ⟨1, _⟩ => exact Fin.ext (by show 0 * 1024 + 1 * (y 1).val = (y 1).val; omega)

theorem b9_apply (c : Dev nD) (t : Fin cfg0.N) (y : S1024x64.Idx) : b9 m c t y = (m ((c : Thread nD τ).loc main_arg9) : S1024x64.Idx → EReal) y := by
  show iblk m c (9 : Fin 21) t y = _
  unfold iblk
  refine congrArg (m ((c : Thread nD τ).loc main_arg9) : S1024x64.Idx → EReal) (funext fun d => ?_)
  match d with
  | ⟨0, _⟩ => exact Fin.ext (by show 0 * 1024 + 1 * (y 0).val = (y 0).val; omega)
  | ⟨1, _⟩ => exact Fin.ext (by show 0 * 64 + 1 * (y 1).val = (y 1).val; omega)

theorem b10_apply (c : Dev nD) (t : Fin cfg0.N) (y : S1024x64.Idx) : b10 m c t y = (m ((c : Thread nD τ).loc main_arg10) : S1024x64.Idx → EReal) y := by
  show iblk m c (10 : Fin 21) t y = _
  unfold iblk
  refine congrArg (m ((c : Thread nD τ).loc main_arg10) : S1024x64.Idx → EReal) (funext fun d => ?_)
  match d with
  | ⟨0, _⟩ => exact Fin.ext (by show 0 * 1024 + 1 * (y 0).val = (y 0).val; omega)
  | ⟨1, _⟩ => exact Fin.ext (by show 0 * 64 + 1 * (y 1).val = (y 1).val; omega)

theorem b11_apply (c : Dev nD) (t : Fin cfg0.N) (y : S1024x128.Idx) : b11 m c t y = (m ((c : Thread nD τ).loc main_arg11) : S1024x128.Idx → EReal) y := by
  show iblk m c (11 : Fin 21) t y = _
  unfold iblk
  refine congrArg (m ((c : Thread nD τ).loc main_arg11) : S1024x128.Idx → EReal) (funext fun d => ?_)
  match d with
  | ⟨0, _⟩ => exact Fin.ext (by show 0 * 1024 + 1 * (y 0).val = (y 0).val; omega)
  | ⟨1, _⟩ => exact Fin.ext (by show 0 * 128 + 1 * (y 1).val = (y 1).val; omega)

theorem b2_apply (c : Dev nD) (t : Fin cfg0.N) (j : Fin 1024) :
    b2 m c t (ix3 0 0 j) = (m ((c : Thread nD τ).loc main_arg2) : S16x1x1024.Idx → EReal) (ix3 (stream t) 0 j) := by
  show iblk m c (2 : Fin 21) t (ix3 0 0 j) = _
  unfold iblk
  refine congrArg (m ((c : Thread nD τ).loc main_arg2) : S16x1x1024.Idx → EReal) (funext fun d => ?_)
  match d with
  | ⟨0, _⟩ =>
    refine Fin.ext ?_
    show (BitVec.ofNat 32 ((crd t) 0).val).toNat * 1 + 1 * 0 = t.val / 6
    rw [stream_nat]; omega
  | ⟨1, _⟩ => rfl
  | ⟨2, _⟩ => exact Fin.ext (by show 0 * 1024 + 1 * j.val = j.val; omega)

/-- The row before a tile's row is the row before it in the sequence. -/
theorem before_apply (c : Dev nD) (t : Fin cfg0.N) (r : Fin 344) (j : Fin 1024) :
    (if r.val = 0 then rowBefore m c t (ix2 0 j) else tl m c t (ix2 ⟨r.val - 1, by omega⟩ j))
      = Spec2.before (m ((c : Thread nD τ).loc main_arg1)) (m ((c : Thread nD τ).loc main_arg0)) (m ((c : Thread nD τ).loc main_arg3)) (m ((c : Thread nD τ).loc main_arg4)) (m ((c : Thread nD τ).loc main_arg2)) (stream t) (rowAt t r) j := by
  have hN := N_lt t
  unfold Spec2.before
  by_cases hr : r.val = 0
  · rw [if_pos hr]
    unfold rowBefore
    by_cases h6 : t.val % 6 = 0
    · rw [if_pos h6, pay4_apply, b2_apply, if_pos (show (rowAt t r).val = 0 by show 344 * (t.val % 6) + r.val = 0; omega)]
    · rw [if_neg h6, if_neg (show ¬ (rowAt t r).val = 0 by show ¬ 344 * (t.val % 6) + r.val = 0; omega)]
      unfold carry
      rw [pay6_apply, tl_apply]
      have e1 : stream ⟨t.val - 1, lt_of_le_of_lt (Nat.sub_le _ _) t.isLt⟩ = stream t := Fin.ext (by show (t.val - 1) / 6 = t.val / 6; omega)
      have e2 : rowAt ⟨t.val - 1, lt_of_le_of_lt (Nat.sub_le _ _) t.isLt⟩ 343 = ⟨(rowAt t r).val - 1, by omega⟩ := Fin.ext (by show 344 * ((t.val - 1) % 6) + 343 = 344 * (t.val % 6) + r.val - 1; omega)
      rw [e1, e2]
  · rw [if_neg hr, if_neg (show ¬ (rowAt t r).val = 0 by show ¬ 344 * (t.val % 6) + r.val = 0; omega), tl_apply]
    exact congrArg (fun q => Spec2.hOf (m ((c : Thread nD τ).loc main_arg1)) (m ((c : Thread nD τ).loc main_arg0)) (m ((c : Thread nD τ).loc main_arg3)) (m ((c : Thread nD τ).loc main_arg4)) (stream t) q j) (Fin.ext (by show 344 * (t.val % 6) + (r.val - 1) = 344 * (t.val % 6) + r.val - 1; omega))

theorem mix_row (c : Dev nD) (t : Fin cfg0.N) (r : Fin 344) (k : Fin 3) :
    (fun j => tl m c t (ix2 r j) + diff (tl m c t) (rowBefore m c t) (ix2 r j) * b8 m c t (ix2 k j))
      = Spec2.mixed (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) k (stream t) (rowAt t r) := funext fun j => by
  unfold diff Spec2.mixed
  rw [pay7_apply, before_apply, tl_apply, b8_apply]

theorem piece16 (c : Dev nD) (t : Fin cfg0.N) (z : Fin 1) (r : Fin 344) (o : Fin 64) :
    k0_pay16 (F := Ideal) (tl m c t) (diff (tl m c t) (rowBefore m c t)) (b8 m c t) (b9 m c t) (ix3 z r o)
      = Spec2.outL (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) (m ((c : Thread nD τ).loc main_arg9)) (m ((c : Thread nD τ).loc main_arg10)) (m ((c : Thread nD τ).loc main_arg11)) (ix3 (stream t) (rowAt t r) ⟨0 + o.val, by omega⟩) := by
  have hw : (fun j => b9 m c t (ix2 j o)) = fun j => (m ((c : Thread nD τ).loc main_arg9) : S1024x64.Idx → EReal) (ix2 j o) := funext fun j => b9_apply m c t _
  rw [pay16_apply, mix_row, hw]
  unfold Spec2.outL
  refine Eq.symm ((dif_pos (show 0 + o.val < 64 by omega)).trans ?_)
  exact congrArg (fun q => Spec2.proj _ (fun j => (m ((c : Thread nD τ).loc main_arg9) : S1024x64.Idx → EReal) (ix2 j q))) (Fin.ext (Nat.zero_add _))

theorem piece17 (c : Dev nD) (t : Fin cfg0.N) (z : Fin 1) (r : Fin 344) (o : Fin 64) :
    k0_pay17 (F := Ideal) (tl m c t) (diff (tl m c t) (rowBefore m c t)) (b8 m c t) (b10 m c t) (ix3 z r o)
      = Spec2.outL (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) (m ((c : Thread nD τ).loc main_arg9)) (m ((c : Thread nD τ).loc main_arg10)) (m ((c : Thread nD τ).loc main_arg11)) (ix3 (stream t) (rowAt t r) ⟨64 + o.val, by omega⟩) := by
  have hw : (fun j => b10 m c t (ix2 j o)) = fun j => (m ((c : Thread nD τ).loc main_arg10) : S1024x64.Idx → EReal) (ix2 j o) := funext fun j => b10_apply m c t _
  rw [pay17_apply, mix_row, hw]
  unfold Spec2.outL
  refine Eq.symm ((dif_neg (show ¬ 64 + o.val < 64 by omega)).trans ((dif_pos (show 64 + o.val < 128 by omega)).trans ?_))
  exact congrArg (fun q => Spec2.proj _ (fun j => (m ((c : Thread nD τ).loc main_arg10) : S1024x64.Idx → EReal) (ix2 j q))) (Fin.ext (Nat.add_sub_cancel_left ..))

theorem piece18 (c : Dev nD) (t : Fin cfg0.N) (z : Fin 1) (r : Fin 344) (o : Fin 128) :
    k0_pay18 (F := Ideal) (tl m c t) (diff (tl m c t) (rowBefore m c t)) (b8 m c t) (b11 m c t) (ix3 z r o)
      = Spec2.outL (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) (m ((c : Thread nD τ).loc main_arg9)) (m ((c : Thread nD τ).loc main_arg10)) (m ((c : Thread nD τ).loc main_arg11)) (ix3 (stream t) (rowAt t r) ⟨128 + o.val, by omega⟩) := by
  have hw : (fun j => b11 m c t (ix2 j o)) = fun j => (m ((c : Thread nD τ).loc main_arg11) : S1024x128.Idx → EReal) (ix2 j o) := funext fun j => b11_apply m c t _
  rw [pay18_apply, mix_row, hw]
  unfold Spec2.outL
  refine Eq.symm ((dif_neg (show ¬ 128 + o.val < 64 by omega)).trans ((dif_neg (show ¬ 128 + o.val < 128 by omega)).trans ?_))
  exact congrArg (fun q => Spec2.proj _ (fun j => (m ((c : Thread nD τ).loc main_arg11) : S1024x128.Idx → EReal) (ix2 j q))) (Fin.ext (Nat.add_sub_cancel_left ..))

theorem low_apply (c : Dev nD) (t : Fin cfg0.N) (y : S1x344x256.Idx) :
    low (tl m c t) (rowBefore m c t) (b8 m c t) (b9 m c t) (b10 m c t) (b11 m c t) y
      = Spec2.outL (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) (m ((c : Thread nD τ).loc main_arg9)) (m ((c : Thread nD τ).loc main_arg10)) (m ((c : Thread nD τ).loc main_arg11)) (ix3 (stream t) (rowAt t (y 1 : Fin 344)) (y 2 : Fin 256)) := by
  unfold low lowParts
  refine View.canon_apply_of_pieces (fun y : S1x344x256.Idx => (Spec2.outL (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) (m ((c : Thread nD τ).loc main_arg9)) (m ((c : Thread nD τ).loc main_arg10)) (m ((c : Thread nD τ).loc main_arg11)) (ix3 (stream t) (rowAt t (y 1 : Fin 344)) (y 2 : Fin 256)) : EReal)) _ ?_ y (low_cover _ _ _ y)
  intro p hp x
  simp only [List.mem_cons, List.not_mem_nil, or_false] at hp
  rcases hp with rfl | rfl | rfl
  · obtain ⟨z, r, o, rfl⟩ : ∃ (z : Fin 1) (r : Fin 344) (o : Fin 128), x = ix3 z r o :=
      ⟨x 0, x 1, x 2, by funext d; match d with | ⟨0, _⟩ => rfl | ⟨1, _⟩ => rfl | ⟨2, _⟩ => rfl⟩
    refine (piece18 m c t z r o).trans ?_
    refine congrArg₂ (fun (q : Fin 344) (q' : Fin 256) => Spec2.outL (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) (m ((c : Thread nD τ).loc main_arg9)) (m ((c : Thread nD τ).loc main_arg10)) (m ((c : Thread nD τ).loc main_arg11)) (ix3 (stream t) (rowAt t q) q')) (Fin.ext ?_) (Fin.ext ?_)
    · show r.val = 0 + 1 * r.val; omega
    · show 128 + o.val = 128 + 1 * o.val; omega
  · obtain ⟨z, r, o, rfl⟩ : ∃ (z : Fin 1) (r : Fin 344) (o : Fin 64), x = ix3 z r o :=
      ⟨x 0, x 1, x 2, by funext d; match d with | ⟨0, _⟩ => rfl | ⟨1, _⟩ => rfl | ⟨2, _⟩ => rfl⟩
    refine (piece17 m c t z r o).trans ?_
    refine congrArg₂ (fun (q : Fin 344) (q' : Fin 256) => Spec2.outL (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) (m ((c : Thread nD τ).loc main_arg9)) (m ((c : Thread nD τ).loc main_arg10)) (m ((c : Thread nD τ).loc main_arg11)) (ix3 (stream t) (rowAt t q) q')) (Fin.ext ?_) (Fin.ext ?_)
    · show r.val = 0 + 1 * r.val; omega
    · show 64 + o.val = 64 + 1 * o.val; omega
  · obtain ⟨z, r, o, rfl⟩ : ∃ (z : Fin 1) (r : Fin 344) (o : Fin 64), x = ix3 z r o :=
      ⟨x 0, x 1, x 2, by funext d; match d with | ⟨0, _⟩ => rfl | ⟨1, _⟩ => rfl | ⟨2, _⟩ => rfl⟩
    refine (piece16 m c t z r o).trans ?_
    refine congrArg₂ (fun (q : Fin 344) (q' : Fin 256) => Spec2.outL (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) (m ((c : Thread nD τ).loc main_arg9)) (m ((c : Thread nD τ).loc main_arg10)) (m ((c : Thread nD τ).loc main_arg11)) (ix3 (stream t) (rowAt t q) q')) (Fin.ext ?_) (Fin.ext ?_)
    · show r.val = 0 + 1 * r.val; omega
    · show 0 + o.val = 0 + 1 * o.val; omega

theorem covers18 : (cfg0.win (18 : Fin 21)).Covers :=
  (cfg0.win (18 : Fin 21)).covers_of_indexMap_surj rfl (fun d => match d with | ⟨0, _⟩ => (by decide : 0 < 1) | ⟨1, _⟩ => (by decide : 0 < 344) | ⟨2, _⟩ => (by decide : 0 < 256)) fun β => by
    have nb0 : (cfg0.win (18 : Fin 21)).nblk (0 : Fin 3) = 16 := by show (16 + 1 - 1) / 1 = 16; rfl
    have nb1 : (cfg0.win (18 : Fin 21)).nblk (1 : Fin 3) = 6 := by show (2064 + 344 - 1) / 344 = 6; rfl
    have nb2 : (cfg0.win (18 : Fin 21)).nblk (2 : Fin 3) = 1 := by show (256 + 256 - 1) / 256 = 1; rfl
    have h0 : (β (0 : Fin 3)).val < 16 := lt_of_lt_of_eq (β (0 : Fin 3)).isLt nb0
    have h1 : (β (1 : Fin 3)).val < 6 := lt_of_lt_of_eq (β (1 : Fin 3)).isLt nb1
    have h2 : (β (2 : Fin 3)).val < 1 := lt_of_lt_of_eq (β (2 : Fin 3)).isLt nb2
    have hN : 6 * (β (0 : Fin 3)).val + (β (1 : Fin 3)).val < cfg0.N := by rw [show cfg0.N = 96 from N_0]; omega
    refine ⟨crd ⟨6 * (β (0 : Fin 3)).val + (β (1 : Fin 3)).val, hN⟩, fun d => ?_⟩
    match d with
    | ⟨0, _⟩ => exact (stream_nat ⟨_, hN⟩).trans (by show (6 * (β (0 : Fin 3)).val + (β (1 : Fin 3)).val) / 6 = (β (0 : Fin 3)).val; omega)
    | ⟨1, _⟩ => exact (tile_nat ⟨_, hN⟩).trans (by show (6 * (β (0 : Fin 3)).val + (β (1 : Fin 3)).val) % 6 = (β (1 : Fin 3)).val; omega)
    | ⟨2, _⟩ => show 0 = (β (2 : Fin 3)).val; omega

theorem arr_18 (c : Dev nD) : (dats m 0 c).arrAt (18 : Fin 21) cfg0.N = (Spec2.outL (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) (m ((c : Thread nD τ).loc main_arg9)) (m ((c : Thread nD τ).loc main_arg10)) (m ((c : Thread nD τ).loc main_arg11)) : S16x2064x256.Idx → EReal) := by
  refine (dats m 0 c).arrAt_eq_of_covers (18 : Fin 21) _ covers18 fun t hf y => ?_
  obtain ⟨z, r, o, rfl⟩ : ∃ (z : Fin 1) (r : Fin 344) (o : Fin 256), y = ix3 z r o :=
    ⟨y 0, y 1, y 2, by funext d; match d with | ⟨0, _⟩ => rfl | ⟨1, _⟩ => rfl | ⟨2, _⟩ => rfl⟩
  have hi : ((cfg0.win (18 : Fin 21)).blk t).view.emb (ix3 z r o) = (ix3 (stream t) (rowAt t r) o : S16x2064x256.Idx) := by
    funext d
    match d with
    | ⟨0, _⟩ =>
      refine Fin.ext ?_
      show (BitVec.ofNat 32 ((crd t) 0).val).toNat * 1 + 1 * z.val = t.val / 6
      rw [stream_nat]; omega
    | ⟨1, _⟩ =>
      refine Fin.ext ?_
      show (BitVec.ofNat 32 ((crd t) 1).val).toNat * 344 + 1 * r.val = 344 * (t.val % 6) + r.val
      rw [tile_nat]; omega
    | ⟨2, _⟩ => exact Fin.ext (by show 0 * 256 + 1 * o.val = o.val; omega)
  rw [hi]
  show o18 m c t (ix3 z r o) = Spec2.outL (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) (m ((c : Thread nD τ).loc main_arg9)) (m ((c : Thread nD τ).loc main_arg10)) (m ((c : Thread nD τ).loc main_arg11)) (ix3 (stream t) (rowAt t r) o)
  unfold o18
  exact low_apply m c t (ix3 z r o)

theorem covers20 : (cfg0.win (20 : Fin 21)).Covers :=
  (cfg0.win (20 : Fin 21)).covers_of_indexMap_surj rfl (fun d => match d with | ⟨0, _⟩ => (by decide : 0 < 1) | ⟨1, _⟩ => (by decide : 0 < 1) | ⟨2, _⟩ => (by decide : 0 < 1536)) fun β => by
    have nb0 : (cfg0.win (20 : Fin 21)).nblk (0 : Fin 3) = 16 := by show (16 + 1 - 1) / 1 = 16; rfl
    have nb1 : (cfg0.win (20 : Fin 21)).nblk (1 : Fin 3) = 1 := by show (1 + 1 - 1) / 1 = 1; rfl
    have nb2 : (cfg0.win (20 : Fin 21)).nblk (2 : Fin 3) = 1 := by show (1536 + 1536 - 1) / 1536 = 1; rfl
    have h0 : (β (0 : Fin 3)).val < 16 := lt_of_lt_of_eq (β (0 : Fin 3)).isLt nb0
    have h1 : (β (1 : Fin 3)).val < 1 := lt_of_lt_of_eq (β (1 : Fin 3)).isLt nb1
    have h2 : (β (2 : Fin 3)).val < 1 := lt_of_lt_of_eq (β (2 : Fin 3)).isLt nb2
    have hN : 6 * (β (0 : Fin 3)).val < cfg0.N := by rw [show cfg0.N = 96 from N_0]; omega
    refine ⟨crd ⟨6 * (β (0 : Fin 3)).val, hN⟩, fun d => ?_⟩
    match d with
    | ⟨0, _⟩ => exact (stream_nat ⟨_, hN⟩).trans (by show (6 * (β (0 : Fin 3)).val) / 6 = (β (0 : Fin 3)).val; omega)
    | ⟨1, _⟩ => show 0 = (β (1 : Fin 3)).val; omega
    | ⟨2, _⟩ => show 0 = (β (2 : Fin 3)).val; omega

theorem arr_20 (c : Dev nD) : (dats m 0 c).arrAt (20 : Fin 21) cfg0.N = (Spec2.outR (m ((c : Thread nD τ).loc main_arg2)) (m ((c : Thread nD τ).loc main_arg5)) : S16x1x1536.Idx → EReal) := by
  refine (dats m 0 c).arrAt_eq_of_covers (20 : Fin 21) _ covers20 fun t hf y => ?_
  obtain ⟨z, z', o, rfl⟩ : ∃ (z z' : Fin 1) (o : Fin 1536), y = ix3 z z' o :=
    ⟨y 0, y 1, y 2, by funext d; match d with | ⟨0, _⟩ => rfl | ⟨1, _⟩ => rfl | ⟨2, _⟩ => rfl⟩
  have hi : ((cfg0.win (20 : Fin 21)).blk t).view.emb (ix3 z z' o) = (ix3 (stream t) z' o : S16x1x1536.Idx) := by
    funext d
    match d with
    | ⟨0, _⟩ =>
      refine Fin.ext ?_
      show (BitVec.ofNat 32 ((crd t) 0).val).toNat * 1 + 1 * z.val = t.val / 6
      rw [stream_nat]; omega
    | ⟨1, _⟩ => exact Fin.ext (by show 0 * 1 + 1 * z'.val = z'.val; omega)
    | ⟨2, _⟩ => exact Fin.ext (by show 0 * 1536 + 1 * o.val = o.val; omega)
  rw [hi]
  show o20 m c t (ix3 z z' o) = Spec2.outR (m ((c : Thread nD τ).loc main_arg2)) (m ((c : Thread nD τ).loc main_arg5)) (ix3 (stream t) z' o)
  unfold o20
  have hw : (fun j => wr (b5 m c t) (ix2 j o)) = Spec2.col 1536 (by decide) (m ((c : Thread nD τ).loc main_arg5)) o := funext fun j => by
    rw [wr_apply, b5_apply]; rfl
  have hq : (fun j => b2 m c t (ix3 0 0 j)) = fun j => (m ((c : Thread nD τ).loc main_arg2) : S16x1x1024.Idx → EReal) (ix3 (stream t) 0 j) := funext fun j => b2_apply m c t j
  rw [pay5_apply, hq, hw]
  rfl

/-- What the launch leaves: its results are the projection of its arguments, and its arguments are unchanged. -/
theorem run_values (ρ : Dev nD → PrngReg) :
    θ_run (defs (F := Ideal)) (onTc (τ := τ) (main (F := Ideal))) ⟨m, fun _ => 0, ρ⟩ (fun r =>
      (∀ c : Dev nD, r.2.mem ((c.tc : Thread nD τ).loc main_v0_0) = (Spec2.outH (m ((c : Thread nD τ).loc main_arg1)) (m ((c : Thread nD τ).loc main_arg0)) (m ((c : Thread nD τ).loc main_arg3)) (m ((c : Thread nD τ).loc main_arg4)) : S16x2064x1024.Idx → EReal)
        ∧ r.2.mem ((c.tc : Thread nD τ).loc main_v0_1) = (Spec2.outP (m ((c : Thread nD τ).loc main_arg1)) (m ((c : Thread nD τ).loc main_arg0)) (m ((c : Thread nD τ).loc main_arg3)) (m ((c : Thread nD τ).loc main_arg4)) 512 0 (by decide) (m ((c : Thread nD τ).loc main_arg5)) : S16x2064x512.Idx → EReal)
        ∧ r.2.mem ((c.tc : Thread nD τ).loc main_v0_2) = (Spec2.outP (m ((c : Thread nD τ).loc main_arg1)) (m ((c : Thread nD τ).loc main_arg0)) (m ((c : Thread nD τ).loc main_arg3)) (m ((c : Thread nD τ).loc main_arg4)) 512 512 (by decide) (m ((c : Thread nD τ).loc main_arg5)) : S16x2064x512.Idx → EReal)
        ∧ r.2.mem ((c.tc : Thread nD τ).loc main_v0_3) = (Spec2.outP (m ((c : Thread nD τ).loc main_arg1)) (m ((c : Thread nD τ).loc main_arg0)) (m ((c : Thread nD τ).loc main_arg3)) (m ((c : Thread nD τ).loc main_arg4)) 512 1024 (by decide) (m ((c : Thread nD τ).loc main_arg5)) : S16x2064x512.Idx → EReal)
        ∧ r.2.mem ((c.tc : Thread nD τ).loc main_v0_4) = (Spec2.outP (m ((c : Thread nD τ).loc main_arg1)) (m ((c : Thread nD τ).loc main_arg0)) (m ((c : Thread nD τ).loc main_arg3)) (m ((c : Thread nD τ).loc main_arg4)) 1536 1536 (by decide) (m ((c : Thread nD τ).loc main_arg5)) : S16x2064x1536.Idx → EReal)
        ∧ r.2.mem ((c.tc : Thread nD τ).loc main_v0_5) = (Spec2.outG (m ((c : Thread nD τ).loc main_arg1)) (m ((c : Thread nD τ).loc main_arg0)) (m ((c : Thread nD τ).loc main_arg3)) (m ((c : Thread nD τ).loc main_arg4)) 2048 3072 (by decide) (m ((c : Thread nD τ).loc main_arg5)) : S16x2064x2048.Idx → EReal)
        ∧ r.2.mem ((c.tc : Thread nD τ).loc main_v0_6) = (Spec2.outL (m ((c : Thread nD τ).loc main_arg1)) (m ((c : Thread nD τ).loc main_arg0)) (m ((c : Thread nD τ).loc main_arg3)) (m ((c : Thread nD τ).loc main_arg4)) (m ((c : Thread nD τ).loc main_arg2)) (m ((c : Thread nD τ).loc main_arg8)) (m ((c : Thread nD τ).loc main_arg9)) (m ((c : Thread nD τ).loc main_arg10)) (m ((c : Thread nD τ).loc main_arg11)) : S16x2064x256.Idx → EReal)
        ∧ r.2.mem ((c.tc : Thread nD τ).loc main_v0_7) = (Spec2.outF (m ((c : Thread nD τ).loc main_arg1)) (m ((c : Thread nD τ).loc main_arg0)) (m ((c : Thread nD τ).loc main_arg3)) (m ((c : Thread nD τ).loc main_arg4)) (m ((c : Thread nD τ).loc main_arg6)) (m ((c : Thread nD τ).loc main_arg7)) : S16x2064x128.Idx → EReal)
        ∧ r.2.mem ((c.tc : Thread nD τ).loc main_v0_8) = (Spec2.outR (m ((c : Thread nD τ).loc main_arg2)) (m ((c : Thread nD τ).loc main_arg5)) : S16x1x1536.Idx → EReal))
      ∧ Same m r.2) :=
  (θ_run defs _ _).mono (fun r h => ⟨fun c => ⟨(h.1 c (12 : Fin 21)).trans (arr_12 m c),
    (h.1 c (13 : Fin 21)).trans (arr_13 m c),
    (h.1 c (14 : Fin 21)).trans (arr_14 m c),
    (h.1 c (15 : Fin 21)).trans (arr_15 m c),
    (h.1 c (16 : Fin 21)).trans (arr_16 m c),
    (h.1 c (17 : Fin 21)).trans (arr_17 m c),
    (h.1 c (18 : Fin 21)).trans (arr_18 m c),
    (h.1 c (19 : Fin 21)).trans (arr_19 m c),
    (h.1 c (20 : Fin 21)).trans (arr_20 m c)⟩, same_of_QC m r h.1⟩) (run_main_quiescent m ρ)

end Cert.Kernel2Ideal.Inproj
-- ==== Proof.Ref2.Out.lean ====
module

public import proofs.«01_k».proof.Proof.Gen.Reference2Ideal.Run
public import proofs.«01_k».proof.Proof.Spec2

@[expose] public section

set_option maxRecDepth 16384

/-! The reference's projection, element by element. -/

noncomputable section

namespace Cert.Reference2Ideal.Value

open Cert.Reference2Ideal Cert.Reference2Ideal.Gen
open Idealize.ShloMosaic Idealize.ShloMosaic.StableHlo
open Idealize.ShloMosaic.TcCoe
open Idealize.SL Idealize.SL.Sem

/-- The whole sequence. -/
def seq (x : FVec Ideal S16x2048x1024 .f32) (p : FVec Ideal S16x1024 .f32) : FVec Ideal S16x2064x1024 .f32 :=
  concatenate S16x2064x1024 1 [⟨S16x16x1024, (broadcastInDim S16x16x1024 ![1, 2] bcast_S16x1024_S16x16x1024_1_2 p)⟩, ⟨S16x2048x1024, x⟩] concatenates_S16x16x1024_S16x2048x1024_S16x2064x1024_d1

theorem seq_apply (x : FVec Ideal S16x2048x1024 .f32) (p : FVec Ideal S16x1024 .f32) (b : Fin 16) (r : Fin 2064) (j : Fin 1024) :
    seq x p (ix3 b r j) = Spec2.row p x b r j := by
  unfold seq
  pointwise
  rfl

/-- The normalised sequence. -/
def lnAll (u : FVec Ideal S16x2064x1024 .f32) (g b : FVec Ideal S1x1024 .f32) : FVec Ideal S16x2064x1024 .f32 :=
  addf (mulf (mulf (subf u (broadcastInDim S16x2064x1024 ![0, 1, 2] bcast_S16x2064x1_S16x2064x1024_0_1_2 (Host.divf (broadcastInDim S16x2064x1 ![0, 1] bcast_S16x2064_S16x2064x1_0_1 (Host.reduceAdd u (constant S_ .f32 0x00000000#32) reducesTo_S16x2064x1024_S16x2064_d2 h_S_)) (broadcastInDim S16x2064x1 ![] bcast_S_S16x2064x1 (constant S_ .f32 0x44800000#32))))) (broadcastInDim S16x2064x1024 ![0, 1, 2] bcast_S16x2064x1_S16x2064x1024_0_1_2 (Host.rsqrt (addf (Host.divf (broadcastInDim S16x2064x1 ![0, 1] bcast_S16x2064_S16x2064x1_0_1 (Host.reduceAdd (mulf (subf u (broadcastInDim S16x2064x1024 ![0, 1, 2] bcast_S16x2064x1_S16x2064x1024_0_1_2 (Host.divf (broadcastInDim S16x2064x1 ![0, 1] bcast_S16x2064_S16x2064x1_0_1 (Host.reduceAdd u (constant S_ .f32 0x00000000#32) reducesTo_S16x2064x1024_S16x2064_d2 h_S_)) (broadcastInDim S16x2064x1 ![] bcast_S_S16x2064x1 (constant S_ .f32 0x44800000#32))))) (subf u (broadcastInDim S16x2064x1024 ![0, 1, 2] bcast_S16x2064x1_S16x2064x1024_0_1_2 (Host.divf (broadcastInDim S16x2064x1 ![0, 1] bcast_S16x2064_S16x2064x1_0_1 (Host.reduceAdd u (constant S_ .f32 0x00000000#32) reducesTo_S16x2064x1024_S16x2064_d2 h_S_)) (broadcastInDim S16x2064x1 ![] bcast_S_S16x2064x1 (constant S_ .f32 0x44800000#32)))))) (constant S_ .f32 0x00000000#32) reducesTo_S16x2064x1024_S16x2064_d2 h_S_)) (broadcastInDim S16x2064x1 ![] bcast_S_S16x2064x1 (constant S_ .f32 0x44800000#32))) (broadcastInDim S16x2064x1 ![] bcast_S_S16x2064x1 (constant S_ .f32 0x3727C5AC#32)))))) (broadcastInDim S16x2064x1024 ![0, 1, 2] bcast_S1x1x1024_S16x2064x1024_0_1_2 (broadcastInDim S1x1x1024 ![1, 2] bcast_S1x1024_S1x1x1024_1_2 g))) (broadcastInDim S16x2064x1024 ![0, 1, 2] bcast_S1x1x1024_S16x2064x1024_0_1_2 (broadcastInDim S1x1x1024 ![1, 2] bcast_S1x1024_S1x1x1024_1_2 b))

theorem lnAll_apply (u : FVec Ideal S16x2064x1024 .f32) (g b : FVec Ideal S1x1024 .f32) (s : Fin 16) (r : Fin 2064) (o : Fin 1024) :
    lnAll u g b (ix3 s r o) = Spec2.norm (fun j => u (ix3 s r j)) (fun j => g (ix2 0 j)) (fun j => b (ix2 0 j)) o := by
  unfold lnAll
  pointwise
  simp only [Spec2.norm, Spec2.mean]

def hQ (h : FVec Ideal S16x2064x1024 .f32) (w : FVec Ideal S1024x5120 .bf16) : FVec Ideal S16x2064x512 .bf16 :=
  truncf .bf16 (extractStridedSlice S16x2064x512 ![0, 0, 0] (Host.dotGeneral dot_S16x2064x1024_S1024x5120_S16x2064x5120_2_0_01_1_n_n none h (extf .f32 w bitsLt_bf16_f32)) slices_S16x2064x5120_S16x2064x512_0_0_0) bitsLt_bf16_f32

theorem hQ_apply (h : FVec Ideal S16x2064x1024 .f32) (w : FVec Ideal S1024x5120 .bf16) (s : Fin 16) (r : Fin 2064) (o : Fin 512) :
    hQ h w (ix3 s r o) = Spec2.proj (fun j => h (ix3 s r j)) (fun j => w (ix2 j ⟨0 + o.val, by omega⟩)) := by
  unfold hQ
  pointwise [dot_S16x2064x1024_S1024x5120_S16x2064x5120_2_0_01_1_n_n]
  simp only [Spec2.proj, Spec2.gate]

def hK (h : FVec Ideal S16x2064x1024 .f32) (w : FVec Ideal S1024x5120 .bf16) : FVec Ideal S16x2064x512 .f32 :=
  extractStridedSlice S16x2064x512 ![0, 0, 512] (Host.dotGeneral dot_S16x2064x1024_S1024x5120_S16x2064x5120_2_0_01_1_n_n none h (extf .f32 w bitsLt_bf16_f32)) slices_S16x2064x5120_S16x2064x512_0_0_512

theorem hK_apply (h : FVec Ideal S16x2064x1024 .f32) (w : FVec Ideal S1024x5120 .bf16) (s : Fin 16) (r : Fin 2064) (o : Fin 512) :
    hK h w (ix3 s r o) = Spec2.proj (fun j => h (ix3 s r j)) (fun j => w (ix2 j ⟨512 + o.val, by omega⟩)) := by
  unfold hK
  pointwise [dot_S16x2064x1024_S1024x5120_S16x2064x5120_2_0_01_1_n_n]
  simp only [Spec2.proj, Spec2.gate]

def hV (h : FVec Ideal S16x2064x1024 .f32) (w : FVec Ideal S1024x5120 .bf16) : FVec Ideal S16x2064x512 .f32 :=
  extractStridedSlice S16x2064x512 ![0, 0, 1024] (Host.dotGeneral dot_S16x2064x1024_S1024x5120_S16x2064x5120_2_0_01_1_n_n none h (extf .f32 w bitsLt_bf16_f32)) slices_S16x2064x5120_S16x2064x512_0_0_1024

theorem hV_apply (h : FVec Ideal S16x2064x1024 .f32) (w : FVec Ideal S1024x5120 .bf16) (s : Fin 16) (r : Fin 2064) (o : Fin 512) :
    hV h w (ix3 s r o) = Spec2.proj (fun j => h (ix3 s r j)) (fun j => w (ix2 j ⟨1024 + o.val, by omega⟩)) := by
  unfold hV
  pointwise [dot_S16x2064x1024_S1024x5120_S16x2064x5120_2_0_01_1_n_n]
  simp only [Spec2.proj, Spec2.gate]

def hR (h : FVec Ideal S16x2064x1024 .f32) (w : FVec Ideal S1024x5120 .bf16) : FVec Ideal S16x2064x1536 .bf16 :=
  truncf .bf16 (extractStridedSlice S16x2064x1536 ![0, 0, 1536] (Host.dotGeneral dot_S16x2064x1024_S1024x5120_S16x2064x5120_2_0_01_1_n_n none h (extf .f32 w bitsLt_bf16_f32)) slices_S16x2064x5120_S16x2064x1536_0_0_1536) bitsLt_bf16_f32

theorem hR_apply (h : FVec Ideal S16x2064x1024 .f32) (w : FVec Ideal S1024x5120 .bf16) (s : Fin 16) (r : Fin 2064) (o : Fin 1536) :
    hR h w (ix3 s r o) = Spec2.proj (fun j => h (ix3 s r j)) (fun j => w (ix2 j ⟨1536 + o.val, by omega⟩)) := by
  unfold hR
  pointwise [dot_S16x2064x1024_S1024x5120_S16x2064x5120_2_0_01_1_n_n]
  simp only [Spec2.proj, Spec2.gate]

def hG (h : FVec Ideal S16x2064x1024 .f32) (w : FVec Ideal S1024x5120 .bf16) : FVec Ideal S16x2064x2048 .bf16 :=
  truncf .bf16 (Host.divf (broadcastInDim S16x2064x2048 ![] bcast_S_S16x2064x2048 (constant S_ .f32 0x3F800000#32)) (addf (broadcastInDim S16x2064x2048 ![] bcast_S_S16x2064x2048 (constant S_ .f32 0x3F800000#32)) (Host.exp (Host.negf (extractStridedSlice S16x2064x2048 ![0, 0, 3072] (Host.dotGeneral dot_S16x2064x1024_S1024x5120_S16x2064x5120_2_0_01_1_n_n none h (extf .f32 w bitsLt_bf16_f32)) slices_S16x2064x5120_S16x2064x2048_0_0_3072))))) bitsLt_bf16_f32

theorem hG_apply (h : FVec Ideal S16x2064x1024 .f32) (w : FVec Ideal S1024x5120 .bf16) (s : Fin 16) (r : Fin 2064) (o : Fin 2048) :
    hG h w (ix3 s r o) = Spec2.gate (Spec2.proj (fun j => h (ix3 s r j)) (fun j => w (ix2 j ⟨3072 + o.val, by omega⟩))) := by
  unfold hG
  pointwise [dot_S16x2064x1024_S1024x5120_S16x2064x5120_2_0_01_1_n_n]
  simp only [Spec2.proj, Spec2.gate]

def preF (h : FVec Ideal S16x2064x1024 .f32) (w : FVec Ideal S1024x128 .bf16) (b : FVec Ideal S1x128 .f32) : FVec Ideal S16x2064x128 .f32 :=
  addf (Host.dotGeneral dot_S16x2064x1024_S1024x128_S16x2064x128_2_0_01_1_n_n none h (extf .f32 w bitsLt_bf16_f32)) (broadcastInDim S16x2064x128 ![0, 1, 2] bcast_S1x1x128_S16x2064x128_0_1_2 (broadcastInDim S1x1x128 ![1, 2] bcast_S1x128_S1x1x128_1_2 b))

theorem preF_apply (h : FVec Ideal S16x2064x1024 .f32) (w : FVec Ideal S1024x128 .bf16) (b : FVec Ideal S1x128 .f32) (s : Fin 16) (r : Fin 2064) (o : Fin 128) :
    preF h w b (ix3 s r o) = Spec2.proj (fun j => h (ix3 s r j)) (fun j => w (ix2 j o)) + b (ix2 0 o) := by
  unfold preF
  pointwise [dot_S16x2064x1024_S1024x128_S16x2064x128_2_0_01_1_n_n]
  simp only [Spec2.proj]

def lsOf (z : FVec Ideal S16x2064x128 .f32) : FVec Ideal S16x2064x128 .f32 :=
  Host.negf (select (cmpf .une (subf (Host.negf z) (broadcastInDim S16x2064x128 ![] bcast_S_S16x2064x128 (constant S_ .f32 0x00000000#32))) (subf (Host.negf z) (broadcastInDim S16x2064x128 ![] bcast_S_S16x2064x128 (constant S_ .f32 0x00000000#32)))) (addf (Host.negf z) (broadcastInDim S16x2064x128 ![] bcast_S_S16x2064x128 (constant S_ .f32 0x00000000#32))) (addf (maximumf (Host.negf z) (broadcastInDim S16x2064x128 ![] bcast_S_S16x2064x128 (constant S_ .f32 0x00000000#32))) (Host.log1p (Host.exp (Host.negf (Host.absf (subf (Host.negf z) (broadcastInDim S16x2064x128 ![] bcast_S_S16x2064x128 (constant S_ .f32 0x00000000#32)))))))))

theorem lsOf_apply (z : FVec Ideal S16x2064x128 .f32) (s : Fin 16) (r : Fin 2064) (o : Fin 128) :
    lsOf z (ix3 s r o) = Spec2.logf (z (ix3 s r o)) := by
  unfold lsOf
  pointwise
  simp only [Spec2.logf]
  rw [if_neg (fun h => h rfl)]
  rfl

def shiftDiff (h : FVec Ideal S16x2064x1024 .f32) (q : FVec Ideal S16x1x1024 .f32) : FVec Ideal S16x2064x1024 .f32 :=
  subf (concatenate S16x2064x1024 1 [⟨S16x1x1024, q⟩, ⟨S16x2063x1024, (extractStridedSlice S16x2063x1024 ![0, 0, 0] h slices_S16x2064x1024_S16x2063x1024_0_0_0)⟩] concatenates_S16x1x1024_S16x2063x1024_S16x2064x1024_d1) h

theorem shiftDiff_apply (h : FVec Ideal S16x2064x1024 .f32) (q : FVec Ideal S16x1x1024 .f32) (s : Fin 16) (r : Fin 2064) (j : Fin 1024) :
    shiftDiff h q (ix3 s r j) = (if r.val = 0 then q (ix3 s 0 j) else h (ix3 s ⟨r.val - 1, by omega⟩ j)) - h (ix3 s r j) := by
  unfold shiftDiff
  pointwise
  by_cases hr : r.val = 0
  · rw [if_pos hr, dif_pos (show r.val < 1 by omega)]
    exact congrArg (fun u => q (ix3 s u j) - h (ix3 s r j)) (Subsingleton.elim _ _)
  · rw [if_neg hr, dif_neg (show ¬ r.val < 1 by omega)]

def mix0 (h d : FVec Ideal S16x2064x1024 .f32) (mu : FVec Ideal S3x1024 .f32) : FVec Ideal S16x2064x1024 .f32 :=
  addf h (mulf d (broadcastInDim S16x2064x1024 ![0, 1, 2] bcast_S1x1x1024_S16x2064x1024_0_1_2 (broadcastInDim S1x1x1024 ![2] bcast_S1024_S1x1x1024_2 (shapeCast _ (extractStridedSlice S1x1024 ![0, 0] mu slices_S3x1024_S1x1024_0_0) shapeCasts_S1x1024_S1024))))

theorem mix0_apply (h d : FVec Ideal S16x2064x1024 .f32) (mu : FVec Ideal S3x1024 .f32) (s : Fin 16) (r : Fin 2064) (j : Fin 1024) :
    mix0 h d mu (ix3 s r j) = h (ix3 s r j) + d (ix3 s r j) * mu (ix2 0 j) := by
  unfold mix0
  pointwise

def mix1 (h d : FVec Ideal S16x2064x1024 .f32) (mu : FVec Ideal S3x1024 .f32) : FVec Ideal S16x2064x1024 .f32 :=
  addf h (mulf d (broadcastInDim S16x2064x1024 ![0, 1, 2] bcast_S1x1x1024_S16x2064x1024_0_1_2 (broadcastInDim S1x1x1024 ![2] bcast_S1024_S1x1x1024_2 (shapeCast _ (extractStridedSlice S1x1024 ![1, 0] mu slices_S3x1024_S1x1024_1_0) shapeCasts_S1x1024_S1024))))

theorem mix1_apply (h d : FVec Ideal S16x2064x1024 .f32) (mu : FVec Ideal S3x1024 .f32) (s : Fin 16) (r : Fin 2064) (j : Fin 1024) :
    mix1 h d mu (ix3 s r j) = h (ix3 s r j) + d (ix3 s r j) * mu (ix2 1 j) := by
  unfold mix1
  pointwise

def mix2 (h d : FVec Ideal S16x2064x1024 .f32) (mu : FVec Ideal S3x1024 .f32) : FVec Ideal S16x2064x1024 .f32 :=
  addf h (mulf d (broadcastInDim S16x2064x1024 ![0, 1, 2] bcast_S1x1x1024_S16x2064x1024_0_1_2 (broadcastInDim S1x1x1024 ![2] bcast_S1024_S1x1x1024_2 (shapeCast _ (extractStridedSlice S1x1024 ![2, 0] mu slices_S3x1024_S1x1024_2_0) shapeCasts_S1x1024_S1024))))

theorem mix2_apply (h d : FVec Ideal S16x2064x1024 .f32) (mu : FVec Ideal S3x1024 .f32) (s : Fin 16) (r : Fin 2064) (j : Fin 1024) :
    mix2 h d mu (ix3 s r j) = h (ix3 s r j) + d (ix3 s r j) * mu (ix2 2 j) := by
  unfold mix2
  pointwise

def dot64 (u : FVec Ideal S16x2064x1024 .f32) (w : FVec Ideal S1024x64 .bf16) : FVec Ideal S16x2064x64 .f32 :=
  Host.dotGeneral dot_S16x2064x1024_S1024x64_S16x2064x64_2_0_01_1_n_n none u (extf .f32 w bitsLt_bf16_f32)

theorem dot64_apply (u : FVec Ideal S16x2064x1024 .f32) (w : FVec Ideal S1024x64 .bf16) (s : Fin 16) (r : Fin 2064) (o : Fin 64) :
    dot64 u w (ix3 s r o) = Spec2.proj (fun j => u (ix3 s r j)) (fun j => w (ix2 j o)) := by
  unfold dot64
  pointwise [dot_S16x2064x1024_S1024x64_S16x2064x64_2_0_01_1_n_n]
  simp only [Spec2.proj]

def dot128 (u : FVec Ideal S16x2064x1024 .f32) (w : FVec Ideal S1024x128 .bf16) : FVec Ideal S16x2064x128 .f32 :=
  Host.dotGeneral dot_S16x2064x1024_S1024x128_S16x2064x128_2_0_01_1_n_n none u (extf .f32 w bitsLt_bf16_f32)

theorem dot128_apply (u : FVec Ideal S16x2064x1024 .f32) (w : FVec Ideal S1024x128 .bf16) (s : Fin 16) (r : Fin 2064) (o : Fin 128) :
    dot128 u w (ix3 s r o) = Spec2.proj (fun j => u (ix3 s r j)) (fun j => w (ix2 j o)) := by
  unfold dot128
  pointwise [dot_S16x2064x1024_S1024x128_S16x2064x128_2_0_01_1_n_n]
  simp only [Spec2.proj]

def beside (u v : FVec Ideal S16x2064x64 .f32) (w : FVec Ideal S16x2064x128 .f32) : FVec Ideal S16x2064x256 .f32 :=
  concatenate S16x2064x256 2 [⟨S16x2064x64, u⟩, ⟨S16x2064x64, v⟩, ⟨S16x2064x128, w⟩] concatenates_S16x2064x64_S16x2064x64_S16x2064x128_S16x2064x256_d2

theorem beside_apply (u v : FVec Ideal S16x2064x64 .f32) (w : FVec Ideal S16x2064x128 .f32) (s : Fin 16) (r : Fin 2064) (o : Fin 256) :
    beside u v w (ix3 s r o) = if h : o.val < 64 then u (ix3 s r ⟨o.val, h⟩) else if h' : o.val < 128 then v (ix3 s r ⟨o.val - 64, by omega⟩) else w (ix3 s r ⟨o.val - 128, by omega⟩) := by
  unfold beside
  pointwise
  by_cases h : o.val < 64
  · rw [dif_pos h, dif_pos h]
  · rw [dif_neg h, dif_neg h]
    by_cases h' : o.val < 128
    · rw [dif_pos h', dif_pos (show o.val - 64 < 64 by omega)]
    · rw [dif_neg h', dif_neg (show ¬ o.val - 64 < 64 by omega)]
      exact congrArg (fun q => w (ix3 s r q)) (Fin.ext (by show o.val - 64 - 64 = o.val - 128; omega))

def prevDot (q : FVec Ideal S16x1x1024 .f32) (w : FVec Ideal S1024x5120 .bf16) : FVec Ideal S16x1x1536 .f32 :=
  Host.dotGeneral dot_S16x1x1024_S1024x1536_S16x1x1536_2_0_01_1_n_n none q (extf .f32 (extractStridedSlice S1024x1536 ![0, 1536] w slices_S1024x5120_S1024x1536_0_1536) bitsLt_bf16_f32)

theorem prevDot_apply (q : FVec Ideal S16x1x1024 .f32) (w : FVec Ideal S1024x5120 .bf16) (s : Fin 16) (z : Fin 1) (o : Fin 1536) :
    prevDot q w (ix3 s z o) = Spec2.proj (fun j => q (ix3 s 0 j)) (fun j => w (ix2 j ⟨1536 + o.val, by omega⟩)) := by
  obtain rfl : z = 0 := Subsingleton.elim _ _
  unfold prevDot
  pointwise [dot_S16x1x1024_S1024x1536_S16x1x1536_2_0_01_1_n_n]
  simp only [Spec2.proj]

variable (m : (ℓ : Loc nD τ sig) → Buf (Elt Ideal) ℓ) (c : Dev nD)

/-- The normalised sequence of a memory. -/
def hOf : FVec Ideal S16x2064x1024 .f32 :=
  lnAll (seq (m ((c.tc : Thread nD τ).loc main_arg0)) (m ((c.tc : Thread nD τ).loc main_arg1))) (m ((c.tc : Thread nD τ).loc main_arg3)) (m ((c.tc : Thread nD τ).loc main_arg4))

theorem res38 : res_main_v38 m c = lsOf (preF (hOf m c) (m ((c.tc : Thread nD τ).loc main_arg6)) (m ((c.tc : Thread nD τ).loc main_arg7))) := by
  unfold res_main_v38
  rfl

theorem res66 : res_main_v66 m c = beside (dot64 (mix0 (hOf m c) (shiftDiff (hOf m c) (m ((c.tc : Thread nD τ).loc main_arg2))) (m ((c.tc : Thread nD τ).loc main_arg8))) (m ((c.tc : Thread nD τ).loc main_arg9))) (dot64 (mix1 (hOf m c) (shiftDiff (hOf m c) (m ((c.tc : Thread nD τ).loc main_arg2))) (m ((c.tc : Thread nD τ).loc main_arg8))) (m ((c.tc : Thread nD τ).loc main_arg10))) (dot128 (mix2 (hOf m c) (shiftDiff (hOf m c) (m ((c.tc : Thread nD τ).loc main_arg2))) (m ((c.tc : Thread nD τ).loc main_arg8))) (m ((c.tc : Thread nD τ).loc main_arg11))) := by
  unfold res_main_v66
  rfl

theorem h_row (s : Fin 16) (r : Fin 2064) :
    (fun j => hOf m c (ix3 s r j)) = Spec2.hOf (m ((c.tc : Thread nD τ).loc main_arg1)) (m ((c.tc : Thread nD τ).loc main_arg0)) (m ((c.tc : Thread nD τ).loc main_arg3)) (m ((c.tc : Thread nD τ).loc main_arg4)) (s) (r) := funext fun o => by
  unfold hOf Spec2.hOf
  rw [lnAll_apply]
  exact congrArg (fun u => Spec2.norm u _ _ o) (funext fun j => seq_apply _ _ s r j)

theorem ix3_surj {n : Nat} (y : (⟨3, ![16, 2064, n]⟩ : Shape).Idx) : ∃ (s : Fin 16) (r : Fin 2064) (o : Fin n), y = ix3 s r o :=
  ⟨y 0, y 1, y 2, by funext d; match d with | ⟨0, _⟩ => rfl | ⟨1, _⟩ => rfl | ⟨2, _⟩ => rfl⟩

theorem eH : hOf m c = Spec2.outH (m ((c.tc : Thread nD τ).loc main_arg1)) (m ((c.tc : Thread nD τ).loc main_arg0)) (m ((c.tc : Thread nD τ).loc main_arg3)) (m ((c.tc : Thread nD τ).loc main_arg4)) := by
  funext y
  obtain ⟨s, r, o, rfl⟩ := ix3_surj y
  exact congrFun (h_row m c s r) o

theorem pQ : hQ (hOf m c) (m ((c.tc : Thread nD τ).loc main_arg5)) = Spec2.outP (m ((c.tc : Thread nD τ).loc main_arg1)) (m ((c.tc : Thread nD τ).loc main_arg0)) (m ((c.tc : Thread nD τ).loc main_arg3)) (m ((c.tc : Thread nD τ).loc main_arg4)) 512 0 (by decide) (m ((c.tc : Thread nD τ).loc main_arg5)) := by
  funext y
  obtain ⟨s, r, o, rfl⟩ := ix3_surj y
  rw [hQ_apply, h_row]
  rfl

theorem pK : hK (hOf m c) (m ((c.tc : Thread nD τ).loc main_arg5)) = Spec2.outP (m ((c.tc : Thread nD τ).loc main_arg1)) (m ((c.tc : Thread nD τ).loc main_arg0)) (m ((c.tc : Thread nD τ).loc main_arg3)) (m ((c.tc : Thread nD τ).loc main_arg4)) 512 512 (by decide) (m ((c.tc : Thread nD τ).loc main_arg5)) := by
  funext y
  obtain ⟨s, r, o, rfl⟩ := ix3_surj y
  rw [hK_apply, h_row]
  rfl

theorem pV : hV (hOf m c) (m ((c.tc : Thread nD τ).loc main_arg5)) = Spec2.outP (m ((c.tc : Thread nD τ).loc main_arg1)) (m ((c.tc : Thread nD τ).loc main_arg0)) (m ((c.tc : Thread nD τ).loc main_arg3)) (m ((c.tc : Thread nD τ).loc main_arg4)) 512 1024 (by decide) (m ((c.tc : Thread nD τ).loc main_arg5)) := by
  funext y
  obtain ⟨s, r, o, rfl⟩ := ix3_surj y
  rw [hV_apply, h_row]
  rfl

theorem pR : hR (hOf m c) (m ((c.tc : Thread nD τ).loc main_arg5)) = Spec2.outP (m ((c.tc : Thread nD τ).loc main_arg1)) (m ((c.tc : Thread nD τ).loc main_arg0)) (m ((c.tc : Thread nD τ).loc main_arg3)) (m ((c.tc : Thread nD τ).loc main_arg4)) 1536 1536 (by decide) (m ((c.tc : Thread nD τ).loc main_arg5)) := by
  funext y
  obtain ⟨s, r, o, rfl⟩ := ix3_surj y
  rw [hR_apply, h_row]
  rfl

theorem pG : hG (hOf m c) (m ((c.tc : Thread nD τ).loc main_arg5)) = Spec2.outG (m ((c.tc : Thread nD τ).loc main_arg1)) (m ((c.tc : Thread nD τ).loc main_arg0)) (m ((c.tc : Thread nD τ).loc main_arg3)) (m ((c.tc : Thread nD τ).loc main_arg4)) 2048 3072 (by decide) (m ((c.tc : Thread nD τ).loc main_arg5)) := by
  funext y
  obtain ⟨s, r, o, rfl⟩ := ix3_surj y
  rw [hG_apply, h_row]
  rfl

theorem pF : res_main_v38 m c = Spec2.outF (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg6)) (m ((c.tc : Thread nD τ).loc main_arg7)) := by
  rw [res38]
  funext y
  obtain ⟨s, r, o, rfl⟩ := ix3_surj y
  rw [lsOf_apply, preF_apply, h_row]
  rfl

theorem mix0_row (s : Fin 16) (r : Fin 2064) :
    (fun j => mix0 (hOf m c) (shiftDiff (hOf m c) (m ((c.tc : Thread nD τ).loc main_arg2))) (m ((c.tc : Thread nD τ).loc main_arg8)) (ix3 s r j)) = Spec2.mixed (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg2)) (m ((c.tc : Thread nD τ).loc main_arg8)) 0 s r := funext fun j => by
  have e : ∀ q : Fin 2064, hOf m c (ix3 s q j) = Spec2.hOf (m ((c.tc : Thread nD τ).loc main_arg1)) (m ((c.tc : Thread nD τ).loc main_arg0)) (m ((c.tc : Thread nD τ).loc main_arg3)) (m ((c.tc : Thread nD τ).loc main_arg4)) s q j := fun q => congrFun (h_row m c s q) j
  rw [mix0_apply, shiftDiff_apply, e, e]
  rfl

theorem mix1_row (s : Fin 16) (r : Fin 2064) :
    (fun j => mix1 (hOf m c) (shiftDiff (hOf m c) (m ((c.tc : Thread nD τ).loc main_arg2))) (m ((c.tc : Thread nD τ).loc main_arg8)) (ix3 s r j)) = Spec2.mixed (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg2)) (m ((c.tc : Thread nD τ).loc main_arg8)) 1 s r := funext fun j => by
  have e : ∀ q : Fin 2064, hOf m c (ix3 s q j) = Spec2.hOf (m ((c.tc : Thread nD τ).loc main_arg1)) (m ((c.tc : Thread nD τ).loc main_arg0)) (m ((c.tc : Thread nD τ).loc main_arg3)) (m ((c.tc : Thread nD τ).loc main_arg4)) s q j := fun q => congrFun (h_row m c s q) j
  rw [mix1_apply, shiftDiff_apply, e, e]
  rfl

theorem mix2_row (s : Fin 16) (r : Fin 2064) :
    (fun j => mix2 (hOf m c) (shiftDiff (hOf m c) (m ((c.tc : Thread nD τ).loc main_arg2))) (m ((c.tc : Thread nD τ).loc main_arg8)) (ix3 s r j)) = Spec2.mixed (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg2)) (m ((c.tc : Thread nD τ).loc main_arg8)) 2 s r := funext fun j => by
  have e : ∀ q : Fin 2064, hOf m c (ix3 s q j) = Spec2.hOf (m ((c.tc : Thread nD τ).loc main_arg1)) (m ((c.tc : Thread nD τ).loc main_arg0)) (m ((c.tc : Thread nD τ).loc main_arg3)) (m ((c.tc : Thread nD τ).loc main_arg4)) s q j := fun q => congrFun (h_row m c s q) j
  rw [mix2_apply, shiftDiff_apply, e, e]
  rfl

theorem pL : res_main_v66 m c = Spec2.outL (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) := by
  rw [res66]
  funext y
  obtain ⟨s, r, o, rfl⟩ := ix3_surj y
  rw [beside_apply]
  simp only [dot64_apply, dot128_apply, mix0_row, mix1_row, mix2_row]
  rfl

theorem pR0 : prevDot (m ((c.tc : Thread nD τ).loc main_arg2)) (m ((c.tc : Thread nD τ).loc main_arg5)) = Spec2.outR (m ((c.tc : Thread nD τ).loc main_arg2)) (m ((c.tc : Thread nD τ).loc main_arg5)) := by
  funext y
  obtain ⟨s, z, o, rfl⟩ : ∃ (s : Fin 16) (z : Fin 1) (o : Fin 1536), y = ix3 s z o :=
    ⟨y 0, y 1, y 2, by funext d; match d with | ⟨0, _⟩ => rfl | ⟨1, _⟩ => rfl | ⟨2, _⟩ => rfl⟩
  rw [prevDot_apply]
  rfl

set_option maxHeartbeats 4000000 in
/-- What the reference leaves: the projection of its arguments. -/
theorem run_values (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v25) = (Spec2.outH (m ((c.tc : Thread nD τ).loc main_arg1)) (m ((c.tc : Thread nD τ).loc main_arg0)) (m ((c.tc : Thread nD τ).loc main_arg3)) (m ((c.tc : Thread nD τ).loc main_arg4)) : S16x2064x1024.Idx → EReal)
      ∧ r.2.mem ((c.tc : Thread nD τ).loc main_v70) = (Spec2.outP (m ((c.tc : Thread nD τ).loc main_arg1)) (m ((c.tc : Thread nD τ).loc main_arg0)) (m ((c.tc : Thread nD τ).loc main_arg3)) (m ((c.tc : Thread nD τ).loc main_arg4)) 512 0 (by decide) (m ((c.tc : Thread nD τ).loc main_arg5)) : S16x2064x512.Idx → EReal)
      ∧ r.2.mem ((c.tc : Thread nD τ).loc main_v29) = (Spec2.outP (m ((c.tc : Thread nD τ).loc main_arg1)) (m ((c.tc : Thread nD τ).loc main_arg0)) (m ((c.tc : Thread nD τ).loc main_arg3)) (m ((c.tc : Thread nD τ).loc main_arg4)) 512 512 (by decide) (m ((c.tc : Thread nD τ).loc main_arg5)) : S16x2064x512.Idx → EReal)
      ∧ r.2.mem ((c.tc : Thread nD τ).loc main_v30) = (Spec2.outP (m ((c.tc : Thread nD τ).loc main_arg1)) (m ((c.tc : Thread nD τ).loc main_arg0)) (m ((c.tc : Thread nD τ).loc main_arg3)) (m ((c.tc : Thread nD τ).loc main_arg4)) 512 1024 (by decide) (m ((c.tc : Thread nD τ).loc main_arg5)) : S16x2064x512.Idx → EReal)
      ∧ r.2.mem ((c.tc : Thread nD τ).loc main_v71) = (Spec2.outP (m ((c.tc : Thread nD τ).loc main_arg1)) (m ((c.tc : Thread nD τ).loc main_arg0)) (m ((c.tc : Thread nD τ).loc main_arg3)) (m ((c.tc : Thread nD τ).loc main_arg4)) 1536 1536 (by decide) (m ((c.tc : Thread nD τ).loc main_arg5)) : S16x2064x1536.Idx → EReal)
      ∧ r.2.mem ((c.tc : Thread nD τ).loc main_v78) = (Spec2.outG (m ((c.tc : Thread nD τ).loc main_arg1)) (m ((c.tc : Thread nD τ).loc main_arg0)) (m ((c.tc : Thread nD τ).loc main_arg3)) (m ((c.tc : Thread nD τ).loc main_arg4)) 2048 3072 (by decide) (m ((c.tc : Thread nD τ).loc main_arg5)) : S16x2064x2048.Idx → EReal)
      ∧ r.2.mem ((c.tc : Thread nD τ).loc main_v66) = (Spec2.outL (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) : S16x2064x256.Idx → EReal)
      ∧ r.2.mem ((c.tc : Thread nD τ).loc main_v38) = (Spec2.outF (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg6)) (m ((c.tc : Thread nD τ).loc main_arg7)) : S16x2064x128.Idx → EReal)
      ∧ r.2.mem ((c.tc : Thread nD τ).loc main_v69) = (Spec2.outR (m ((c.tc : Thread nD τ).loc main_arg2)) (m ((c.tc : Thread nD τ).loc main_arg5)) : S16x1x1536.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨h25, h39, h29, h30, h40, h47, h66, h38, h69, hrest⟩ := h c
    exact ⟨⟨h25.trans (eH m c), h39.trans (pQ m c), h29.trans (pK m c), h30.trans (pV m c), h40.trans (pR m c), h47.trans (pG m c), h66.trans (pL m c), h38.trans (pF m c), h69.trans (pR0 m c)⟩, hrest⟩)
    (run m ρ)

end Cert.Reference2Ideal.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal.Launch
public import proofs.«01_k».proof.Proof.Gen.Kernel2Ideal.Skeleton
public import proofs.«01_k».proof.Proof.Gen.Kernel2Ideal
public import proofs.«01_k».proof.Proof.Gen.Reference2Ideal
public import proofs.«01_k».proof.Proof.Gen.Reference2Ideal.Run
public import proofs.«01_k».proof.Proof.MoeBits.Start
public import proofs.«01_k».proof.Proof.MoeIdeal.Start
public import proofs.«01_k».proof.Proof.MoeIdeal.Out
public import proofs.«01_k».proof.Proof.Ref.Out
public import proofs.«01_k».proof.Proof.InprojBits.Frame
public import proofs.«01_k».proof.Proof.InprojIdeal.Frame
public import proofs.«01_k».proof.Proof.InprojIdeal.Shift
public import proofs.«01_k».proof.Proof.Ref2.Out
public import Idealize.ShloMosaic.Lib.Quiescent

@[expose] public section

/-! The claim: the frames, and the equality of each kernel's results and its reference's: the layer of `Cert.Spec`, and the
    projection of `Cert.Spec2`. -/

noncomputable section

namespace Cert.Proof

open Idealize.ShloMosaic
open Idealize.ShloMosaic.TcCoe
open Idealize.SL Idealize.SL.Sem

theorem quiescent_kernel : Cert.quiescent_Kernel := fun m g h => Cert.Kernel.Moe.quiescent m h g

theorem quiescent_kernel_ideal : Cert.quiescent_KernelIdeal := fun m g h => Cert.KernelIdeal.Moe.quiescent m h g

theorem quiescent_reference_ideal : Cert.quiescent_ReferenceIdeal := fun m g _ =>
  (θ_run _ _ _).mono (fun r h => ⟨fun c => (h c).2, sem_eq_zero_of_no_sems rfl r.2⟩) (Cert.ReferenceIdeal.Value.run m g)

/-- The kernel's half: its result is the layer of its arguments. -/
theorem kernel_half (m : (ℓ : Loc Cert.KernelIdeal.nD Cert.KernelIdeal.τ Cert.KernelIdeal.sig) → Buf (Elt Ideal) ℓ) (g : Dev Cert.KernelIdeal.nD → PrngReg) (h : Cert.Pre_KernelIdeal m) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD, r.2.mem ((c.tc : Thread Cert.KernelIdeal.nD Cert.KernelIdeal.τ).loc Cert.KernelIdeal.main_v0) = Cert.KernelIdeal.Moe.outOf m c)
        ∧ Cert.KernelIdeal.Moe.Same m r.2) :=
  (θ_run _ _ _).mono (fun r hq =>
    ⟨fun c => ((hq.1 c).1 (6 : Fin 7)).trans (Cert.KernelIdeal.Moe.arr_out (Cert.KernelIdeal.Moe.admOf m h) m c (Cert.KernelIdeal.Moe.admOf_tables m h c)),
      Cert.KernelIdeal.Moe.same_of_QC (Cert.KernelIdeal.Moe.admOf m h) m (Cert.KernelIdeal.Moe.admOf_tables m h) r hq.1⟩)
    (Cert.KernelIdeal.Moe.run_main_quiescent (Cert.KernelIdeal.Moe.admOf m h) m g (Cert.KernelIdeal.Moe.admOf_tables m h))

theorem algebraic : Cert.algebraic_KernelIdeal_ReferenceIdeal := fun m g m' g' hpre hargs => by
  refine ⟨fun c => Cert.KernelIdeal.Moe.outOf m c, (θ_run _ _ _).mono (fun r h c => ⟨h.1 c, h.2 c⟩) (kernel_half m g hpre),
    (θ_run _ _ _).mono (fun r h c => ⟨(h c).1.trans ?_, (h c).2⟩) (Cert.ReferenceIdeal.Value.run m' g')⟩
  obtain ⟨h0, h1, h2, h3, h4, h5, h6, h7⟩ := hargs c
  have hE : ∀ n : Fin 291, ((m' ((c.tc : Thread Cert.ReferenceIdeal.nD Cert.ReferenceIdeal.τ).loc Cert.ReferenceIdeal.main_arg0) : Cert.ReferenceIdeal.S291.Idx → BitVec 32) (ix1 n)).toNat < 32 := fun n => by
    rw [h0]; exact Cert.Pre_in_range.range_of_pre _ _ _ _ _ _ _ _ (hpre c) _
  refine (Cert.ReferenceIdeal.Moe.ref_out m' c hE).trans ?_
  rw [h0, h1, h2, h3, h4, h5, h6, h7]
  rfl

theorem quiescent_kernel2 : Cert.quiescent_Kernel2 := fun m g _ => Cert.Kernel2.Inproj.frame_at m g

theorem quiescent_kernel2_ideal : Cert.quiescent_Kernel2Ideal := fun m g _ => Cert.Kernel2Ideal.Inproj.frame_at m g

theorem quiescent_reference2_ideal : Cert.quiescent_Reference2Ideal := fun m g _ =>
  (θ_run _ _ _).mono (fun r h => ⟨fun c => (h c).2, sem_eq_zero_of_no_sems rfl r.2⟩) (Cert.Reference2Ideal.Value.run_values m g)

theorem algebraic2 : Cert.algebraic_Kernel2Ideal_Reference2Ideal := fun m g m' g' _ hargs => by
  refine ⟨fun c => Spec2.outH (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Spec2.outP (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) 512 0 (by decide) (m ((c.tc : Thread Cert.Kernel2Ideal.nD Cert.Kernel2Ideal.τ).loc Cert.Kernel2Ideal.main_arg5)),
    fun c => Spec2.outP (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) 512 512 (by decide) (m ((c.tc : Thread Cert.Kernel2Ideal.nD Cert.Kernel2Ideal.τ).loc Cert.Kernel2Ideal.main_arg5)),
    fun c => Spec2.outP (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) 512 1024 (by decide) (m ((c.tc : Thread Cert.Kernel2Ideal.nD Cert.Kernel2Ideal.τ).loc Cert.Kernel2Ideal.main_arg5)),
    fun c => Spec2.outP (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) 1536 1536 (by decide) (m ((c.tc : Thread Cert.Kernel2Ideal.nD Cert.Kernel2Ideal.τ).loc Cert.Kernel2Ideal.main_arg5)),
    fun c => Spec2.outG (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) 2048 3072 (by decide) (m ((c.tc : Thread Cert.Kernel2Ideal.nD Cert.Kernel2Ideal.τ).loc Cert.Kernel2Ideal.main_arg5)),
    fun c => Spec2.outL (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)),
    fun c => Spec2.outF (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)),
    fun c => Spec2.outR (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg5)),
    (θ_run _ _ _).mono (fun r h c => ?_) (Cert.Kernel2Ideal.Inproj.run_values m g),
    (θ_run _ _ _).mono (fun r h c => ?_) (Cert.Reference2Ideal.Value.run_values m' g')⟩
  · obtain ⟨r0, r1, r2, r3, r4, r5, r6, r7, r8⟩ := h.1 c
    exact ⟨r0, r1, r2, r3, r4, r5, r6, r7, r8, h.2 c⟩
  · obtain ⟨⟨r0, r1, r2, r3, r4, r5, r6, r7, r8⟩, hs⟩ := h c
    obtain ⟨h0, h1, h2, h3, h4, h5, h6, h7, h8, h9, h10, h11⟩ := hargs c
    rw [h0, h1, h3, h4] at r0 r1 r2 r3 r4 r5 r6 r7
    rw [h5] at r1 r2 r3 r4 r5 r8
    rw [h2] at r6 r8
    rw [h8, h9, h10, h11] at r6
    rw [h6, h7] at r7
    exact ⟨r0, r1, r2, r3, r4, r5, r6, r7, r8, hs⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Pre_in_range.Gen.facts, quiescent_kernel, quiescent_kernel_ideal, quiescent_reference_ideal, quiescent_kernel2, quiescent_kernel2_ideal, quiescent_reference2_ideal,
    trivial, algebraic, trivial, algebraic2⟩

end Cert.Proof
